-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x2048 : Shape := ⟨3, ![2, 512, 2048]⟩
abbrev S2x512 : Shape := ⟨2, ![2, 512]⟩
abbrev S32000x1024 : Shape := ⟨2, ![32000, 1024]⟩
abbrev S32000x64 : Shape := ⟨2, ![32000, 64]⟩
abbrev S1024x2048 : Shape := ⟨2, ![1024, 2048]⟩
abbrev S1024x1 : Shape := ⟨2, ![1024, 1]⟩
abbrev S256x256 : Shape := ⟨2, ![256, 256]⟩
abbrev S1024x256 : Shape := ⟨2, ![1024, 256]⟩
abbrev S1024x32000 : Shape := ⟨2, ![1024, 32000]⟩
abbrev S1280x1024 : Shape := ⟨2, ![1280, 1024]⟩
abbrev S1280x64 : Shape := ⟨2, ![1280, 64]⟩
abbrev S1024x1280 : Shape := ⟨2, ![1024, 1280]⟩
abbrev S1280x2048 : Shape := ⟨2, ![1280, 2048]⟩
abbrev S1024x128 : Shape := ⟨2, ![1024, 128]⟩
abbrev S1280x128 : Shape := ⟨2, ![1280, 128]⟩
abbrev S640x128 : Shape := ⟨2, ![640, 128]⟩
abbrev S640x128x1 : Shape := ⟨3, ![640, 128, 1]⟩
abbrev S320x128 : Shape := ⟨2, ![320, 128]⟩
abbrev S128x128 : Shape := ⟨2, ![128, 128]⟩
abbrev S1024 : Shape := ⟨1, ![1024]⟩
abbrev S128x1 : Shape := ⟨2, ![128, 1]⟩
abbrev S2x512x32000 : Shape := ⟨3, ![2, 512, 32000]⟩

abbrev nBuf : Space → Nat
  | .hbm => 14
  | .vmem => 21
  | .smem => 0
  | _ => 0

abbrev bufTy : (tb : Table) → Fin (tcTables nBuf tb) → BufTy
  | .hbm, ⟨0, _⟩ => ⟨S2x512x2048, .fp8e4m3⟩
  | .hbm, ⟨1, _⟩ => ⟨S2x512, .f32⟩
  | .hbm, ⟨2, _⟩ => ⟨S32000x1024, .i8⟩
  | .hbm, ⟨3, _⟩ => ⟨S32000x64, .i8⟩
  | .hbm, ⟨4, _⟩ => ⟨S1024x2048, .fp8e4m3⟩
  | .hbm, ⟨5, _⟩ => ⟨S1024x1, .f32⟩
  | .hbm, ⟨6, _⟩ => ⟨S1024x2048, .bf16⟩
  | .hbm, ⟨7, _⟩ => ⟨S1024x32000, .f32⟩
  | .hbm, ⟨8, _⟩ => ⟨S1024x1, .f32⟩
  | .hbm, ⟨9, _⟩ => ⟨S1024x32000, .fp8e5m2⟩
  | .hbm, ⟨10, _⟩ => ⟨S1024x1, .f32⟩
  | .hbm, ⟨11, _⟩ => ⟨S2x512x32000, .fp8e5m2⟩
  | .hbm, ⟨12, _⟩ => ⟨S2x512, .f32⟩
  | .hbm, ⟨13, _⟩ => ⟨S2x512, .f32⟩
  | .local _ .vmem, ⟨0, _⟩ => ⟨S1024x2048, .fp8e4m3⟩
  | .local _ .vmem, ⟨1, _⟩ => ⟨S1024x2048, .bf16⟩
  | .local _ .vmem, ⟨2, _⟩ => ⟨S1024x2048, .bf16⟩
  | .local _ .vmem, ⟨3, _⟩ => ⟨S1024x1, .f32⟩
  | .local _ .vmem, ⟨4, _⟩ => ⟨S1280x1024, .i8⟩
  | .local _ .vmem, ⟨5, _⟩ => ⟨S1280x1024, .i8⟩
  | .local _ .vmem, ⟨6, _⟩ => ⟨S1280x64, .i8⟩
  | .local _ .vmem, ⟨7, _⟩ => ⟨S1280x64, .i8⟩
  | .local _ .vmem, ⟨8, _⟩ => ⟨S1024x1280, .f32⟩
  | .local _ .vmem, ⟨9, _⟩ => ⟨S1024x1280, .f32⟩
  | .local _ .vmem, ⟨10, _⟩ => ⟨S1024x1, .f32⟩
  | .local _ .vmem, ⟨11, _⟩ => ⟨S1280x2048, .bf16⟩
  | .local _ .vmem, ⟨12, _⟩ => ⟨S1024x128, .f32⟩
  | .local _ .vmem, ⟨13, _⟩ => ⟨S1024x128, .f32⟩
  | .local _ .vmem, ⟨14, _⟩ => ⟨S1024x1280, .f32⟩
  | .local _ .vmem, ⟨15, _⟩ => ⟨S1024x1280, .f32⟩
  | .local _ .vmem, ⟨16, _⟩ => ⟨S1024x1, .f32⟩
  | .local _ .vmem, ⟨17, _⟩ => ⟨S1024x1280, .fp8e5m2⟩
  | .local _ .vmem, ⟨18, _⟩ => ⟨S1024x1280, .fp8e5m2⟩
  | .local _ .vmem, ⟨19, _⟩ => ⟨S1024x1, .f32⟩
  | .local _ .vmem, ⟨20, _⟩ => ⟨S1024x128, .f32⟩
  | _, _ => ⟨S2x512x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg1_0 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_scratch0 : Ref sig .tc := ⟨.vmem, 11, rfl⟩
abbrev cc1_scratch1 : Ref sig .tc := ⟨.vmem, 12, rfl⟩
abbrev cc1_scratch2 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_scratch0 : Ref sig .tc := ⟨.vmem, 20, rfl⟩
abbrev cc0_sem0_0 : DmaSem sig := 0
abbrev cc0_sem1_0 : DmaSem sig := 1
abbrev cc1_sem0_0 : DmaSem sig := 2
abbrev cc1_sem1_0 : DmaSem sig := 3
abbrev cc1_sem2_0 : DmaSem sig := 4
abbrev cc1_sem2_1 : DmaSem sig := 5
abbrev cc1_sem3_0 : DmaSem sig := 6
abbrev cc1_sem3_1 : DmaSem sig := 7
abbrev cc1_sem4_0 : DmaSem sig := 8
abbrev cc1_sem4_1 : DmaSem sig := 9
abbrev cc1_sem5_0 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16

abbrev nD : Nat := 1
abbrev τ : Topo := Topo.v7x

variable {F : FTy → Type} [FloatOps F]

abbrev grid0 : Pipeline.Grid := .none

abbrev stage0_0 : Fin 1 → Memref sig .tc .vmem S1024x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![25], ![false]⟩

@[reducible] def k1_t1_loop : Scf.Loop 32 :=
  let c0_i32_119 : BitVec 32 := 0#32
  let c8_i32_120 : BitVec 32 := 8#32
  let v364 : BitVec 32 := Scalar.addi c0_i32_119 c8_i32_120
  let c1_i32 : BitVec 32 := 1#32
  ⟨c0_i32_119, v364, c1_i32⟩
def k1_off1 (k1_t1 : Fin k1_t1_loop.trips) : Fin 2 → Nat :=
  let c0_i32_119 : BitVec 32 := 0#32
  let c1_i32 : BitVec 32 := 1#32
  let arg10 : BitVec 32 := Scf.iv c0_i32_119 c1_i32 k1_t1
  let c128_i32_124 : BitVec 32 := 128#32
  let v368 : BitVec 32 := Scalar.muli arg10 c128_i32_124
  let v369 : Index := Scalar.indexCast v368
  let c0_125 : Index := 0#32
  ![v369.toNat, 0]
def k1_off2 (k1_t1 : Fin k1_t1_loop.trips) : Fin 2 → Nat :=
  let c0_i32_119 : BitVec 32 := 0#32
  let c1_i32 : BitVec 32 := 1#32
  let arg10 : BitVec 32 := Scf.iv c0_i32_119 c1_i32 k1_t1
  let c128_i32_124 : BitVec 32 := 128#32
  let v368 : BitVec 32 := Scalar.muli arg10 c128_i32_124
  let v371 : Index := Scalar.indexCast v368
  let c0_126 : Index := 0#32
  ![v371.toNat, 0]
def k1_off3 (k1_t1 : Fin k1_t1_loop.trips) : Fin 2 → Nat :=
  let c0_i32_119 : BitVec 32 := 0#32
  let c1_i32 : BitVec 32 := 1#32
  let arg10 : BitVec 32 := Scf.iv c0_i32_119 c1_i32 k1_t1
  let c128_i32_124 : BitVec 32 := 128#32
  let v368 : BitVec 32 := Scalar.muli arg10 c128_i32_124
  let v375 : Index := Scalar.indexCast v368
  let c128_127 : Index := 128#32
  ![v375.toNat, 128]
def k1_off4 (k1_t1 : Fin k1_t1_loop.trips) : Fin 2 → Nat :=
  let c0_i32_119 : BitVec 32 := 0#32
  let c1_i32 : BitVec 32 := 1#32
  let arg10 : BitVec 32 := Scf.iv c0_i32_119 c1_i32 k1_t1
  let c128_i32_124 : BitVec 32 := 128#32
  let v368 : BitVec 32 := Scalar.muli arg10 c128_i32_124
  let v379 : Index := Scalar.indexCast v368
  let c256_128 : Index := 256#32
  ![v379.toNat, 256]
def k1_off5 (k1_t1 : Fin k1_t1_loop.trips) : Fin 2 → Nat :=
  let c0_i32_119 : BitVec 32 := 0#32
  let c1_i32 : BitVec 32 := 1#32
  let arg10 : BitVec 32 := Scf.iv c0_i32_119 c1_i32 k1_t1
  let c128_i32_124 : BitVec 32 := 128#32
  let v368 : BitVec 32 := Scalar.muli arg10 c128_i32_124
  let v383 : Index := Scalar.indexCast v368
  let c384_129 : Index := 384#32
  ![v383.toNat, 384]
def k1_off6 (k1_t1 : Fin k1_t1_loop.trips) : Fin 2 → Nat :=
  let c0_i32_119 : BitVec 32 := 0#32
  let c1_i32 : BitVec 32 := 1#32
  let arg10 : BitVec 32 := Scf.iv c0_i32_119 c1_i32 k1_t1
  let c128_i32_124 : BitVec 32 := 128#32
  let v368 : BitVec 32 := Scalar.muli arg10 c128_i32_124
  let v387 : Index := Scalar.indexCast v368
  let c512_130 : Index := 512#32
  ![v387.toNat, 512]
def k1_off7 (k1_t1 : Fin k1_t1_loop.trips) : Fin 2 → Nat :=
  let c0_i32_119 : BitVec 32 := 0#32
  let c1_i32 : BitVec 32 := 1#32
  let arg10 : BitVec 32 := Scf.iv c0_i32_119 c1_i32 k1_t1
  let c128_i32_124 : BitVec 32 := 128#32
  let v368 : BitVec 32 := Scalar.muli arg10 c128_i32_124
  let v391 : Index := Scalar.indexCast v368
  let c640_131 : Index := 640#32
  ![v391.toNat, 640]
def k1_off8 (k1_t1 : Fin k1_t1_loop.trips) : Fin 2 → Nat :=
  let c0_i32_119 : BitVec 32 := 0#32
  let c1_i32 : BitVec 32 := 1#32
  let arg10 : BitVec 32 := Scf.iv c0_i32_119 c1_i32 k1_t1
  let c128_i32_124 : BitVec 32 := 128#32
  let v368 : BitVec 32 := Scalar.muli arg10 c128_i32_124
  let v395 : Index := Scalar.indexCast v368
  let c768_132 : Index := 768#32
  ![v395.toNat, 768]
def k1_off9 (k1_t1 : Fin k1_t1_loop.trips) : Fin 2 → Nat :=
  let c0_i32_119 : BitVec 32 := 0#32
  let c1_i32 : BitVec 32 := 1#32
  let arg10 : BitVec 32 := Scf.iv c0_i32_119 c1_i32 k1_t1
  let c128_i32_124 : BitVec 32 := 128#32
  let v368 : BitVec 32 := Scalar.muli arg10 c128_i32_124
  let v399 : Index := Scalar.indexCast v368
  let c896_133 : Index := 896#32
  ![v399.toNat, 896]
def k1_off10 (k1_t1 : Fin k1_t1_loop.trips) : Fin 2 → Nat :=
  let c0_i32_119 : BitVec 32 := 0#32
  let c1_i32 : BitVec 32 := 1#32
  let arg10 : BitVec 32 := Scf.iv c0_i32_119 c1_i32 k1_t1
  let c128_i32_124 : BitVec 32 := 128#32
  let v368 : BitVec 32 := Scalar.muli arg10 c128_i32_124
  let v403 : Index := Scalar.indexCast v368
  let c1024_134 : Index := 1024#32
  ![v403.toNat, 1024]
def k1_off11 (k1_t1 : Fin k1_t1_loop.trips) : Fin 2 → Nat :=
  let c0_i32_119 : BitVec 32 := 0#32
  let c1_i32 : BitVec 32 := 1#32
  let arg10 : BitVec 32 := Scf.iv c0_i32_119 c1_i32 k1_t1
  let c128_i32_124 : BitVec 32 := 128#32
  let v368 : BitVec 32 := Scalar.muli arg10 c128_i32_124
  let v407 : Index := Scalar.indexCast v368
  let c1152_135 : Index := 1152#32
  ![v407.toNat, 1152]
def k1_cond2 (i : grid1.Coords) : BitVec 1 :=
  let arg0 : BitVec 32 := BitVec.ofNat 32 (i 0).val
  let c24_i32_122 : BitVec 32 := 24#32
  let v365 : BitVec 1 := Scalar.cmpi .eq arg0 c24_i32_122
  let v366 : BitVec 32 := Scalar.extui v365
  let c0_i32_123 : BitVec 32 := 0#32
  let v367 : BitVec 1 := Scalar.cmpi .ne v366 c0_i32_123
  v367

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1024x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1280x1024 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1280x64 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x1280 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![25], ![false]⟩

@[reducible] def k2_t1_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k2_off1 (k2_t1 : Fin k2_t1_loop.trips) : Fin 2 → Nat :=
  let c0_i32_1 : BitVec 32 := 0#32
  let c1_i32 : BitVec 32 := 1#32
  let arg6 : BitVec 32 := Scf.iv c0_i32_1 c1_i32 k2_t1
  let c128_i32 : BitVec 32 := 128#32
  let v7 : BitVec 32 := Scalar.muli arg6 c128_i32
  let v8 : Index := Scalar.indexCast v7
  let c0 : Index := 0#32
  ![v8.toNat, 0]
def k2_off2 (k2_t1 : Fin k2_t1_loop.trips) : Fin 2 → Nat :=
  let c0_i32_1 : BitVec 32 := 0#32
  let c1_i32 : BitVec 32 := 1#32
  let arg6 : BitVec 32 := Scf.iv c0_i32_1 c1_i32 k2_t1
  let c128_i32 : BitVec 32 := 128#32
  let v7 : BitVec 32 := Scalar.muli arg6 c128_i32
  let v13 : Index := Scalar.indexCast v7
  let c0_4 : Index := 0#32
  ![v13.toNat, 0]
def k2_off3 (k2_t1 : Fin k2_t1_loop.trips) : Fin 2 → Nat :=
  let c0_i32_1 : BitVec 32 := 0#32
  let c1_i32 : BitVec 32 := 1#32
  let arg6 : BitVec 32 := Scf.iv c0_i32_1 c1_i32 k2_t1
  let c128_i32 : BitVec 32 := 128#32
  let v7 : BitVec 32 := Scalar.muli arg6 c128_i32
  let v15 : Index := Scalar.indexCast v7
  let c0_5 : Index := 0#32
  ![v15.toNat, 0]
def k2_off4 (k2_t1 : Fin k2_t1_loop.trips) : Fin 2 → Nat :=
  let c0_i32_1 : BitVec 32 := 0#32
  let c1_i32 : BitVec 32 := 1#32
  let arg6 : BitVec 32 := Scf.iv c0_i32_1 c1_i32 k2_t1
  let c128_i32 : BitVec 32 := 128#32
  let v7 : BitVec 32 := Scalar.muli arg6 c128_i32
  let v30 : Index := Scalar.indexCast v7
  let c128 : Index := 128#32
  ![v30.toNat, 128]
def k2_off5 (k2_t1 : Fin k2_t1_loop.trips) : Fin 2 → Nat :=
  let c0_i32_1 : BitVec 32 := 0#32
  let c1_i32 : BitVec 32 := 1#32
  let arg6 : BitVec 32 := Scf.iv c0_i32_1 c1_i32 k2_t1
  let c128_i32 : BitVec 32 := 128#32
  let v7 : BitVec 32 := Scalar.muli arg6 c128_i32
  let v45 : Index := Scalar.indexCast v7
  let c256 : Index := 256#32
  ![v45.toNat, 256]
def k2_off6 (k2_t1 : Fin k2_t1_loop.trips) : Fin 2 → Nat :=
  let c0_i32_1 : BitVec 32 := 0#32
  let c1_i32 : BitVec 32 := 1#32
  let arg6 : BitVec 32 := Scf.iv c0_i32_1 c1_i32 k2_t1
  let c128_i32 : BitVec 32 := 128#32
  let v7 : BitVec 32 := Scalar.muli arg6 c128_i32
  let v60 : Index := Scalar.indexCast v7
  let c384 : Index := 384#32
  ![v60.toNat, 384]
def k2_off7 (k2_t1 : Fin k2_t1_loop.trips) : Fin 2 → Nat :=
  let c0_i32_1 : BitVec 32 := 0#32
  let c1_i32 : BitVec 32 := 1#32
  let arg6 : BitVec 32 := Scf.iv c0_i32_1 c1_i32 k2_t1
  let c128_i32 : BitVec 32 := 128#32
  let v7 : BitVec 32 := Scalar.muli arg6 c128_i32
  let v75 : Index := Scalar.indexCast v7
  let c512 : Index := 512#32
  ![v75.toNat, 512]
def k2_off8 (k2_t1 : Fin k2_t1_loop.trips) : Fin 2 → Nat :=
  let c0_i32_1 : BitVec 32 := 0#32
  let c1_i32 : BitVec 32 := 1#32
  let arg6 : BitVec 32 := Scf.iv c0_i32_1 c1_i32 k2_t1
  let c128_i32 : BitVec 32 := 128#32
  let v7 : BitVec 32 := Scalar.muli arg6 c128_i32
  let v90 : Index := Scalar.indexCast v7
  let c640 : Index := 640#32
  ![v90.toNat, 640]
def k2_off9 (k2_t1 : Fin k2_t1_loop.trips) : Fin 2 → Nat :=
  let c0_i32_1 : BitVec 32 := 0#32
  let c1_i32 : BitVec 32 := 1#32
  let arg6 : BitVec 32 := Scf.iv c0_i32_1 c1_i32 k2_t1
  let c128_i32 : BitVec 32 := 128#32
  let v7 : BitVec 32 := Scalar.muli arg6 c128_i32
  let v105 : Index := Scalar.indexCast v7
  let c768 : Index := 768#32
  ![v105.toNat, 768]
def k2_off10 (k2_t1 : Fin k2_t1_loop.trips) : Fin 2 → Nat :=
  let c0_i32_1 : BitVec 32 := 0#32
  let c1_i32 : BitVec 32 := 1#32
  let arg6 : BitVec 32 := Scf.iv c0_i32_1 c1_i32 k2_t1
  let c128_i32 : BitVec 32 := 128#32
  let v7 : BitVec 32 := Scalar.muli arg6 c128_i32
  let v120 : Index := Scalar.indexCast v7
  let c896 : Index := 896#32
  ![v120.toNat, 896]
def k2_off11 (k2_t1 : Fin k2_t1_loop.trips) : Fin 2 → Nat :=
  let c0_i32_1 : BitVec 32 := 0#32
  let c1_i32 : BitVec 32 := 1#32
  let arg6 : BitVec 32 := Scf.iv c0_i32_1 c1_i32 k2_t1
  let c128_i32 : BitVec 32 := 128#32
  let v7 : BitVec 32 := Scalar.muli arg6 c128_i32
  let v135 : Index := Scalar.indexCast v7
  let c1024 : Index := 1024#32
  ![v135.toNat, 1024]
def k2_off12 (k2_t1 : Fin k2_t1_loop.trips) : Fin 2 → Nat :=
  let c0_i32_1 : BitVec 32 := 0#32
  let c1_i32 : BitVec 32 := 1#32
  let arg6 : BitVec 32 := Scf.iv c0_i32_1 c1_i32 k2_t1
  let c128_i32 : BitVec 32 := 128#32
  let v7 : BitVec 32 := Scalar.muli arg6 c128_i32
  let v150 : Index := Scalar.indexCast v7
  let c1152 : Index := 1152#32
  ![v150.toNat, 1152]
def k2_cond2 (i : grid2.Coords) : BitVec 1 :=
  let arg0 : BitVec 32 := BitVec.ofNat 32 (i 0).val
  let c24_i32 : BitVec 32 := 24#32
  let v4 : BitVec 1 := Scalar.cmpi .eq arg0 c24_i32
  let v5 : BitVec 32 := Scalar.extui v4
  let c0_i32_3 : BitVec 32 := 0#32
  let v6 : BitVec 1 := Scalar.cmpi .ne v5 c0_i32_3
  v6

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x1280 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1280 .fp8e5m2 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1024x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]
-- ==== ReferenceIdeal.lean ====
abbrev S2x512x2048 : Shape := ⟨3, ![2, 512, 2048]⟩
abbrev S2x512 : Shape := ⟨2, ![2, 512]⟩
abbrev S32000x1024 : Shape := ⟨2, ![32000, 1024]⟩
abbrev S32000x64 : Shape := ⟨2, ![32000, 64]⟩
abbrev S2x512x32000 : Shape := ⟨3, ![2, 512, 32000]⟩
abbrev S32000x64x16 : Shape := ⟨3, ![32000, 64, 16]⟩
abbrev S32000x64x1 : Shape := ⟨3, ![32000, 64, 1]⟩
abbrev S2x512x1024x2 : Shape := ⟨4, ![2, 512, 1024, 2]⟩
abbrev S2x512x1024x1 : Shape := ⟨4, ![2, 512, 1024, 1]⟩
abbrev S2x512x1024 : Shape := ⟨3, ![2, 512, 1024]⟩
abbrev S2x512x1 : Shape := ⟨3, ![2, 512, 1]⟩

abbrev nBuf : Space → Nat
  | .hbm => 7
  | .vmem => 7
  | .smem => 0
  | _ => 0

abbrev bufTy : (tb : Table) → Fin (tcTables nBuf tb) → BufTy
  | .hbm, ⟨0, _⟩ => ⟨S2x512x2048, .fp8e4m3⟩
  | .hbm, ⟨1, _⟩ => ⟨S2x512, .f32⟩
  | .hbm, ⟨2, _⟩ => ⟨S32000x1024, .i8⟩
  | .hbm, ⟨3, _⟩ => ⟨S32000x64, .i8⟩
  | .hbm, ⟨4, _⟩ => ⟨S2x512x32000, .fp8e5m2⟩
  | .hbm, ⟨5, _⟩ => ⟨S2x512, .f32⟩
  | .hbm, ⟨6, _⟩ => ⟨S2x512, .f32⟩
  | .local _ .vmem, ⟨0, _⟩ => ⟨S2x512x2048, .fp8e4m3⟩
  | .local _ .vmem, ⟨1, _⟩ => ⟨S2x512, .f32⟩
  | .local _ .vmem, ⟨2, _⟩ => ⟨S32000x1024, .i8⟩
  | .local _ .vmem, ⟨3, _⟩ => ⟨S32000x64, .i8⟩
  | .local _ .vmem, ⟨4, _⟩ => ⟨S2x512x32000, .fp8e5m2⟩
  | .local _ .vmem, ⟨5, _⟩ => ⟨S2x512, .f32⟩
  | .local _ .vmem, ⟨6, _⟩ => ⟨S2x512, .f32⟩
  | _, _ => ⟨S2x512x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x512x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32000x1024 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32000x64 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x512x32000 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Run.Region0.lean ====
/-
  The first call, `prep`: what its body leaves in its output window, its body obligation and its data over the arrays it is entered with.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_prep` (pipeline 0), at the entry contents `V` -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1024x2048 := Rect.unit (s := S1024x2048) ![0, 0] S1024x256.size inb_S1024x2048_S1024x256_0_0
abbrev r0_1 : Rect S1024x2048 := Rect.unit (s := S1024x2048) ![0, 256] S1024x256.size inb_S1024x2048_S1024x256_0_256
abbrev r0_2 : Rect S1024x2048 := Rect.unit (s := S1024x2048) ![0, 512] S1024x256.size inb_S1024x2048_S1024x256_0_512
abbrev r0_3 : Rect S1024x2048 := Rect.unit (s := S1024x2048) ![0, 768] S1024x256.size inb_S1024x2048_S1024x256_0_768
abbrev r0_4 : Rect S1024x2048 := Rect.unit (s := S1024x2048) ![0, 1024] S1024x256.size inb_S1024x2048_S1024x256_0_1024
abbrev r0_5 : Rect S1024x2048 := Rect.unit (s := S1024x2048) ![0, 1280] S1024x256.size inb_S1024x2048_S1024x256_0_1280
abbrev r0_6 : Rect S1024x2048 := Rect.unit (s := S1024x2048) ![0, 1536] S1024x256.size inb_S1024x2048_S1024x256_0_1536
abbrev r0_7 : Rect S1024x2048 := Rect.unit (s := S1024x2048) ![0, 1792] S1024x256.size inb_S1024x2048_S1024x256_0_1792

/-! ## What the body leaves in each output window's buffer -/

/-! ### Values of the body that the stores' payloads, spelt out, would write more than once

    Each is a vector the body binds (often a part call's result), stated over the input windows' blocks and
    numbered on from the skeleton's payload functions (`k0_pay12` …, after `k0_pay11`), so that
    `out0_W` and the values after it name it instead of spelling it out; the comment after each is the printed function's
    name for the value (a count appended where that name is bound again). -/

def k0_pay12 (x0 : Vec F S1024x2048 .fp8e4m3) : FVec F S256x256 .bf16 :=
  k0_pay3 (F := F) -- `v16`

/-- Window 1's staging buffer after the body, from the input windows' blocks: its 8 stores as pieces, LAST
    FIRST (Lib/Pipeline/FrameBody.lean `View.canon`; the payloads are the skeleton's and the values stated above). -/
def out0_1 (x0 : Vec F S1024x2048 .fp8e4m3) : Vec F S1024x2048 .bf16 :=
  View.canon [⟨r0_7, k0_pay2 (k0_pay12 x0) (View.ld x0 r0_7)⟩,
    ⟨r0_6, k0_pay1 (k0_pay12 x0) (k0_pay11 (View.ld x0 r0_6))⟩,
    ⟨r0_5, k0_pay10 (k0_pay12 x0) (View.ld x0 r0_5)⟩,
    ⟨r0_4, k0_pay9 (k0_pay12 x0) (View.ld x0 r0_4)⟩,
    ⟨r0_3, k0_pay8 (k0_pay12 x0) (View.ld x0 r0_3)⟩,
    ⟨r0_2, k0_pay7 (k0_pay12 x0) (k0_pay6 (View.ld x0 r0_2))⟩,
    ⟨r0_1, k0_pay5 (View.ld x0 r0_1)⟩,
    ⟨r0_0, k0_pay4 (View.ld x0 r0_0)⟩]

/-- Its stores tile the buffer (checked by evaluation), so they cover it. -/
theorem cover0_1 (p0 : Vec F S1024x256 .bf16) (p1 : Vec F S1024x256 .bf16) (p2 : Vec F S1024x256 .bf16) (p3 : Vec F S1024x256 .bf16) (p4 : Vec F S1024x256 .bf16) (p5 : Vec F S1024x256 .bf16) (p6 : Vec F S1024x256 .bf16) (p7 : Vec F S1024x256 .bf16) (y : S1024x2048.Idx) :
    ∃ pc ∈ ([⟨r0_7, p0⟩, ⟨r0_6, p1⟩, ⟨r0_5, p2⟩, ⟨r0_4, p3⟩, ⟨r0_3, p4⟩, ⟨r0_2, p5⟩, ⟨r0_1, p6⟩, ⟨r0_0, p7⟩] : List (View.Piece (Elt F) S1024x2048 .bf16)), y ∈ pc.1.set :=
  View.cover_of_tiled [⟨r0_7, p0⟩, ⟨r0_6, p1⟩, ⟨r0_5, p2⟩, ⟨r0_4, p3⟩, ⟨r0_3, p4⟩, ⟨r0_2, p5⟩, ⟨r0_1, p6⟩, ⟨r0_0, p7⟩] S1024x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (arg0 : Memref sig .tc .vmem S1024x2048 .fp8e4m3) (harg0 : arg0.IsWhole) (arg1 : Memref sig .tc .vmem S1024x2048 .bf16) (harg1 : arg1.IsWhole)
    (x0 : Vec F S1024x2048 .fp8e4m3) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0_prep arg0 harg0 arg1 harg1) K := by
  simp only [cc0_prep_eq_skeleton]; unfold cc0_prep_skel
  simp only [k0_part1_eq_skeleton, k0_part2_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover0_1 _ _ _ _ _ _ _ _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.Run.Region1.lean ====
/-
  The second call, `mm`: what its body leaves at each kind of grid point in its output windows and its four scratch buffers, the
  contents point by point, its body obligation and its data over the arrays it is entered with.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_mm` (pipeline 1), at the entry contents `V` -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 25 = 0 :=
  (fun t => by
    have ht : t.val < 25 := Nat.lt_of_lt_of_eq t.isLt N_1
    have e0 : (grid1.coords t 0).val = t.val / 1 % 25 := Pipeline.Grid.coords_val t 0 (by decide) rfl
    simp only [cond1_0, e0]
    word_cmp
   : ∀ t : Fin grid1.N, cond1_0 (grid1.coords t) ↔ t.val % 25 = 0)

/-- The condition of the body's `scf.if` 1 (`k1_h2`), from the grid coordinates (the skeleton's scalar
    chain substituted). -/
abbrev cond1_1 (i : grid1.Coords) : Prop := k1_cond2 i = 1#1
/-- It holds at the last point only — by arithmetic of the point. -/
theorem hcond1_1 : ∀ t : Fin cfg1.N, cond1_1 (grid1.coords t) ↔ t.val % 25 = 24 :=
  (fun t => by
    have ht : t.val < 25 := Nat.lt_of_lt_of_eq t.isLt N_1
    have e0 : (grid1.coords t 0).val = t.val / 1 % 25 := Pipeline.Grid.coords_val t 0 (by decide) rfl
    simp only [cond1_1, k1_cond2, e0]
    word_cmp
   : ∀ t : Fin grid1.N, cond1_1 (grid1.coords t) ↔ t.val % 25 = 24)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an output stored at every point, under no condition). -/
theorem liveAt1_4 : ∀ t : Fin cfg1.N, cfg1.idle 4 (grid1.coords t) = false := fun _ => rfl
/-- At the points of case A the printed configuration (`Cfg.idle`) calls output 5 idle: the case stores nothing into it. -/
theorem idleAt1_5_A : ∀ t : Fin cfg1.N, cond1_0 (grid1.coords t) → ¬cond1_1 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → (cfg1.win 5).flush t = false := by decide +kernel
/-- At the points of case B the printed configuration (`Cfg.idle`) calls output 5 idle: the case stores nothing into it. -/
theorem idleAt1_5_B : ∀ t : Fin cfg1.N, ¬cond1_0 (grid1.coords t) → ¬cond1_1 (grid1.coords t) → cfg1.idle 5 (grid1.coords t) = true := by decide +kernel
/-- At the points of case B the pipeline does not write output 5's block back. -/
theorem noFlush1_5_B : ∀ t : Fin cfg1.N, ¬cond1_0 (grid1.coords t) → ¬cond1_1 (grid1.coords t) → (cfg1.win 5).flush t = false := by decide +kernel
/-- At the points of case C the printed configuration (`Cfg.idle`) calls output 5 live: the case stores into it. -/
theorem liveAt1_5_C : ∀ t : Fin cfg1.N, ¬cond1_0 (grid1.coords t) → cond1_1 (grid1.coords t) → cfg1.idle 5 (grid1.coords t) = false := by decide +kernel

/-! ## The kernel body on any staging memrefs: a subtype the run finds -/

/-- One staging buffer of output window 4, through which its contents are stated (`View.read_writes_of_cover`: the
    choice does not matter). -/
abbrev VO1_4 : View sig .tc .vmem S1024x1280 .f32 := (Memref.whole cc1_stg4_0 : Memref sig .tc .vmem S1024x1280 .f32).view
/-- One staging buffer of output window 5, through which its contents are stated (`View.read_writes_of_cover`: the
    choice does not matter). -/
abbrev VO1_5 : View sig .tc .vmem S1024x1 .f32 := (Memref.whole cc1_stg5_0 : Memref sig .tc .vmem S1024x1 .f32).view
/-- Each window's current staging memref at point `t`, spelled as the pipeline passes it (`bodyAt1`), and its wholeness. -/
abbrev ms1_0 (t : Fin cfg1.N) : Memref sig .tc .vmem S1024x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1280x1024 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1280x64 .i8 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1280 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x1 .f32 := win1_5.stage (cfg1.slots t 5)
abbrev hs1_5 (t : Fin cfg1.N) : (ms1_5 t).IsWhole := hstage1_5 ((cfg1.slots t 5).cast nbuf1_5)
/-- The scratch operands: whole scoped buffers of the kernel's own, passed beside the windows. -/
abbrev scM1_0 : Memref sig .tc .vmem S1280x2048 .bf16 := Memref.whole cc1_scratch0
abbrev scM1_1 : Memref sig .tc .vmem S1024x128 .f32 := Memref.whole cc1_scratch1
abbrev scM1_2 : Memref sig .tc .vmem S1024x128 .f32 := Memref.whole cc1_scratch2
/-- The scratch `arg8` the kernel carries between points, as a view: what it holds is stated through it. -/
abbrev VS1_1 : View sig .tc .vmem S1024x128 .f32 := scM1_1.view
/-- The scratch `arg9` the kernel carries between points, as a view: what it holds is stated through it. -/
abbrev VS1_2 : View sig .tc .vmem S1024x128 .f32 := scM1_2.view

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_scratch0), ((c : Thread nD τ).loc cc2_scratch0) ↦{fullShare} f)) ∗ (∃ r, prngReg c r)) := by
  unfold Pipeline.ΦA; rw [scopedRest1_eq]; simp only [scM1_0, scM1_1, scM1_2, owns_whole]; try rfl

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x2048 .bf16) (x1 : Vec F S1024x1 .f32) (x2 : Vec F S1280x1024 .i8) (x3 : Vec F S1280x64 .i8) :
    Σ' (L4 : List (View.Piece (Elt F) S1024x1280 .f32)), Σ' (L5 : List (View.Piece (Elt F) S1024x1 .f32)), Σ' (LS1 : List (View.Piece (Elt F) S1024x128 .f32)), Σ' (LS2 : List (View.Piece (Elt F) S1024x128 .f32)), { LT0 : List (View.Piece (Elt F) S1280x2048 .bf16) //
      ∀ (xi5 : Vec F S1024x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LT0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_mm i arg1 harg1 arg2 harg2 arg3 harg3 arg4 harg4 arg5 harg5 arg6 harg6 arg7 harg7 arg8 harg8 arg9 harg9) K } := by
  refine ⟨?_, [], ?_, ?_, ?_, fun xi5 E K => ?run⟩
  case run =>
    simp only [cc1_mm_eq_skeleton]; unfold cc1_mm_skel
    simp only [k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg6.eq_unread hf5
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]; · iexists _; iexact HS0
    isplitl [HS1]; · iexists _; iexact HS1
    iexists _; iexact HS2

/-- Case A's pieces for output 4 tile its block (1 store of `S1024x1280`, checked by the kernel's evaluation: Lib/Ring.lean `Piece.tiledL`, linear in the pieces, through a loop's `@[irreducible]` trip theorem too), so they cover it. -/
theorem cover1_A_4 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x2048 .bf16) (x1 : Vec F S1024x1 .f32) (x2 : Vec F S1280x1024 .i8) (x3 : Vec F S1280x64 .i8) (y : S1024x1280.Idx) :
    ∃ pc ∈ (kernelRun1_A c i arg1 harg1 arg2 harg2 arg3 harg3 arg4 harg4 arg5 harg5 arg6 harg6 arg7 harg7 arg8 harg8 arg9 harg9 hc0 hc1 x0 x1 x2 x3).1, y ∈ pc.1.set :=
  View.cover_of_tiledL (kernelRun1_A c i arg1 harg1 arg2 harg2 arg3 harg3 arg4 harg4 arg5 harg5 arg6 harg6 arg7 harg7 arg8 harg8 arg9 harg9 hc0 hc1 x0 x1 x2 x3).1 S1024x1280.size (by sl_kernel_rfl) y

/-- What case A leaves in output 4's staging buffer: its pieces read back over junk. -/
def out1_A_4 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x2048 .bf16) (x1 : Vec F S1024x1 .f32) (x2 : Vec F S1280x1024 .i8) (x3 : Vec F S1280x64 .i8) : Vec F S1024x1280 .f32 :=
  VO1_4.read (Elt F) (VO1_4.writes (Elt F) VO1_4.junk (kernelRun1_A c i arg1 harg1 arg2 harg2 arg3 harg3 arg4 harg4 arg5 harg5 arg6 harg6 arg7 harg7 arg8 harg8 arg9 harg9 hc0 hc1 x0 x1 x2 x3).1)

/-- Case A stores nothing into output 5 (the window is idle at its points and not written back there):
    no pieces — a placeholder (junk read back) that nothing consults, since at these points the window is neither
    written back nor read at the next point (Lib/Pipeline.lean "Idle points"). -/
def out1_A_5 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x2048 .bf16) (x1 : Vec F S1024x1 .f32) (x2 : Vec F S1280x1024 .i8) (x3 : Vec F S1280x64 .i8) : Vec F S1024x1 .f32 :=
  VO1_5.read (Elt F) (VO1_5.writes (Elt F) VO1_5.junk (kernelRun1_A c i arg1 harg1 arg2 harg2 arg3 harg3 arg4 harg4 arg5 harg5 arg6 harg6 arg7 harg7 arg8 harg8 arg9 harg9 hc0 hc1 x0 x1 x2 x3).2.1)

/-- Case A's pieces for scratch `arg8`, which the kernel carries between points, cover it: one of them a store of the WHOLE buffer (Lib/Ring.lean `sl_whole_mem`). -/
theorem scover1_A_1 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x2048 .bf16) (x1 : Vec F S1024x1 .f32) (x2 : Vec F S1280x1024 .i8) (x3 : Vec F S1280x64 .i8) (y : S1024x128.Idx) :
    ∃ pc ∈ (kernelRun1_A c i arg1 harg1 arg2 harg2 arg3 harg3 arg4 harg4 arg5 harg5 arg6 harg6 arg7 harg7 arg8 harg8 arg9 harg9 hc0 hc1 x0 x1 x2 x3).2.2.1, y ∈ pc.1.set :=
  View.cover_of_wholeMem (kernelRun1_A c i arg1 harg1 arg2 harg2 arg3 harg3 arg4 harg4 arg5 harg5 arg6 harg6 arg7 harg7 arg8 harg8 arg9 harg9 hc0 hc1 x0 x1 x2 x3).2.2.1 (by sl_whole_mem) y

/-- What case A leaves in scratch `arg8`: its pieces read back over junk. -/
def sout1_A_1 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x2048 .bf16) (x1 : Vec F S1024x1 .f32) (x2 : Vec F S1280x1024 .i8) (x3 : Vec F S1280x64 .i8) : Vec F S1024x128 .f32 :=
  VS1_1.read (Elt F) (VS1_1.writes (Elt F) VS1_1.junk (kernelRun1_A c i arg1 harg1 arg2 harg2 arg3 harg3 arg4 harg4 arg5 harg5 arg6 harg6 arg7 harg7 arg8 harg8 arg9 harg9 hc0 hc1 x0 x1 x2 x3).2.2.1)

/-- Case A's pieces for scratch `arg9`, which the kernel carries between points, cover it: one of them a store of the WHOLE buffer (Lib/Ring.lean `sl_whole_mem`). -/
theorem scover1_A_2 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x2048 .bf16) (x1 : Vec F S1024x1 .f32) (x2 : Vec F S1280x1024 .i8) (x3 : Vec F S1280x64 .i8) (y : S1024x128.Idx) :
    ∃ pc ∈ (kernelRun1_A c i arg1 harg1 arg2 harg2 arg3 harg3 arg4 harg4 arg5 harg5 arg6 harg6 arg7 harg7 arg8 harg8 arg9 harg9 hc0 hc1 x0 x1 x2 x3).2.2.2.1, y ∈ pc.1.set :=
  View.cover_of_wholeMem (kernelRun1_A c i arg1 harg1 arg2 harg2 arg3 harg3 arg4 harg4 arg5 harg5 arg6 harg6 arg7 harg7 arg8 harg8 arg9 harg9 hc0 hc1 x0 x1 x2 x3).2.2.2.1 (by sl_whole_mem) y

/-- What case A leaves in scratch `arg9`: its pieces read back over junk. -/
def sout1_A_2 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec F S1024x2048 .bf16) (x1 : Vec F S1024x1 .f32) (x2 : Vec F S1280x1024 .i8) (x3 : Vec F S1280x64 .i8) : Vec F S1024x128 .f32 :=
  VS1_2.read (Elt F) (VS1_2.writes (Elt F) VS1_2.junk (kernelRun1_A c i arg1 harg1 arg2 harg2 arg3 harg3 arg4 harg4 arg5 harg5 arg6 harg6 arg7 harg7 arg8 harg8 arg9 harg9 hc0 hc1 x0 x1 x2 x3).2.2.2.1)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 23: 23 of 25), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x2048 .bf16) (x1 : Vec F S1024x1 .f32) (x2 : Vec F S1280x1024 .i8) (x3 : Vec F S1280x64 .i8) (xs1 : Vec F S1024x128 .f32) (xs2 : Vec F S1024x128 .f32) :
    Σ' (L4 : List (View.Piece (Elt F) S1024x1280 .f32)), Σ' (L5 : List (View.Piece (Elt F) S1024x1 .f32)), Σ' (LS1 : List (View.Piece (Elt F) S1024x128 .f32)), Σ' (LS2 : List (View.Piece (Elt F) S1024x128 .f32)), { LT0 : List (View.Piece (Elt F) S1280x2048 .bf16) //
      ∀ (xi5 : Vec F S1024x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xi5 ∗ (∃ d, owns (c : Thread nD τ) arg7 fullShare d) ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xi5 ∗ (∃ f, arg7.view.loc (c : Thread nD τ) ↦[arg7.view.set]{fullShare} arg7.view.writes (Elt F) f LT0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_mm i arg1 harg1 arg2 harg2 arg3 harg3 arg4 harg4 arg5 harg5 arg6 harg6 arg7 harg7 arg8 harg8 arg9 harg9) K } := by
  refine ⟨?_, [], ?_, ?_, ?_, fun xi5 E K => ?run⟩
  case run =>
    simp only [cc1_mm_eq_skeleton]; unfold cc1_mm_skel
    simp only [k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg6.eq_unread hf5; obtain rfl := harg8.eq_unread hfs1; obtain rfl := harg9.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]
    · iexists _; isplitr; · ipureintro; exact harg6.read_unread _
      iexact H5
    isplitl [HS0]; · iexists _; iexact HS0
    isplitl [HS1]; · iexists _; iexact HS1
    iexists _; iexact HS2

/-- Case B's pieces for output 4 tile its block (1 store of `S1024x1280`, checked by the kernel's evaluation: Lib/Ring.lean `Piece.tiledL`, linear in the pieces, through a loop's `@[irreducible]` trip theorem too), so they cover it. -/
theorem cover1_B_4 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x2048 .bf16) (x1 : Vec F S1024x1 .f32) (x2 : Vec F S1280x1024 .i8) (x3 : Vec F S1280x64 .i8) (xs1 : Vec F S1024x128 .f32) (xs2 : Vec F S1024x128 .f32) (y : S1024x1280.Idx) :
    ∃ pc ∈ (kernelRun1_B c i arg1 harg1 arg2 harg2 arg3 harg3 arg4 harg4 arg5 harg5 arg6 harg6 arg7 harg7 arg8 harg8 arg9 harg9 hc0 hc1 x0 x1 x2 x3 xs1 xs2).1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 xs1 xs2).1 S1024x1280.size (by sl_kernel_rfl) y

/-- What case B leaves in output 4's staging buffer: its pieces read back over junk. -/
def out1_B_4 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x2048 .bf16) (x1 : Vec F S1024x1 .f32) (x2 : Vec F S1280x1024 .i8) (x3 : Vec F S1280x64 .i8) (xs1 : Vec F S1024x128 .f32) (xs2 : Vec F S1024x128 .f32) : Vec F S1024x1280 .f32 :=
  VO1_4.read (Elt F) (VO1_4.writes (Elt F) VO1_4.junk (kernelRun1_B c i arg1 harg1 arg2 harg2 arg3 harg3 arg4 harg4 arg5 harg5 arg6 harg6 arg7 harg7 arg8 harg8 arg9 harg9 hc0 hc1 x0 x1 x2 x3 xs1 xs2).1)

/-- Case B stores nothing into output 5 (the window is idle at its points and not written back there):
    no pieces — a placeholder (junk read back) that nothing consults, since at these points the window is neither
    written back nor read at the next point (Lib/Pipeline.lean "Idle points"). -/
def out1_B_5 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x2048 .bf16) (x1 : Vec F S1024x1 .f32) (x2 : Vec F S1280x1024 .i8) (x3 : Vec F S1280x64 .i8) (xs1 : Vec F S1024x128 .f32) (xs2 : Vec F S1024x128 .f32) : Vec F S1024x1 .f32 :=
  VO1_5.read (Elt F) (VO1_5.writes (Elt F) VO1_5.junk (kernelRun1_B c i arg1 harg1 arg2 harg2 arg3 harg3 arg4 harg4 arg5 harg5 arg6 harg6 arg7 harg7 arg8 harg8 arg9 harg9 hc0 hc1 x0 x1 x2 x3 xs1 xs2).2.1)

/-- Case B's pieces for scratch `arg8`, which the kernel carries between points, cover it: 8 pieces of `S128x128` tiling it (Lib/Ring.lean `Piece.tiledL`). -/
theorem scover1_B_1 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x2048 .bf16) (x1 : Vec F S1024x1 .f32) (x2 : Vec F S1280x1024 .i8) (x3 : Vec F S1280x64 .i8) (xs1 : Vec F S1024x128 .f32) (xs2 : Vec F S1024x128 .f32) (y : S1024x128.Idx) :
    ∃ pc ∈ (kernelRun1_B c i arg1 harg1 arg2 harg2 arg3 harg3 arg4 harg4 arg5 harg5 arg6 harg6 arg7 harg7 arg8 harg8 arg9 harg9 hc0 hc1 x0 x1 x2 x3 xs1 xs2).2.2.1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 xs1 xs2).2.2.1 S128x128.size (by sl_kernel_rfl) y

/-- What case B leaves in scratch `arg8`: its pieces read back over junk. -/
def sout1_B_1 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x2048 .bf16) (x1 : Vec F S1024x1 .f32) (x2 : Vec F S1280x1024 .i8) (x3 : Vec F S1280x64 .i8) (xs1 : Vec F S1024x128 .f32) (xs2 : Vec F S1024x128 .f32) : Vec F S1024x128 .f32 :=
  VS1_1.read (Elt F) (VS1_1.writes (Elt F) VS1_1.junk (kernelRun1_B c i arg1 harg1 arg2 harg2 arg3 harg3 arg4 harg4 arg5 harg5 arg6 harg6 arg7 harg7 arg8 harg8 arg9 harg9 hc0 hc1 x0 x1 x2 x3 xs1 xs2).2.2.1)

/-- Case B's pieces for scratch `arg9`, which the kernel carries between points, cover it: 8 pieces of `S128x128` tiling it (Lib/Ring.lean `Piece.tiledL`). -/
theorem scover1_B_2 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x2048 .bf16) (x1 : Vec F S1024x1 .f32) (x2 : Vec F S1280x1024 .i8) (x3 : Vec F S1280x64 .i8) (xs1 : Vec F S1024x128 .f32) (xs2 : Vec F S1024x128 .f32) (y : S1024x128.Idx) :
    ∃ pc ∈ (kernelRun1_B c i arg1 harg1 arg2 harg2 arg3 harg3 arg4 harg4 arg5 harg5 arg6 harg6 arg7 harg7 arg8 harg8 arg9 harg9 hc0 hc1 x0 x1 x2 x3 xs1 xs2).2.2.2.1, y ∈ pc.1.set :=
  View.cover_of_tiledL (kernelRun1_B c i arg1 harg1 arg2 harg2 arg3 harg3 arg4 harg4 arg5 harg5 arg6 harg6 arg7 harg7 arg8 harg8 arg9 harg9 hc0 hc1 x0 x1 x2 x3 xs1 xs2).2.2.2.1 S128x128.size (by sl_kernel_rfl) y

/-- What case B leaves in scratch `arg9`: its pieces read back over junk. -/
def sout1_B_2 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec F S1024x2048 .bf16) (x1 : Vec F S1024x1 .f32) (x2 : Vec F S1280x1024 .i8) (x3 : Vec F S1280x64 .i8) (xs1 : Vec F S1024x128 .f32) (xs2 : Vec F S1024x128 .f32) : Vec F S1024x128 .f32 :=
  VS1_2.read (Elt F) (VS1_2.writes (Elt F) VS1_2.junk (kernelRun1_B c i arg1 harg1 arg2 harg2 arg3 harg3 arg4 harg4 arg5 harg5 arg6 harg6 arg7 harg7 arg8 harg8 arg9 harg9 hc0 hc1 x0 x1 x2 x3 xs1 xs2).2.2.2.1)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 24), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x2048 .bf16) (x1 : Vec F S1024x1 .f32) (x2 : Vec F S1280x1024 .i8) (x3 : Vec F S1280x64 .i8) (xs1 : Vec F S1024x128 .f32) (xs2 : Vec F S1024x128 .f32) :
    Σ' (L4 : List (View.Piece (Elt F) S1024x1280 .f32)), Σ' (L5 : List (View.Piece (Elt F) S1024x1 .f32)), Σ' (LS1 : List (View.Piece (Elt F) S1024x128 .f32)), Σ' (LS2 : List (View.Piece (Elt F) S1024x128 .f32)), { LT0 : List (View.Piece (Elt F) S1280x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LT0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_mm i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc1_mm_eq_skeleton]; unfold cc1_mm_skel
    simp only [k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg8.eq_unread hfs1; obtain rfl := harg9.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    isplitl [HS1]; · iexists _; iexact HS1
    iexists _; iexact HS2

/-- Case C's pieces for output 4 tile its block (1 store of `S1024x1280`, checked by the kernel's evaluation: Lib/Ring.lean `Piece.tiledL`, linear in the pieces, through a loop's `@[irreducible]` trip theorem too), so they cover it. -/
theorem cover1_C_4 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x2048 .bf16) (x1 : Vec F S1024x1 .f32) (x2 : Vec F S1280x1024 .i8) (x3 : Vec F S1280x64 .i8) (xs1 : Vec F S1024x128 .f32) (xs2 : Vec F S1024x128 .f32) (y : S1024x1280.Idx) :
    ∃ pc ∈ (kernelRun1_C c i arg1 harg1 arg2 harg2 arg3 harg3 arg4 harg4 arg5 harg5 arg6 harg6 arg7 harg7 arg8 harg8 arg9 harg9 hc0 hc1 x0 x1 x2 x3 xs1 xs2).1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs1 xs2).1 S1024x1280.size (by sl_kernel_rfl) y

/-- What case C leaves in output 4's staging buffer: its pieces read back over junk. -/
def out1_C_4 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x2048 .bf16) (x1 : Vec F S1024x1 .f32) (x2 : Vec F S1280x1024 .i8) (x3 : Vec F S1280x64 .i8) (xs1 : Vec F S1024x128 .f32) (xs2 : Vec F S1024x128 .f32) : Vec F S1024x1280 .f32 :=
  VO1_4.read (Elt F) (VO1_4.writes (Elt F) VO1_4.junk (kernelRun1_C c i arg1 harg1 arg2 harg2 arg3 harg3 arg4 harg4 arg5 harg5 arg6 harg6 arg7 harg7 arg8 harg8 arg9 harg9 hc0 hc1 x0 x1 x2 x3 xs1 xs2).1)

/-- Case C's pieces for output 5 tile its block (1 store of `S1024x1`, checked by the kernel's evaluation: Lib/Ring.lean `Piece.tiledL`, linear in the pieces, through a loop's `@[irreducible]` trip theorem too), so they cover it. -/
theorem cover1_C_5 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x2048 .bf16) (x1 : Vec F S1024x1 .f32) (x2 : Vec F S1280x1024 .i8) (x3 : Vec F S1280x64 .i8) (xs1 : Vec F S1024x128 .f32) (xs2 : Vec F S1024x128 .f32) (y : S1024x1.Idx) :
    ∃ pc ∈ (kernelRun1_C c i arg1 harg1 arg2 harg2 arg3 harg3 arg4 harg4 arg5 harg5 arg6 harg6 arg7 harg7 arg8 harg8 arg9 harg9 hc0 hc1 x0 x1 x2 x3 xs1 xs2).2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs1 xs2).2.1 S1024x1.size (by sl_kernel_rfl) y

/-- What case C leaves in output 5's staging buffer: its pieces read back over junk. -/
def out1_C_5 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x2048 .bf16) (x1 : Vec F S1024x1 .f32) (x2 : Vec F S1280x1024 .i8) (x3 : Vec F S1280x64 .i8) (xs1 : Vec F S1024x128 .f32) (xs2 : Vec F S1024x128 .f32) : Vec F S1024x1 .f32 :=
  VO1_5.read (Elt F) (VO1_5.writes (Elt F) VO1_5.junk (kernelRun1_C c i arg1 harg1 arg2 harg2 arg3 harg3 arg4 harg4 arg5 harg5 arg6 harg6 arg7 harg7 arg8 harg8 arg9 harg9 hc0 hc1 x0 x1 x2 x3 xs1 xs2).2.1)

/-- Case C's pieces for scratch `arg8`, which the kernel carries between points, cover it: 8 pieces of `S128x128` tiling it (Lib/Ring.lean `Piece.tiledL`). -/
theorem scover1_C_1 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x2048 .bf16) (x1 : Vec F S1024x1 .f32) (x2 : Vec F S1280x1024 .i8) (x3 : Vec F S1280x64 .i8) (xs1 : Vec F S1024x128 .f32) (xs2 : Vec F S1024x128 .f32) (y : S1024x128.Idx) :
    ∃ pc ∈ (kernelRun1_C c i arg1 harg1 arg2 harg2 arg3 harg3 arg4 harg4 arg5 harg5 arg6 harg6 arg7 harg7 arg8 harg8 arg9 harg9 hc0 hc1 x0 x1 x2 x3 xs1 xs2).2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs1 xs2).2.2.1 S128x128.size (by sl_kernel_rfl) y

/-- What case C leaves in scratch `arg8`: its pieces read back over junk. -/
def sout1_C_1 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x2048 .bf16) (x1 : Vec F S1024x1 .f32) (x2 : Vec F S1280x1024 .i8) (x3 : Vec F S1280x64 .i8) (xs1 : Vec F S1024x128 .f32) (xs2 : Vec F S1024x128 .f32) : Vec F S1024x128 .f32 :=
  VS1_1.read (Elt F) (VS1_1.writes (Elt F) VS1_1.junk (kernelRun1_C c i arg1 harg1 arg2 harg2 arg3 harg3 arg4 harg4 arg5 harg5 arg6 harg6 arg7 harg7 arg8 harg8 arg9 harg9 hc0 hc1 x0 x1 x2 x3 xs1 xs2).2.2.1)

/-- Case C's pieces for scratch `arg9`, which the kernel carries between points, cover it: 8 pieces of `S128x128` tiling it (Lib/Ring.lean `Piece.tiledL`). -/
theorem scover1_C_2 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x2048 .bf16) (x1 : Vec F S1024x1 .f32) (x2 : Vec F S1280x1024 .i8) (x3 : Vec F S1280x64 .i8) (xs1 : Vec F S1024x128 .f32) (xs2 : Vec F S1024x128 .f32) (y : S1024x128.Idx) :
    ∃ pc ∈ (kernelRun1_C c i arg1 harg1 arg2 harg2 arg3 harg3 arg4 harg4 arg5 harg5 arg6 harg6 arg7 harg7 arg8 harg8 arg9 harg9 hc0 hc1 x0 x1 x2 x3 xs1 xs2).2.2.2.1, y ∈ pc.1.set :=
  View.cover_of_tiledL (kernelRun1_C c i arg1 harg1 arg2 harg2 arg3 harg3 arg4 harg4 arg5 harg5 arg6 harg6 arg7 harg7 arg8 harg8 arg9 harg9 hc0 hc1 x0 x1 x2 x3 xs1 xs2).2.2.2.1 S128x128.size (by sl_kernel_rfl) y

/-- What case C leaves in scratch `arg9`: its pieces read back over junk. -/
def sout1_C_2 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec F S1024x2048 .bf16) (x1 : Vec F S1024x1 .f32) (x2 : Vec F S1280x1024 .i8) (x3 : Vec F S1280x64 .i8) (xs1 : Vec F S1024x128 .f32) (xs2 : Vec F S1024x128 .f32) : Vec F S1024x128 .f32 :=
  VS1_2.read (Elt F) (VS1_2.writes (Elt F) VS1_2.junk (kernelRun1_C c i arg1 harg1 arg2 harg2 arg3 harg3 arg4 harg4 arg5 harg5 arg6 harg6 arg7 harg7 arg8 harg8 arg9 harg9 hc0 hc1 x0 x1 x2 x3 xs1 xs2).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1024x1280 .f32 × Vec F S1024x1 .f32 × Vec F S1024x128 .f32 × Vec F S1024x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 25 = 0 then
      if h1 : (n + 1) % 25 = 24 then
        False.elim (by have hN : n + 1 < 25 := lt_of_lt_of_eq hn (show cfg1.N = 25 from N_1); omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 25 = 24 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 25 = 0) (h1 : ¬t.val % 25 = 24) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t), sout1_A_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 25 = 0) (h1 : ¬t.val % 25 = 24) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 25 = 0) (h1 : t.val % 25 = 24) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ d, owns (c : Thread nD τ) scM1_0 fullShare d) ∗ owns (c : Thread nD τ) scM1_1 fullShare ((outsAt1 V c n hn).2.2.1) ∗ owns (c : Thread nD τ) scM1_2 fullShare ((outsAt1 V c n hn).2.2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_scratch0), ((c : Thread nD τ).loc cc2_scratch0) ↦{fullShare} f)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ d, owns (c : Thread nD τ) scM1_0 fullShare d) ∗ owns (c : Thread nD τ) scM1_1 fullShare ((outsAt1 V c n hn).2.2.1) ∗ owns (c : Thread nD τ) scM1_2 fullShare ((outsAt1 V c n hn).2.2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_scratch0), ((c : Thread nD τ).loc cc2_scratch0) ↦{fullShare} f)) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ d, owns (c : Thread nD τ) scM1_0 fullShare d) ∗ owns (c : Thread nD τ) scM1_1 fullShare ((outsAt1 V c (n - 1) (by omega)).2.2.1) ∗ owns (c : Thread nD τ) scM1_2 fullShare ((outsAt1 V c (n - 1) (by omega)).2.2.2) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_scratch0), ((c : Thread nD τ).loc cc2_scratch0) ↦{fullShare} f)) ∗ (∃ r, prngReg c r)) := by
  cases n with
  | zero => exact absurd rfl hz
  | succ n => rfl

/-! ## The pipeline's proof data -/

/-- The proof data of pipeline 1 on core `c`: the arrays as the region finds them (`V`); after the body at
    point `t` each input's buffer at its block and the outputs' at `outsAt1`; the invariant the class's
    (`PhiS1`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 9600000 in
/-- The body at any point: the inputs' memrefs hold their blocks (`before1_W`); the closed forms say which case the point is in (`by_cases`), an output the case reads before covering holds what the point before left (`before1_W_κ`); so the
    run applies; the invariant hands the body the carried scratch at what the point before left (`PhiS1_pos`; at anything at the first point, `PhiS1_zero`), the other scratch buffers and the generator register at some state, and takes the carried scratch back at this point's contents (`PhiS1_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 25 := lt_of_lt_of_eq t.isLt (show cfg1.N = 25 from N_1)
  by_cases h0 : t.val % 25 = 0
  · by_cases h1 : t.val % 25 = 24
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      by_cases hz : t.val = 0
      · rw [PhiS1_castSucc V c t, PhiS1_zero V c _ _ hz, PhiA1_eq]
        rw [outsAt1_A V c t h0 h1]
        unfold out1_A_4 sout1_A_1 sout1_A_2; (try dsimp only)
        iintro ⟨⟨⟨HR0, HR1, HS0, HS1, HS2, HR5, HR6, HR7, HR8, HR9, HR10, HR11⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        isplitl [HS1]; · iexact HS1
        isplitl [HS2]; · iexact HS2
        iintro ⟨H0, H1, H2, H3, ⟨%e4, H4⟩, H5, ⟨%fT0, HS0⟩, ⟨%es1, HS1⟩, ⟨%es2, HS2⟩⟩
        isplitl [HR0 HR1 HS0 HS1 HS2 HR5 HR6 HR7 HR8 HR9 HR10 HR11 Hg]
        · isplitl [HR0 HR1 HS0 HS1 HS2 HR5 HR6 HR7 HR8 HR9 HR10 HR11]
          · isplitl [HR0]
            · iexact HR0
            isplitl [HR1]
            · iexact HR1
            isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover1_A_1 c _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _ _ _ _ _ _)
            isplitl [HR5]
            · iexact HR5
            isplitl [HR6]
            · iexact HR6
            isplitl [HR7]
            · iexact HR7
            isplitl [HR8]
            · iexact HR8
            isplitl [HR9]
            · iexact HR9
            isplitl [HR10]
            · iexact HR10
            iexact HR11
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_A_4 c _ _ _ _ _ _ _ _ _ _ _ _ _ _ _ _ _ _ _ _ _ _ _ _ _)
        iexists _; iexact H5
      · exfalso; have hN : t.val < 25 := lt_of_lt_of_eq t.isLt (show cfg1.N = 25 from N_1); omega
  · by_cases h1 : t.val % 25 = 24
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [show (dat1 V c).leavesExact 5 t = owns (c : Thread nD τ) (ms1_5 t) fullShare ((dat1 V c).after 5 t) from by
      unfold Dat.leavesExact; rw [liveAt1_5_C t (fun h => h0 ((hcond1_0 t).mp h)) ((hcond1_1 t).mpr h1)], after1_5]
      by_cases hz : t.val = 0
      · exfalso; have hN : t.val < 25 := lt_of_lt_of_eq t.isLt (show cfg1.N = 25 from N_1); omega
      · rw [PhiS1_castSucc V c t, PhiS1_pos V c _ _ hz]
        rw [outsAt1_C V c t h0 h1]
        unfold out1_C_4 out1_C_5 sout1_C_1 sout1_C_2; (try dsimp only)
        iintro ⟨⟨⟨HR0, HR1, HS0, HS1, HS2, HR5, HR6, HR7, HR8, HR9, HR10, HR11⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        isplitl [HS2]; · iexact HS2
        iintro ⟨H0, H1, H2, H3, ⟨%e4, H4⟩, ⟨%e5, H5⟩, ⟨%fT0, HS0⟩, ⟨%es1, HS1⟩, ⟨%es2, HS2⟩⟩
        isplitl [HR0 HR1 HS0 HS1 HS2 HR5 HR6 HR7 HR8 HR9 HR10 HR11 Hg]
        · isplitl [HR0 HR1 HS0 HS1 HS2 HR5 HR6 HR7 HR8 HR9 HR10 HR11]
          · isplitl [HR0]
            · iexact HR0
            isplitl [HR1]
            · iexact HR1
            isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_C_2 c _ _ _ _ _ _ _ _ _ _ _ _ _ _ _ _ _ _ _ _ _ _ _ _ _ _ _)
            isplitl [HR5]
            · iexact HR5
            isplitl [HR6]
            · iexact HR6
            isplitl [HR7]
            · iexact HR7
            isplitl [HR8]
            · iexact HR8
            isplitl [HR9]
            · iexact HR9
            isplitl [HR10]
            · iexact HR10
            iexact HR11
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_C_4 c _ _ _ _ _ _ _ _ _ _ _ _ _ _ _ _ _ _ _ _ _ _ _ _ _ _ _)
        unfold owns; iexists _; isplitr
        swap; · iexact H5
        ipureintro; exact View.read_writes_of_cover _ _ _ _ _ (cover1_C_5 c _ _ _ _ _ _ _ _ _ _ _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3 t], after1_3]
      rw [show (dat1 V c).leavesExact 4 t = owns (c : Thread nD τ) (ms1_4 t) fullShare ((dat1 V c).after 4 t) from by
      unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      by_cases hz : t.val = 0
      · exfalso; have hN : t.val < 25 := lt_of_lt_of_eq t.isLt (show cfg1.N = 25 from N_1); omega
      · rw [PhiS1_castSucc V c t, PhiS1_pos V c _ _ hz]
        rw [outsAt1_B V c t h0 h1]
        unfold out1_B_4 sout1_B_1 sout1_B_2; (try dsimp only)
        iintro ⟨⟨⟨HR0, HR1, HS0, HS1, HS2, HR5, HR6, HR7, HR8, HR9, HR10, HR11⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2.2.2.2 _ Set.univ _)
        isplitl [H0]; · iexact H0
        isplitl [H1]; · iexact H1
        isplitl [H2]; · iexact H2
        isplitl [H3]; · iexact H3
        isplitl [H4]; · iexists _; iexact H4
        isplitl [H5]; · iexact H5
        isplitl [HS0]; · iexact HS0
        isplitl [HS1]; · iexact HS1
        isplitl [HS2]; · iexact HS2
        iintro ⟨H0, H1, H2, H3, ⟨%e4, H4⟩, H5, ⟨%fT0, HS0⟩, ⟨%es1, HS1⟩, ⟨%es2, HS2⟩⟩
        isplitl [HR0 HR1 HS0 HS1 HS2 HR5 HR6 HR7 HR8 HR9 HR10 HR11 Hg]
        · isplitl [HR0 HR1 HS0 HS1 HS2 HR5 HR6 HR7 HR8 HR9 HR10 HR11]
          · isplitl [HR0]
            · iexact HR0
            isplitl [HR1]
            · iexact HR1
            isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover1_B_2 c _ _ _ _ _ _ _ _ _ _ _ _ _ _ _ _ _ _ _ _ _ _ _ _ _ _ _)
            isplitl [HR5]
            · iexact HR5
            isplitl [HR6]
            · iexact HR6
            isplitl [HR7]
            · iexact HR7
            isplitl [HR8]
            · iexact HR8
            isplitl [HR9]
            · iexact HR9
            isplitl [HR10]
            · iexact HR10
            iexact HR11
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover1_B_4 c _ _ _ _ _ _ _ _ _ _ _ _ _ _ _ _ _ _ _ _ _ _ _ _ _ _ _)
        iexists _; iexact H5

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HS0, HS1, HS2, HR5, HR6, HR7, HR8, HR9, HR10, HR11⟩, Hg⟩
  isplitl [HR0 HR1 HS0 HS1 HS2 HR5 HR6 HR7 HR8 HR9 HR10 HR11]
  · isplitl [HR0]
    · iexact HR0
    isplitl [HR1]
    · iexact HR1
    isplitl [HS0]
    · iexact HS0
    isplitl [HS1]
    · iexists _; iexact HS1
    isplitl [HS2]
    · iexists _; iexact HS2
    isplitl [HR5]
    · iexact HR5
    isplitl [HR6]
    · iexact HR6
    isplitl [HR7]
    · iexact HR7
    isplitl [HR8]
    · iexact HR8
    isplitl [HR9]
    · iexact HR9
    isplitl [HR10]
    · iexact HR10
    iexact HR11
  iexact Hg

/-- The same after the last point. -/
theorem hout1 (c : Dev nD) : (dat1 V c).Φ (Fin.last cfg1.N) ⊢ Pipeline.ΦA spec1 c :=
  Phi_out1 V c _ (by rw [Fin.val_last]; have : cfg1.N = 25 := N_1; omega)

end Regions

end Cert.KernelIdeal.Gen

end
-- ==== Proof.Run.Region2Base.lean ====
/-
  The third call, `out`: its conditions, the kinds of its grid points and its windows.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2_out` (pipeline 2), at the entry contents `V` -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.cmpi .eq (BitVec.ofNat 32 (i 0).val) 0#32)) 0#32) = 1#1
/-- It holds at the first point only — by arithmetic of the point. -/
theorem hcond2_0 : ∀ t : Fin cfg2.N, cond2_0 (grid2.coords t) ↔ t.val % 25 = 0 :=
  (fun t => by
    have ht : t.val < 25 := Nat.lt_of_lt_of_eq t.isLt N_2
    have e0 : (grid2.coords t 0).val = t.val / 1 % 25 := Pipeline.Grid.coords_val t 0 (by decide) rfl
    simp only [cond2_0, e0]
    word_cmp
   : ∀ t : Fin grid2.N, cond2_0 (grid2.coords t) ↔ t.val % 25 = 0)

/-- The condition of the body's `scf.if` 1 (`k2_h2`), from the grid coordinates (the skeleton's scalar
    chain substituted). -/
abbrev cond2_1 (i : grid2.Coords) : Prop := k2_cond2 i = 1#1
/-- It holds at the last point only — by arithmetic of the point. -/
theorem hcond2_1 : ∀ t : Fin cfg2.N, cond2_1 (grid2.coords t) ↔ t.val % 25 = 24 :=
  (fun t => by
    have ht : t.val < 25 := Nat.lt_of_lt_of_eq t.isLt N_2
    have e0 : (grid2.coords t 0).val = t.val / 1 % 25 := Pipeline.Grid.coords_val t 0 (by decide) rfl
    simp only [cond2_1, k2_cond2, e0]
    word_cmp
   : ∀ t : Fin grid2.N, cond2_1 (grid2.coords t) ↔ t.val % 25 = 24)

/-! ## Where the windows are idle (the printed configuration's table `Cfg.idle`) -/

/-- Window 0 is never idle (an input). -/
theorem liveAt2_0 : ∀ t : Fin cfg2.N, cfg2.idle 0 (grid2.coords t) = false := fun _ => rfl
/-- Window 1 is never idle (an input). -/
theorem liveAt2_1 : ∀ t : Fin cfg2.N, cfg2.idle 1 (grid2.coords t) = false := fun _ => rfl
/-- Window 2 is never idle (an output stored at every point, under no condition). -/
theorem liveAt2_2 : ∀ t : Fin cfg2.N, cfg2.idle 2 (grid2.coords t) = false := fun _ => rfl
/-- At the points of case A the printed configuration (`Cfg.idle`) calls output 3 idle: the case stores nothing into it. -/
theorem idleAt2_3_A : ∀ t : Fin cfg2.N, cond2_0 (grid2.coords t) → ¬cond2_1 (grid2.coords t) → cfg2.idle 3 (grid2.coords t) = true := by decide +kernel
/-- At the points of case A the pipeline does not write output 3's block back. -/
theorem noFlush2_3_A : ∀ t : Fin cfg2.N, cond2_0 (grid2.coords t) → ¬cond2_1 (grid2.coords t) → (cfg2.win 3).flush t = false := by decide +kernel
/-- At the points of case B the printed configuration (`Cfg.idle`) calls output 3 idle: the case stores nothing into it. -/
theorem idleAt2_3_B : ∀ t : Fin cfg2.N, ¬cond2_0 (grid2.coords t) → ¬cond2_1 (grid2.coords t) → cfg2.idle 3 (grid2.coords t) = true := by decide +kernel
/-- At the points of case B the pipeline does not write output 3's block back. -/
theorem noFlush2_3_B : ∀ t : Fin cfg2.N, ¬cond2_0 (grid2.coords t) → ¬cond2_1 (grid2.coords t) → (cfg2.win 3).flush t = false := by decide +kernel
/-- At the points of case C the printed configuration (`Cfg.idle`) calls output 3 live: the case stores into it. -/
theorem liveAt2_3_C : ∀ t : Fin cfg2.N, ¬cond2_0 (grid2.coords t) → cond2_1 (grid2.coords t) → cfg2.idle 3 (grid2.coords t) = false := by decide +kernel

/-! ## The kernel body on any staging memrefs: a subtype the run finds -/

/-- One staging buffer of output window 2, through which its contents are stated (`View.read_writes_of_cover`: the
    choice does not matter). -/
abbrev VO2_2 : View sig .tc .vmem S1024x1280 .fp8e5m2 := (Memref.whole cc2_stg2_0 : Memref sig .tc .vmem S1024x1280 .fp8e5m2).view
/-- One staging buffer of output window 3, through which its contents are stated (`View.read_writes_of_cover`: the
    choice does not matter). -/
abbrev VO2_3 : View sig .tc .vmem S1024x1 .f32 := (Memref.whole cc2_stg3_0 : Memref sig .tc .vmem S1024x1 .f32).view
/-- Each window's current staging memref at point `t`, spelled as the pipeline passes it (`bodyAt2`), and its wholeness. -/
abbrev ms2_0 (t : Fin cfg2.N) : Memref sig .tc .vmem S1024x1280 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x1280 .fp8e5m2 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1 .f32 := win2_3.stage (cfg2.slots t 3)
abbrev hs2_3 (t : Fin cfg2.N) : (ms2_3 t).IsWhole := hstage2_3 ((cfg2.slots t 3).cast nbuf2_3)
/-- The scratch operands: whole scoped buffers of the kernel's own, passed beside the windows. -/
abbrev scM2_0 : Memref sig .tc .vmem S1024x128 .f32 := Memref.whole cc2_scratch0
/-- The scratch `arg5` the kernel carries between points, as a view: what it holds is stated through it. -/
abbrev VS2_0 : View sig .tc .vmem S1024x128 .f32 := scM2_0.view

/-- The frame kit's invariant with the scratch operands as memrefs owned at some contents (`Gen.scopedRest2_eq`,
    Lib/Memref.lean `owns_whole`): what the body obligation hands the run and takes back. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ d, owns (c : Thread nD τ) scM2_0 fullShare d)) ∗ (∃ r, prngReg c r)) := by
  unfold Pipeline.ΦA; rw [scopedRest2_eq]; simp only [scM2_0, owns_whole]; try rfl

end Regions

end Cert.KernelIdeal.Gen

end
-- ==== Proof.Run.OutLoop.lean ====
/-
  The loop of the third call, `out`: what a trip stores does not depend on what the codes held before it.
-/
module

public import proofs.«01_k».proof.Proof.Run.Region2Base

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.SL.Sem

variable {F : FTy → Type} [FloatOps F]

section
variable (𝒱 : Variants) (c : Dev nD) (bd : Option 𝒱.V) (i : grid2.Coords)
  (arg1 : Memref sig .tc .vmem S1024x1280 .f32) (harg1 : arg1.IsWhole) (arg2 : Memref sig .tc .vmem S1024x1 .f32) (harg2 : arg2.IsWhole)
  (arg3 : Memref sig .tc .vmem S1024x1280 .fp8e5m2) (harg3 : arg3.IsWhole) (arg4 : Memref sig .tc .vmem S1024x1 .f32) (harg4 : arg4.IsWhole)
  (arg5 : Memref sig .tc .vmem S1024x128 .f32) (harg5 : arg5.IsWhole)
  (X1 : BufTy.Contents (Elt F) arg1.view.ty) (X2 : BufTy.Contents (Elt F) arg2.view.ty)

/-- A trip's stores into the codes do not depend on what the codes and the running error held before it. -/
theorem trip2_codes (k : Fin k2_t1_loop.trips) (f3 f3' : BufTy.Contents (Elt F) arg3.view.ty) (f5 f5' : BufTy.Contents (Elt F) arg5.view.ty) :
    (tripL_k2_t1 (F := F) 𝒱 c bd i arg1 harg1 arg2 harg2 arg3 harg3 arg4 harg4 arg5 harg5 X1 X2 k f3 f5).1
      = (tripL_k2_t1 (F := F) 𝒱 c bd i arg1 harg1 arg2 harg2 arg3 harg3 arg4 harg4 arg5 harg5 X1 X2 k f3' f5').1 := by
  dsimp only [tripL_k2_t1]; unfold trip_k2_t1; rfl

/-- A trip's store into the running error does not depend on what the codes held before it. -/
theorem trip2_err (k : Fin k2_t1_loop.trips) (f3 f3' : BufTy.Contents (Elt F) arg3.view.ty) (f5 : BufTy.Contents (Elt F) arg5.view.ty) :
    (tripL_k2_t1 (F := F) 𝒱 c bd i arg1 harg1 arg2 harg2 arg3 harg3 arg4 harg4 arg5 harg5 X1 X2 k f3 f5).2
      = (tripL_k2_t1 (F := F) 𝒱 c bd i arg1 harg1 arg2 harg2 arg3 harg3 arg4 harg4 arg5 harg5 X1 X2 k f3' f5).2 := by
  dsimp only [tripL_k2_t1]; unfold trip_k2_t1; rfl

/-- So the pieces of the trips before `k` do not depend on what the codes held when the loop was entered. -/
theorem pb2_indep (G3 G3' : BufTy.Contents (Elt F) arg3.view.ty) (G5 : BufTy.Contents (Elt F) arg5.view.ty) (k : ℕ) :
    pb_k2_t1 (F := F) 𝒱 c bd i arg1 harg1 arg2 harg2 arg3 harg3 arg4 harg4 arg5 harg5 X1 X2 G3 G5 k
      = pb_k2_t1 (F := F) 𝒱 c bd i arg1 harg1 arg2 harg2 arg3 harg3 arg4 harg4 arg5 harg5 X1 X2 G3' G5 k := by
  induction k with
  | zero => rfl
  | succ k ih =>
    rw [pb_k2_t1.eq_2, pb_k2_t1.eq_2, ih]; unfold pb_k2_t1Step
    split
    · rw [trip2_codes (f3 := arg3.view.writes (Elt F) G3 _) (f3' := arg3.view.writes (Elt F) G3' _),
        trip2_err (f3 := arg3.view.writes (Elt F) G3 _) (f3' := arg3.view.writes (Elt F) G3' _)]
    · rfl

end

end Cert.KernelIdeal.Gen

end
-- ==== Proof.Run.Region2A.lean ====
/-
  The third call, `out`: its body run at the first grid point.
-/
module

public import proofs.«01_k».proof.Proof.Run.OutLoop

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : cond2_0 i) (hc1 : ¬cond2_1 i)
    (x0 : Vec F S1024x1280 .f32) (x1 : Vec F S1024x1 .f32) :
    Σ' (L2 : List (View.Piece (Elt F) S1024x1280 .fp8e5m2)), Σ' (L3 : List (View.Piece (Elt F) S1024x1 .f32)), { LS0 : List (View.Piece (Elt F) S1024x128 .f32) //
      ∀ (xi3 : Vec F S1024x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2_out i arg1 harg1 arg2 harg2 arg3 harg3 arg4 harg4 arg5 harg5) K } := by
  refine ⟨?_, [], ?_, fun xi3 E K => ?run⟩
  case run =>
    simp only [cc2_out_eq_skeleton]; unfold cc2_out_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg1.eq_unread hf0; obtain rfl := harg2.eq_unread hf1; obtain rfl := harg4.eq_unread hf3
    sl_exec (disch := first | sl_exact hc0 | sl_exact hc1)
    sl_step
    rw [pb2_indep (G3 := f2) (G3' := arg3.view.junk)]
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

end Regions

end Cert.KernelIdeal.Gen

end
-- ==== Proof.Run.Region2B.lean ====
/-
  The third call, `out`: its body run at the middle grid points.
-/
module

public import proofs.«01_k».proof.Proof.Run.OutLoop

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 23: 23 of 25), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : ¬cond2_0 i) (hc1 : ¬cond2_1 i)
    (x0 : Vec F S1024x1280 .f32) (x1 : Vec F S1024x1 .f32) (xs0 : Vec F S1024x128 .f32) :
    Σ' (L2 : List (View.Piece (Elt F) S1024x1280 .fp8e5m2)), Σ' (L3 : List (View.Piece (Elt F) S1024x1 .f32)), { LS0 : List (View.Piece (Elt F) S1024x128 .f32) //
      ∀ (xi3 : Vec F S1024x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2_out i arg1 harg1 arg2 harg2 arg3 harg3 arg4 harg4 arg5 harg5) K } := by
  refine ⟨?_, [], ?_, fun xi3 E K => ?run⟩
  case run =>
    simp only [cc2_out_eq_skeleton]; unfold cc2_out_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec (disch := first | sl_exact hc0 | sl_exact hc1)
    sl_step
    rw [pb2_indep (G3 := f2) (G3' := arg3.view.junk)]
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]
    · iexists _; isplitr; · ipureintro; exact harg4.read_unread _
      iexact H3
    iexists _; iexact HS0

end Regions

end Cert.KernelIdeal.Gen

end
-- ==== Proof.Run.Region2C.lean ====
/-
  The third call, `out`: its body run at the last grid point.
-/
module

public import proofs.«01_k».proof.Proof.Run.OutLoop

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE C (`scf.if` 0 not taken, `scf.if` 1 taken: points 24), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_C (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : ¬cond2_0 i) (hc1 : cond2_1 i)
    (x0 : Vec F S1024x1280 .f32) (x1 : Vec F S1024x1 .f32) (xs0 : Vec F S1024x128 .f32) :
    Σ' (L2 : List (View.Piece (Elt F) S1024x1280 .fp8e5m2)), Σ' (L3 : List (View.Piece (Elt F) S1024x1 .f32)), { LS0 : List (View.Piece (Elt F) S1024x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc2_out i arg1 harg1 arg2 harg2 arg3 harg3 arg4 harg4 arg5 harg5) K } := by
  refine ⟨?_, ?_, ?_, fun E K => ?run⟩
  case run =>
    simp only [cc2_out_eq_skeleton]; unfold cc2_out_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | sl_exact hc0 | sl_exact hc1)
    sl_step
    unfold kernelRun2_C.sl.v7
    rw [pb2_indep (G3 := f2) (G3' := arg3.view.junk)]
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact HS0

end Regions

end Cert.KernelIdeal.Gen

end
-- ==== Proof.Run.Region2.lean ====
/-
  The third call, `out`: what its body leaves at each kind of grid point, the contents point by point, its body obligation
  and its data over the arrays it is entered with.
-/
module

public import proofs.«01_k».proof.Proof.Run.Region2A
public import proofs.«01_k».proof.Proof.Run.Region2B
public import proofs.«01_k».proof.Proof.Run.Region2C

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-- Case A's pieces for output 2 tile its block (80 stores of `S128x128`, checked by the kernel's evaluation: Lib/Ring.lean `Piece.tiledL`, linear in the pieces, through a loop's `@[irreducible]` trip theorem too), so they cover it. -/
theorem cover2_A_2 (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : cond2_0 i) (hc1 : ¬cond2_1 i)
    (x0 : Vec F S1024x1280 .f32) (x1 : Vec F S1024x1 .f32) (y : S1024x1280.Idx) :
    ∃ pc ∈ (kernelRun2_A c i arg1 harg1 arg2 harg2 arg3 harg3 arg4 harg4 arg5 harg5 hc0 hc1 x0 x1).1, y ∈ pc.1.set :=
  View.cover_of_tiledL (kernelRun2_A c i arg1 harg1 arg2 harg2 arg3 harg3 arg4 harg4 arg5 harg5 hc0 hc1 x0 x1).1 S128x128.size (by sl_kernel_rfl) y

/-- What case A leaves in output 2's staging buffer: its pieces read back over junk. -/
def out2_A_2 (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : cond2_0 i) (hc1 : ¬cond2_1 i)
    (x0 : Vec F S1024x1280 .f32) (x1 : Vec F S1024x1 .f32) : Vec F S1024x1280 .fp8e5m2 :=
  VO2_2.read (Elt F) (VO2_2.writes (Elt F) VO2_2.junk (kernelRun2_A c i arg1 harg1 arg2 harg2 arg3 harg3 arg4 harg4 arg5 harg5 hc0 hc1 x0 x1).1)

/-- Case A stores nothing into output 3 (the window is idle at its points and not written back there):
    no pieces — a placeholder (junk read back) that nothing consults, since at these points the window is neither
    written back nor read at the next point (Lib/Pipeline.lean "Idle points"). -/
def out2_A_3 (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : cond2_0 i) (hc1 : ¬cond2_1 i)
    (x0 : Vec F S1024x1280 .f32) (x1 : Vec F S1024x1 .f32) : Vec F S1024x1 .f32 :=
  VO2_3.read (Elt F) (VO2_3.writes (Elt F) VO2_3.junk (kernelRun2_A c i arg1 harg1 arg2 harg2 arg3 harg3 arg4 harg4 arg5 harg5 hc0 hc1 x0 x1).2.1)

/-- Case A's pieces for scratch `arg5`, which the kernel carries between points, cover it: one of them a store of the WHOLE buffer (Lib/Ring.lean `sl_whole_mem`). -/
theorem scover2_A_0 (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : cond2_0 i) (hc1 : ¬cond2_1 i)
    (x0 : Vec F S1024x1280 .f32) (x1 : Vec F S1024x1 .f32) (y : S1024x128.Idx) :
    ∃ pc ∈ (kernelRun2_A c i arg1 harg1 arg2 harg2 arg3 harg3 arg4 harg4 arg5 harg5 hc0 hc1 x0 x1).2.2.1, y ∈ pc.1.set :=
  View.cover_of_wholeMem (kernelRun2_A c i arg1 harg1 arg2 harg2 arg3 harg3 arg4 harg4 arg5 harg5 hc0 hc1 x0 x1).2.2.1 (by sl_whole_mem) y

/-- What case A leaves in scratch `arg5`: its pieces read back over junk. -/
def sout2_A_0 (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : cond2_0 i) (hc1 : ¬cond2_1 i)
    (x0 : Vec F S1024x1280 .f32) (x1 : Vec F S1024x1 .f32) : Vec F S1024x128 .f32 :=
  VS2_0.read (Elt F) (VS2_0.writes (Elt F) VS2_0.junk (kernelRun2_A c i arg1 harg1 arg2 harg2 arg3 harg3 arg4 harg4 arg5 harg5 hc0 hc1 x0 x1).2.2.1)

/-- Case B's pieces for output 2 tile its block (80 stores of `S128x128`, checked by the kernel's evaluation: Lib/Ring.lean `Piece.tiledL`, linear in the pieces, through a loop's `@[irreducible]` trip theorem too), so they cover it. -/
theorem cover2_B_2 (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : ¬cond2_0 i) (hc1 : ¬cond2_1 i)
    (x0 : Vec F S1024x1280 .f32) (x1 : Vec F S1024x1 .f32) (xs0 : Vec F S1024x128 .f32) (y : S1024x1280.Idx) :
    ∃ pc ∈ (kernelRun2_B c i arg1 harg1 arg2 harg2 arg3 harg3 arg4 harg4 arg5 harg5 hc0 hc1 x0 x1 xs0).1, y ∈ pc.1.set :=
  View.cover_of_tiledL (kernelRun2_B c i arg1 harg1 arg2 harg2 arg3 harg3 arg4 harg4 arg5 harg5 hc0 hc1 x0 x1 xs0).1 S128x128.size (by sl_kernel_rfl) y

/-- What case B leaves in output 2's staging buffer: its pieces read back over junk. -/
def out2_B_2 (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : ¬cond2_0 i) (hc1 : ¬cond2_1 i)
    (x0 : Vec F S1024x1280 .f32) (x1 : Vec F S1024x1 .f32) (xs0 : Vec F S1024x128 .f32) : Vec F S1024x1280 .fp8e5m2 :=
  VO2_2.read (Elt F) (VO2_2.writes (Elt F) VO2_2.junk (kernelRun2_B c i arg1 harg1 arg2 harg2 arg3 harg3 arg4 harg4 arg5 harg5 hc0 hc1 x0 x1 xs0).1)

/-- Case B stores nothing into output 3 (the window is idle at its points and not written back there):
    no pieces — a placeholder (junk read back) that nothing consults, since at these points the window is neither
    written back nor read at the next point (Lib/Pipeline.lean "Idle points"). -/
def out2_B_3 (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : ¬cond2_0 i) (hc1 : ¬cond2_1 i)
    (x0 : Vec F S1024x1280 .f32) (x1 : Vec F S1024x1 .f32) (xs0 : Vec F S1024x128 .f32) : Vec F S1024x1 .f32 :=
  VO2_3.read (Elt F) (VO2_3.writes (Elt F) VO2_3.junk (kernelRun2_B c i arg1 harg1 arg2 harg2 arg3 harg3 arg4 harg4 arg5 harg5 hc0 hc1 x0 x1 xs0).2.1)

/-- Case B's pieces for scratch `arg5`, which the kernel carries between points, cover it: 8 pieces of `S128x128` tiling it (Lib/Ring.lean `Piece.tiledL`). -/
theorem scover2_B_0 (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : ¬cond2_0 i) (hc1 : ¬cond2_1 i)
    (x0 : Vec F S1024x1280 .f32) (x1 : Vec F S1024x1 .f32) (xs0 : Vec F S1024x128 .f32) (y : S1024x128.Idx) :
    ∃ pc ∈ (kernelRun2_B c i arg1 harg1 arg2 harg2 arg3 harg3 arg4 harg4 arg5 harg5 hc0 hc1 x0 x1 xs0).2.2.1, y ∈ pc.1.set :=
  View.cover_of_tiledL (kernelRun2_B c i arg1 harg1 arg2 harg2 arg3 harg3 arg4 harg4 arg5 harg5 hc0 hc1 x0 x1 xs0).2.2.1 S128x128.size (by sl_kernel_rfl) y

/-- What case B leaves in scratch `arg5`: its pieces read back over junk. -/
def sout2_B_0 (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : ¬cond2_0 i) (hc1 : ¬cond2_1 i)
    (x0 : Vec F S1024x1280 .f32) (x1 : Vec F S1024x1 .f32) (xs0 : Vec F S1024x128 .f32) : Vec F S1024x128 .f32 :=
  VS2_0.read (Elt F) (VS2_0.writes (Elt F) VS2_0.junk (kernelRun2_B c i arg1 harg1 arg2 harg2 arg3 harg3 arg4 harg4 arg5 harg5 hc0 hc1 x0 x1 xs0).2.2.1)

/-- Case C's pieces for output 2 tile its block (80 stores of `S128x128`, checked by the kernel's evaluation: Lib/Ring.lean `Piece.tiledL`, linear in the pieces, through a loop's `@[irreducible]` trip theorem too), so they cover it. -/
theorem cover2_C_2 (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : ¬cond2_0 i) (hc1 : cond2_1 i)
    (x0 : Vec F S1024x1280 .f32) (x1 : Vec F S1024x1 .f32) (xs0 : Vec F S1024x128 .f32) (y : S1024x1280.Idx) :
    ∃ pc ∈ (kernelRun2_C c i arg1 harg1 arg2 harg2 arg3 harg3 arg4 harg4 arg5 harg5 hc0 hc1 x0 x1 xs0).1, y ∈ pc.1.set :=
  View.cover_of_tiledL (kernelRun2_C c i arg1 harg1 arg2 harg2 arg3 harg3 arg4 harg4 arg5 harg5 hc0 hc1 x0 x1 xs0).1 S128x128.size (by sl_kernel_rfl) y

/-- What case C leaves in output 2's staging buffer: its pieces read back over junk. -/
def out2_C_2 (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : ¬cond2_0 i) (hc1 : cond2_1 i)
    (x0 : Vec F S1024x1280 .f32) (x1 : Vec F S1024x1 .f32) (xs0 : Vec F S1024x128 .f32) : Vec F S1024x1280 .fp8e5m2 :=
  VO2_2.read (Elt F) (VO2_2.writes (Elt F) VO2_2.junk (kernelRun2_C c i arg1 harg1 arg2 harg2 arg3 harg3 arg4 harg4 arg5 harg5 hc0 hc1 x0 x1 xs0).1)

/-- Case C's pieces for output 3 tile its block (1 store of `S1024x1`, checked by the kernel's evaluation: Lib/Ring.lean `Piece.tiledL`, linear in the pieces, through a loop's `@[irreducible]` trip theorem too), so they cover it. -/
theorem cover2_C_3 (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : ¬cond2_0 i) (hc1 : cond2_1 i)
    (x0 : Vec F S1024x1280 .f32) (x1 : Vec F S1024x1 .f32) (xs0 : Vec F S1024x128 .f32) (y : S1024x1.Idx) :
    ∃ pc ∈ (kernelRun2_C c i arg1 harg1 arg2 harg2 arg3 harg3 arg4 harg4 arg5 harg5 hc0 hc1 x0 x1 xs0).2.1, y ∈ pc.1.set :=
  View.cover_of_tiledL (kernelRun2_C c i arg1 harg1 arg2 harg2 arg3 harg3 arg4 harg4 arg5 harg5 hc0 hc1 x0 x1 xs0).2.1 S1024x1.size (by sl_kernel_rfl) y

/-- What case C leaves in output 3's staging buffer: its pieces read back over junk. -/
def out2_C_3 (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : ¬cond2_0 i) (hc1 : cond2_1 i)
    (x0 : Vec F S1024x1280 .f32) (x1 : Vec F S1024x1 .f32) (xs0 : Vec F S1024x128 .f32) : Vec F S1024x1 .f32 :=
  VO2_3.read (Elt F) (VO2_3.writes (Elt F) VO2_3.junk (kernelRun2_C c i arg1 harg1 arg2 harg2 arg3 harg3 arg4 harg4 arg5 harg5 hc0 hc1 x0 x1 xs0).2.1)

/-- Case C's pieces for scratch `arg5`, which the kernel carries between points, cover it: 8 pieces of `S128x128` tiling it (Lib/Ring.lean `Piece.tiledL`). -/
theorem scover2_C_0 (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : ¬cond2_0 i) (hc1 : cond2_1 i)
    (x0 : Vec F S1024x1280 .f32) (x1 : Vec F S1024x1 .f32) (xs0 : Vec F S1024x128 .f32) (y : S1024x128.Idx) :
    ∃ pc ∈ (kernelRun2_C c i arg1 harg1 arg2 harg2 arg3 harg3 arg4 harg4 arg5 harg5 hc0 hc1 x0 x1 xs0).2.2.1, y ∈ pc.1.set :=
  View.cover_of_tiledL (kernelRun2_C c i arg1 harg1 arg2 harg2 arg3 harg3 arg4 harg4 arg5 harg5 hc0 hc1 x0 x1 xs0).2.2.1 S128x128.size (by sl_kernel_rfl) y

/-- What case C leaves in scratch `arg5`: its pieces read back over junk. -/
def sout2_C_0 (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : ¬cond2_0 i) (hc1 : cond2_1 i)
    (x0 : Vec F S1024x1280 .f32) (x1 : Vec F S1024x1 .f32) (xs0 : Vec F S1024x128 .f32) : Vec F S1024x128 .f32 :=
  VS2_0.read (Elt F) (VS2_0.writes (Elt F) VS2_0.junk (kernelRun2_C c i arg1 harg1 arg2 harg2 arg3 harg3 arg4 harg4 arg5 harg5 hc0 hc1 x0 x1 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S1024x1280 .fp8e5m2 × Vec F S1024x1 .f32 × Vec F S1024x128 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 25 = 0 then
      if h1 : (n + 1) % 25 = 24 then
        False.elim (by have hN : n + 1 < 25 := lt_of_lt_of_eq hn (show cfg2.N = 25 from N_2); omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 25 = 24 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2.2, out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2.2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2.2, out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2.2)

/-- `outsAt2` at a point of case A: that case's contents. -/
theorem outsAt2_A (c : Dev nD) (t : Fin cfg2.N) (h0 : t.val % 25 = 0) (h1 : ¬t.val % 25 = 24) :
    outsAt2 V c t.val t.isLt = (out2_A_2 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t), out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 25 = 0) (h1 : ¬t.val % 25 = 24) :
    outsAt2 V c t.val t.isLt = (out2_B_2 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2.2, out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2.2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 25 = 0) (h1 : t.val % 25 = 24) :
    outsAt2 V c t.val t.isLt = (out2_C_2 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.2, out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt2`'s scratch components), the others at anything, and the generator register
    at some state. -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ owns (c : Thread nD τ) scM2_0 fullShare ((outsAt2 V c n hn).2.2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the carried scratch at that point's contents. -/
theorem PhiS2_succ (c : Dev nD) (n : ℕ) (hn : n < cfg2.N) :
    PhiS2 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ owns (c : Thread nD τ) scM2_0 fullShare ((outsAt2 V c n hn).2.2)) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ owns (c : Thread nD τ) scM2_0 fullShare ((outsAt2 V c (n - 1) (by omega)).2.2)) ∗ (∃ r, prngReg c r)) := by
  cases n with
  | zero => exact absurd rfl hz
  | succ n => rfl

/-! ## The pipeline's proof data -/

/-- The proof data of pipeline 2 on core `c`: the arrays as the region finds them (`V`); after the body at
    point `t` each input's buffer at its block and the outputs' at `outsAt2`; the invariant the class's
    (`PhiS2`: the class's `ΦA` before the first point, then the scoped rest with the carried scratch at `outsAt2`'s component);
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
    | ⟨3, _⟩ => (outsAt2 V c t.val t.isLt).2.1
  Φ t := PhiS2 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- The invariant at a point's start (the proof data at `t.castSucc`), restated at `t.val`. -/
theorem PhiS2_castSucc (c : Dev nD) (t : Fin cfg2.N) :
    (dat2 V c).Φ t.castSucc = PhiS2 V c t.val (Nat.le_of_lt t.isLt) := by
  dsimp only [dat2]; exact Pipeline.Dat.Φ_castSucc (PhiS2 V c) t

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem after2_3 (c : Dev nD) (t : Fin cfg2.N) : (dat2 V c).after 3 t = (outsAt2 V c t.val t.isLt).2.1 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 12000000 in
/-- The body at any point: the inputs' memrefs hold their blocks (`before2_W`); the closed forms say which case the point is in (`by_cases`), an output the case reads before covering holds what the point before left (`before2_W_κ`); so the
    run applies; the invariant hands the body the carried scratch at what the point before left (`PhiS2_pos`; at anything at the first point, `PhiS2_zero`), the other scratch buffers and the generator register at some state, and takes the carried scratch back at this point's contents (`PhiS2_succ`, by `scoverK_κ_N`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 25 := lt_of_lt_of_eq t.isLt (show cfg2.N = 25 from N_2)
  by_cases h0 : t.val % 25 = 0
  · by_cases h1 : t.val % 25 = 24
    · exfalso; omega
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      by_cases hz : t.val = 0
      · rw [PhiS2_castSucc V c t, PhiS2_zero V c _ _ hz, PhiA2_eq]
        rw [outsAt2_A V c t h0 h1]
        unfold out2_A_2 sout2_A_0; (try dsimp only)
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t)).2.2.2 _ Set.univ _)
        isplitl [H0]; · iexact H0
        isplitl [H1]; · iexact H1
        isplitl [H2]; · iexists _; iexact H2
        isplitl [H3]; · iexact H3
        isplitl [HS0]; · iexact HS0
        iintro ⟨H0, H1, ⟨%e2, H2⟩, H3, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            unfold owns; iexists _; isplitr
            swap; · iexact HS0
            ipureintro; exact View.read_writes_of_cover _ _ _ _ _ (scover2_A_0 c _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover2_A_2 c _ _ _ _ _ _ _ _ _ _ _ _ _ _ _)
        iexists _; iexact H3
      · exfalso; have hN : t.val < 25 := lt_of_lt_of_eq t.isLt (show cfg2.N = 25 from N_2); omega
  · by_cases h1 : t.val % 25 = 24
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [show (dat2 V c).leavesExact 3 t = owns (c : Thread nD τ) (ms2_3 t) fullShare ((dat2 V c).after 3 t) from by
      unfold Dat.leavesExact; rw [liveAt2_3_C t (fun h => h0 ((hcond2_0 t).mp h)) ((hcond2_1 t).mpr h1)], after2_3]
      by_cases hz : t.val = 0
      · exfalso; have hN : t.val < 25 := lt_of_lt_of_eq t.isLt (show cfg2.N = 25 from N_2); omega
      · rw [PhiS2_castSucc V c t, PhiS2_pos V c _ _ hz]
        rw [outsAt2_C V c t h0 h1]
        unfold out2_C_2 out2_C_3 sout2_C_0; (try dsimp only)
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) _).2.2.2 Set.univ _)
        isplitl [H0]; · iexact H0
        isplitl [H1]; · iexact H1
        isplitl [H2]; · iexists _; iexact H2
        isplitl [H3]; · iexists _; iexact H3
        isplitl [HS0]; · iexact HS0
        iintro ⟨H0, H1, ⟨%e2, H2⟩, ⟨%e3, H3⟩, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            unfold owns; iexists _; isplitr
            swap; · iexact HS0
            ipureintro; exact View.read_writes_of_cover _ _ _ _ _ (scover2_C_0 c _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover2_C_2 c _ _ _ _ _ _ _ _ _ _ _ _ _ _ _ _)
        unfold owns; iexists _; isplitr
        swap; · iexact H3
        ipureintro; exact View.read_writes_of_cover _ _ _ _ _ (cover2_C_3 c _ _ _ _ _ _ _ _ _ _ _ _ _ _ _ _)
    · rw [show (dat2 V c).leavesExact 0 t = owns (c : Thread nD τ) (ms2_0 t) fullShare ((dat2 V c).after 0 t) from by
      unfold Dat.leavesExact; rw [liveAt2_0 t], after2_0]
      rw [show (dat2 V c).leavesExact 1 t = owns (c : Thread nD τ) (ms2_1 t) fullShare ((dat2 V c).after 1 t) from by
      unfold Dat.leavesExact; rw [liveAt2_1 t], after2_1]
      rw [show (dat2 V c).leavesExact 2 t = owns (c : Thread nD τ) (ms2_2 t) fullShare ((dat2 V c).after 2 t) from by
      unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      by_cases hz : t.val = 0
      · exfalso; have hN : t.val < 25 := lt_of_lt_of_eq t.isLt (show cfg2.N = 25 from N_2); omega
      · rw [PhiS2_castSucc V c t, PhiS2_pos V c _ _ hz]
        rw [outsAt2_B V c t h0 h1]
        unfold out2_B_2 sout2_B_0; (try dsimp only)
        iintro ⟨⟨⟨HR0, HR1, HR2, HR3, HR4, HR5, HR6, HR7, HR8, HR9, HR10, HR11, HR12, HR13, HS0⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) _).2.2.2 _ Set.univ _)
        isplitl [H0]; · iexact H0
        isplitl [H1]; · iexact H1
        isplitl [H2]; · iexists _; iexact H2
        isplitl [H3]; · iexact H3
        isplitl [HS0]; · iexact HS0
        iintro ⟨H0, H1, ⟨%e2, H2⟩, H3, ⟨%es0, HS0⟩⟩
        isplitl [HR0 HR1 HR2 HR3 HR4 HR5 HR6 HR7 HR8 HR9 HR10 HR11 HR12 HR13 HS0 Hg]
        · isplitl [HR0 HR1 HR2 HR3 HR4 HR5 HR6 HR7 HR8 HR9 HR10 HR11 HR12 HR13 HS0]
          · isplitl [HR0]
            · iexact HR0
            isplitl [HR1]
            · iexact HR1
            isplitl [HR2]
            · iexact HR2
            isplitl [HR3]
            · iexact HR3
            isplitl [HR4]
            · iexact HR4
            isplitl [HR5]
            · iexact HR5
            isplitl [HR6]
            · iexact HR6
            isplitl [HR7]
            · iexact HR7
            isplitl [HR8]
            · iexact HR8
            isplitl [HR9]
            · iexact HR9
            isplitl [HR10]
            · iexact HR10
            isplitl [HR11]
            · iexact HR11
            isplitl [HR12]
            · iexact HR12
            isplitl [HR13]
            · iexact HR13
            unfold owns; iexists _; isplitr
            swap; · iexact HS0
            ipureintro; exact View.read_writes_of_cover _ _ _ _ _ (scover2_B_0 c _ _ _ _ _ _ _ _ _ _ _ _ _ _ _ _)
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover2_B_2 c _ _ _ _ _ _ _ _ _ _ _ _ _ _ _ _)
        iexists _; iexact H3

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- What the launch hands the region (`ΦA`) is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives `ΦA` back: the carried scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HR0, HR1, HR2, HR3, HR4, HR5, HR6, HR7, HR8, HR9, HR10, HR11, HR12, HR13, HS0⟩, Hg⟩
  isplitl [HR0 HR1 HR2 HR3 HR4 HR5 HR6 HR7 HR8 HR9 HR10 HR11 HR12 HR13 HS0]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 25 := N_2; omega)

end Regions

end Cert.KernelIdeal.Gen

end
-- ==== Proof.Run.Hosts0.lean ====
/-
  The host operations between the calls.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v5, main_v6, main_v7]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

end Cert.KernelIdeal.Gen

end
-- ==== Proof.Run.Fold0.lean ====
/-
  The contents of every buffer at each boundary of @main: at launch, after the host operations, after each call, at the end.
-/
module

public import proofs.«01_k».proof.Proof.Run.Region0
public import proofs.«01_k».proof.Proof.Run.Region1
public import proofs.«01_k».proof.Proof.Run.Region2
public import proofs.«01_k».proof.Proof.Run.Hosts0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`) (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A reference that is none of region 2's OUTPUT arrays keeps its entry contents across it: an input window's
    array is never written back (`Dat.arrAt_in`, `A_eq2`); any other buffer is left as is. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same read at the TensorCore's references (region 2's exit contents). -/
abbrev V4 : (c : Dev nD) → (b : Ref sig .tc) → Buf (Elt F) ((c : Thread nD τ).loc b) := fun c b => W4 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After `hostOps3`. -/
abbrev W5 : Dev nD → Valuation τ sig (Elt F) := fun c => StableHlo.after hostOps3 (W4 m ρ c)
/-- A reference `hostOps3` does not write keeps its contents across it. -/
theorem W5_of (c : Dev nD) (r : Ref sig .tc) (h : r ∉ hostOps3_W) : W5 m ρ c (Proc.devRef .tc r) = W4 m ρ c (Proc.devRef .tc r) :=
  StableHlo.after_of_writes_sub hostOps3 _ hostOps3_writes h
theorem W5_args (c : Dev nD) : ∀ a ∈ argRefs, W5 m ρ c (Proc.devRef .tc a) = m ((c : Thread nD τ).loc a) :=
  fun a ha => (W5_of m ρ c a (hostOps3_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)
end Cert.KernelIdeal.Gen

end
-- ==== Proof.Run.State.lean ====
/-
  The thread state that @main carries from segment to segment.
-/
module

public import proofs.«01_k».proof.Proof.Run.Fold0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

end Cert.KernelIdeal.Gen

end
-- ==== Proof.Run.Record0.lean ====
/-
  The first call as a segment of @main.
-/
module

public import proofs.«01_k».proof.Proof.Run.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Run.Record1.lean ====
/-
  The second call as a segment of @main.
-/
module

public import proofs.«01_k».proof.Proof.Run.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m ρ 1 c).Φ 0 := hin1 (V2 m ρ) c
    iintro ⟨Hp, -, Hr⟩
    iapply h
    unfold Pipeline.ΦA
    isplitl [Hr]; · iexact Hr
    iexact Hp
  hout c := by
    have h : (pdats m ρ 1 c).Φ (Fin.last _) ⊢ Pipeline.ΦA spec1 c := hout1 (V2 m ρ) c
    rw [Pipeline.ownSems0_none]
    iintro H
    ihave H := h $$ H
    unfold Pipeline.ΦA
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Run.Record2.lean ====
/-
  The third call as a segment of @main.
-/
module

public import proofs.«01_k».proof.Proof.Run.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec2 c ⊢ (pdats m ρ 2 c).Φ 0 := hin2 (V3 m ρ) c
    iintro ⟨Hp, -, Hr⟩
    iapply h
    unfold Pipeline.ΦA
    isplitl [Hr]; · iexact Hr
    iexact Hp
  hout c := by
    have h : (pdats m ρ 2 c).Φ (Fin.last _) ⊢ Pipeline.ΦA spec2 c := hout2 (V3 m ρ) c
    rw [Pipeline.ownSems0_none]
    iintro H
    ihave H := h $$ H
    unfold Pipeline.ΦA
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Run.Frame.lean ====
/-
  The run of @main as a whole, and the frame that follows from it.
-/
module

public import proofs.«01_k».proof.Proof.Run.Record0
public import proofs.«01_k».proof.Proof.Run.Record1
public import proofs.«01_k».proof.Proof.Run.Record2

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has every unscoped buffer at the contents `W5` the fold
    through the five segments computes, and every semaphore counter of the machine at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨fun c => h c, funext fun g => hz g (.inr (no_unscoped g.2))⟩)

/-- THE FRAME: every run of @main terminates with the argument arrays as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun s h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩, h.2⟩) (run_all m ρ)

end Cert.KernelIdeal.Gen

end
-- ==== Proof.Run.KernelFrame.lean ====
/-
  The program as compiled and the program read over the extended reals are printed with the same text. So the frame,
  proved once at any kind of float, is the frame of both.
-/
module

public import proofs.«01_k».proof.Defs
public import proofs.«01_k».proof.Proof.Gen.Kernel
public import proofs.«01_k».proof.Proof.Run.Frame

@[expose] public section

set_option maxRecDepth 16384

noncomputable section

namespace Cert.KernelFrame
open Idealize.ShloMosaic Idealize.ShloMosaic.TcCoe Idealize.ShloMosaic.Tactic Idealize.SL.Sem

attribute [local instance] Cert.Kernel.Gen.facts

/-- The two programs have the same @main. -/
theorem main_eq (c) : Cert.Kernel.main (F := Bits) c = Cert.KernelIdeal.main (F := Bits) c := rfl

/-- They have the same body table. -/
theorem defs0_eq : Cert.Kernel.defs₀ (F := Bits) = Cert.KernelIdeal.defs₀ (F := Bits) := by
  refine congrArg (Defs.onTc (nD := Cert.Kernel.nD) (τ := Cert.Kernel.τ) (sig := Cert.Kernel.sig) (Val := Elt Bits) (Λ := Cert.Kernel.Λ₀)) ?_
  funext l a
  obtain ⟨l, h⟩ := l
  match l, h with
  | 0, _ => obtain ⟨t, s⟩ := a; change _ = _; chain_rfl
  | 1, _ => obtain ⟨t, s⟩ := a; change _ = _; chain_rfl
  | 2, _ => obtain ⟨t, s⟩ := a; change _ = _; chain_rfl
  | n + 3, h => exact absurd h (Nat.not_lt.2 (Nat.le_add_left _ _))

/-- They have the same definitions: each call with its body. -/
theorem defs_eq : Cert.Kernel.defs (F := Bits) = Cert.KernelIdeal.defs (F := Bits) :=
  congrArg (Pipeline.defs (Cert.Kernel.pcfgs (F := Bits))) defs0_eq

/-- The frame of the program as it is compiled, from the frame of its ideal twin at bit-exact floats. -/
theorem frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  rw [defs_eq, show Cert.Kernel.main (F := Bits) = Cert.KernelIdeal.main (F := Bits) from funext fun c => main_eq c]
  exact Cert.KernelIdeal.Gen.frame (F := Bits) m g
end Cert.KernelFrame
end
-- ==== Proof.Math.Codes.lean ====
/-
  The four-bit codes and the block exponents as numbers.

  A code `n` (four bits) stands for `e2m1 n`: sign, then 0, 1/2, 1, 3/2, 2, 3, 4 or 6. The kernel moves the code's bits to
  the places where an eight-bit float has its sign, its lowest exponent bits and its highest fraction bit; that float is
  `e2m1 n / 64`. The block exponent `e` stands for `2 ^ (e - 127)`, with 0 at the bottom and infinity at the top; the
  kernel writes `e` into the exponent field of a sixteen-bit float.
-/
module

public import Idealize.ShloMosaic.PureOps
public import Idealize.ShloMosaic.PureOps.Ideal

@[expose] public section

noncomputable section

namespace Cert.Math

open Idealize.ShloMosaic

/-- The size of a four-bit code: its low three bits pick one of eight. -/
def mag (n : BitVec 4) : ℝ :=
  if n.getLsbD 2 then (if n.getLsbD 1 then (if n.getLsbD 0 then 6 else 4) else (if n.getLsbD 0 then 3 else 2))
  else (if n.getLsbD 1 then (if n.getLsbD 0 then 3 / 2 else 1) else (if n.getLsbD 0 then 1 / 2 else 0))

/-- The number a four-bit code stands for. -/
def e2m1 (n : BitVec 4) : ℝ := if n.getLsbD 3 then -mag n else mag n

/-- The low code of a byte. -/
def lo (b : BitVec 8) : BitVec 4 := b.extractLsb' 0 4
/-- The high code of a byte. -/
def hi (b : BitVec 8) : BitVec 4 := b.extractLsb' 4 4

/-- A code's bits where an eight-bit float has them. -/
def place (n : BitVec 4) : BitVec 8 :=
  ((n.setWidth 8 <<< 4) &&& 0x80#8) ||| ((n.setWidth 8 <<< 2) &&& 0x1C#8)

/-- Read as an eight-bit float the placed bits are the code's number over 64. -/
theorem ofBits_place (n : BitVec 4) : Ideal.ofBits .fp8e4m3 (place n) = ((e2m1 n / 64 : ℝ) : EReal) := by
  have key : ∀ k : Fin 16, Ideal.ofBits .fp8e4m3 (place (BitVec.ofFin k)) = ((e2m1 (BitVec.ofFin k) / 64 : ℝ) : EReal) := by
    intro k
    fin_cases k <;>
      · simp [Ideal.ofBits, Ideal.e4m3fn, place, e2m1, mag, -EReal.coe_mul]
        try norm_num
  exact key n.toFin

/-- The scale a block exponent stands for, as the sixteen-bit float of that exponent field. -/
def scale (e : BitVec 8) : EReal := Ideal.ofBits .bf16 ((e.setWidth 32 <<< 7).setWidth 16)

/-- The code a reference selects through three magnitude bits and a sign bit, as the number. -/
theorem select_e2m1 (n : BitVec 4) (x : BitVec 32) (hx : x = n.setWidth 32) :
    Scalar.select (IntOp.cmpi .ne (IntOp.andi x 8#32) 0#32)
        ((0 : EReal) - Scalar.select (IntOp.cmpi .ne (IntOp.andi x 4#32) 0#32)
          (Scalar.select (IntOp.cmpi .ne (IntOp.andi x 2#32) 0#32)
            (Scalar.select (IntOp.cmpi .ne (IntOp.andi x 1#32) 0#32) (Ideal.ofBits .f32 0x40C00000#32) (Ideal.ofBits .f32 0x40800000#32))
            (Scalar.select (IntOp.cmpi .ne (IntOp.andi x 1#32) 0#32) (Ideal.ofBits .f32 0x40400000#32) (Ideal.ofBits .f32 0x40000000#32)))
          (Scalar.select (IntOp.cmpi .ne (IntOp.andi x 2#32) 0#32)
            (Scalar.select (IntOp.cmpi .ne (IntOp.andi x 1#32) 0#32) (Ideal.ofBits .f32 0x3FC00000#32) (Ideal.ofBits .f32 0x3F800000#32))
            (Scalar.select (IntOp.cmpi .ne (IntOp.andi x 1#32) 0#32) (Ideal.ofBits .f32 0x3F000000#32) 0)))
        (Scalar.select (IntOp.cmpi .ne (IntOp.andi x 4#32) 0#32)
          (Scalar.select (IntOp.cmpi .ne (IntOp.andi x 2#32) 0#32)
            (Scalar.select (IntOp.cmpi .ne (IntOp.andi x 1#32) 0#32) (Ideal.ofBits .f32 0x40C00000#32) (Ideal.ofBits .f32 0x40800000#32))
            (Scalar.select (IntOp.cmpi .ne (IntOp.andi x 1#32) 0#32) (Ideal.ofBits .f32 0x40400000#32) (Ideal.ofBits .f32 0x40000000#32)))
          (Scalar.select (IntOp.cmpi .ne (IntOp.andi x 2#32) 0#32)
            (Scalar.select (IntOp.cmpi .ne (IntOp.andi x 1#32) 0#32) (Ideal.ofBits .f32 0x3FC00000#32) (Ideal.ofBits .f32 0x3F800000#32))
            (Scalar.select (IntOp.cmpi .ne (IntOp.andi x 1#32) 0#32) (Ideal.ofBits .f32 0x3F000000#32) 0)))
      = ((e2m1 n : ℝ) : EReal) := by
  subst hx
  have c6 : Ideal.ofBits .f32 0x40C00000#32 = ((6 : ℝ) : EReal) := by simp [Ideal.ofBits, Ideal.ieee, -EReal.coe_mul]; norm_num
  have c4 : Ideal.ofBits .f32 0x40800000#32 = ((4 : ℝ) : EReal) := by simp [Ideal.ofBits, Ideal.ieee, -EReal.coe_mul]; norm_num
  have c3 : Ideal.ofBits .f32 0x40400000#32 = ((3 : ℝ) : EReal) := by simp [Ideal.ofBits, Ideal.ieee, -EReal.coe_mul]; norm_num
  have c2 : Ideal.ofBits .f32 0x40000000#32 = ((2 : ℝ) : EReal) := by simp [Ideal.ofBits, Ideal.ieee, -EReal.coe_mul]; norm_num
  have c32 : Ideal.ofBits .f32 0x3FC00000#32 = ((3 / 2 : ℝ) : EReal) := by simp [Ideal.ofBits, Ideal.ieee, -EReal.coe_mul]; norm_num
  have c1 : Ideal.ofBits .f32 0x3F800000#32 = ((1 : ℝ) : EReal) := by simp [Ideal.ofBits, Ideal.ieee, -EReal.coe_mul]; norm_num
  have c12 : Ideal.ofBits .f32 0x3F000000#32 = ((1 / 2 : ℝ) : EReal) := by simp [Ideal.ofBits, Ideal.ieee, -EReal.coe_mul]; norm_num
  rw [c6, c4, c3, c2, c32, c1, c12, show (0 : EReal) = ((0 : ℝ) : EReal) from rfl]
  have bit : ∀ (m : BitVec 4) (q : Fin 4),
      IntOp.cmpi .ne (IntOp.andi (m.setWidth 32) (BitVec.twoPow 32 q.val)) 0#32 = BitVec.ofBool (m.getLsbD q.val) := by
    decide
  have b0 := bit n 0
  have b1 := bit n 1
  have b2 := bit n 2
  have b3 := bit n 3
  change IntOp.cmpi .ne (IntOp.andi (n.setWidth 32) 1#32) 0#32 = BitVec.ofBool (n.getLsbD 0) at b0
  change IntOp.cmpi .ne (IntOp.andi (n.setWidth 32) 2#32) 0#32 = BitVec.ofBool (n.getLsbD 1) at b1
  change IntOp.cmpi .ne (IntOp.andi (n.setWidth 32) 4#32) 0#32 = BitVec.ofBool (n.getLsbD 2) at b2
  change IntOp.cmpi .ne (IntOp.andi (n.setWidth 32) 8#32) 0#32 = BitVec.ofBool (n.getLsbD 3) at b3
  rw [b0, b1, b2, b3]
  unfold e2m1 mag
  cases n.getLsbD 0 <;> cases n.getLsbD 1 <;> cases n.getLsbD 2 <;> cases n.getLsbD 3 <;>
    simp [Scalar.select, BitVec.ofBool]

/-- The scale the reference writes: two to the exponent less 127, with zero at the bottom and infinity at the top. -/
theorem select_scale (e : BitVec 8) :
    Scalar.select (IntOp.cmpi .slt (IntOp.subi (e.setWidth 32) 127#32) 4294967170#32) (0 : EReal)
        (Scalar.select (IntOp.cmpi .sgt (IntOp.subi (e.setWidth 32) 127#32) 127#32) (⊤ : EReal)
          (Ideal.exp2 (((IntOp.subi (e.setWidth 32) 127#32).toInt : ℝ) : EReal)))
      = scale e := by
  have h1 : ∀ e : BitVec 8, IntOp.cmpi .slt (IntOp.subi (e.setWidth 32) 127#32) 4294967170#32 = BitVec.ofBool (e == 0#8) := by
    decide +kernel
  have h2 : ∀ e : BitVec 8, IntOp.cmpi .sgt (IntOp.subi (e.setWidth 32) 127#32) 127#32 = BitVec.ofBool (e == 255#8) := by
    decide +kernel
  have h3 : ∀ e : BitVec 8, (IntOp.subi (e.setWidth 32) 127#32).toInt = (e.toNat : Int) - 127 := by decide +kernel
  have f1 : ∀ e : BitVec 8, (((e.setWidth 32 <<< 7).setWidth 16).extractLsb' (8 + 7) 1 == 1#1) = false := by decide +kernel
  have f2 : ∀ e : BitVec 8, (((e.setWidth 32 <<< 7).setWidth 16 : BitVec 16).extractLsb' 7 8).toNat = e.toNat := by decide +kernel
  have f3 : ∀ e : BitVec 8, (((e.setWidth 32 <<< 7).setWidth 16 : BitVec 16).extractLsb' 0 7).toNat = 0 := by decide +kernel
  rw [h1, h2, h3]
  unfold scale Ideal.ofBits Ideal.ieee
  dsimp only
  erw [f1, f2, f3]
  by_cases h0 : e = 0#8
  · subst h0; simp [Scalar.select]
  by_cases h255 : e = 255#8
  · subst h255; simp [Scalar.select]
  have n0 : e.toNat ≠ 0 := fun h => h0 (BitVec.eq_of_toNat_eq (by simpa using h))
  have n255 : e.toNat ≠ 255 := fun h => h255 (BitVec.eq_of_toNat_eq (by simpa using h))
  have q0 : (e == 0#8) = false := by simpa using h0
  have q1 : (e == 255#8) = false := by simpa using h255
  rw [q0, q1, if_neg (by simpa using n255), if_neg n0]
  have hz : (2 : ℝ) ^ ((e.toNat : ℤ) - (2 ^ (8 - 1) - 1) - (7 : ℕ)) * 128 = (2 : ℝ) ^ ((e.toNat : ℤ) - 127) := by
    rw [show (128 : ℝ) = (2 : ℝ) ^ (7 : ℤ) by norm_num, ← zpow_add₀ (by norm_num : (2 : ℝ) ≠ 0)]
    congr 1; norm_num
  change ((Real.rpow 2 (((e.toNat : ℤ) - 127 : ℤ) : ℝ) : ℝ) : EReal) = _
  rw [Real.rpow_eq_pow, Real.rpow_intCast, ← hz]
  congr 1
  norm_num
  ring

end Cert.Math

end
-- ==== Proof.Math.Words.lean ====
/-
  Words read as bytes and halves, and the kernel's field moves on words.

  A 32-bit word holds four bytes of one column, rows `4a` to `4a + 3`, the lowest row in the lowest byte. The kernel moves the
  code bits of all four bytes at once; here is that each byte of the moved word is the placed code of that byte.
-/
module

public import proofs.«01_k».proof.Proof.Math.Codes
public import Idealize.ShloMosaic.Lib.BitcastPair
public import Idealize.ShloMosaic.Lib.BitcastFour
public import Idealize.ShloMosaic.Lib.Pointwise

@[expose] public section

noncomputable section

namespace Cert.Math

open Idealize.ShloMosaic

/-- A bit of a reinterpreted rank-2 array: bit `q` of row `a` is bit `q'` of the source row `p` at the same bit position of
    the column. -/
theorem bitcast2_bit {R r n v w : Nat} (x : (⟨2, ![R, n]⟩ : Shape).Idx → BitVec v)
    (h : (⟨2, ![R, n]⟩ : Shape).Bitcasts v ⟨2, ![r, n]⟩ w) (a : Fin r) (l : Fin n) (q : Nat) (hq : q < w) (p : Fin R) (q' : Nat)
    (hq' : q' < v) (hp : p.val * v + q' = a.val * w + q) :
    (bitcast ⟨2, ![r, n]⟩ w x h (ix2 a l)).getLsbD q = (x (ix2 p l)).getLsbD q' := by
  have hv : 0 < v := by omega
  rw [bitcast_getLsbD x h _ q hq hv]
  have hrow : (⟨2, ![r, n]⟩ : Shape).row (ix2 a l) = a.val := rfl
  have e1 : ((⟨2, ![r, n]⟩ : Shape).row (ix2 a l) * w + q) / v = p.val := by
    rw [hrow, ← hp, Nat.mul_comm, Nat.mul_add_div hv, Nat.div_eq_of_lt hq', Nat.add_zero]
  have e2 : ((⟨2, ![r, n]⟩ : Shape).row (ix2 a l) * w + q) % v = q' := by
    rw [hrow, ← hp, Nat.mul_comm, Nat.mul_add_mod, Nat.mod_eq_of_lt hq']
  rw [e2]
  congr 2
  funext b
  apply Fin.ext
  match b with
  | ⟨0, _⟩ => exact (Shape.Bitcasts.srcIdx_row h _ _ _ (0 : Fin 2) rfl).trans e1
  | ⟨1, _⟩ => exact Shape.Bitcasts.srcIdx_other h _ _ _ (1 : Fin 2) (by simp)

/-- Moving the low codes: shift the word left by four, then take the sign bits and the three bits two places lower. -/
def moveLow (x : BitVec 32) : BitVec 32 :=
  IntOp.ori (IntOp.andi (IntOp.shli .vector x 4#32) 2155905152#32)
    (IntOp.andi (IntOp.shrui .vector (IntOp.shli .vector x 4#32) 2#32) 471604252#32)

/-- Moving the high codes: the same without the first shift. -/
def moveHigh (x : BitVec 32) : BitVec 32 :=
  IntOp.ori (IntOp.andi x 2155905152#32) (IntOp.andi (IntOp.shrui .vector x 2#32) 471604252#32)

theorem moveLow_eq (x : BitVec 32) : moveLow x = ((x <<< 4) &&& 2155905152#32) ||| (((x <<< 4) >>> 2) &&& 471604252#32) := by
  simp [moveLow, IntOp.shli, IntOp.shrui, IntOp.andi, IntOp.ori]
theorem moveHigh_eq (x : BitVec 32) : moveHigh x = (x &&& 2155905152#32) ||| ((x >>> 2) &&& 471604252#32) := by
  simp [moveHigh, IntOp.shrui, IntOp.andi, IntOp.ori]

/-- Each byte of the moved word is the placed low code of that byte. -/
theorem moveLow_bit (x : BitVec 32) (b : BitVec 8) (i : Fin 4) (hb : ∀ q, q < 8 → x.getLsbD (8 * i.val + q) = b.getLsbD q)
    (q : Nat) (hq : q < 8) : (moveLow x).getLsbD (8 * i.val + q) = (place (lo b)).getLsbD q := by
  have h0 := hb 0 (by decide)
  have h1 := hb 1 (by decide)
  have h2 := hb 2 (by decide)
  have h3 := hb 3 (by decide)
  rw [moveLow_eq]
  unfold place lo
  fin_cases i <;> interval_cases q <;>
    simp [BitVec.getLsbD_or, BitVec.getLsbD_and, BitVec.getLsbD_shiftLeft, BitVec.getLsbD_ushiftRight] at h0 h1 h2 h3 ⊢ <;>
    simp_all

/-- Each byte of the moved word is the placed high code of that byte. -/
theorem moveHigh_bit (x : BitVec 32) (b : BitVec 8) (i : Fin 4) (hb : ∀ q, q < 8 → x.getLsbD (8 * i.val + q) = b.getLsbD q)
    (q : Nat) (hq : q < 8) : (moveHigh x).getLsbD (8 * i.val + q) = (place (hi b)).getLsbD q := by
  have h0 := hb 4 (by decide)
  have h1 := hb 5 (by decide)
  have h2 := hb 6 (by decide)
  have h3 := hb 7 (by decide)
  rw [moveHigh_eq]
  unfold place hi
  fin_cases i <;> interval_cases q <;>
    simp [BitVec.getLsbD_or, BitVec.getLsbD_and, BitVec.getLsbD_shiftLeft, BitVec.getLsbD_ushiftRight] at h0 h1 h2 h3 ⊢ <;>
    simp_all

/-- Bytes joined into words, every word changed by `f`, the words cut into bytes again: if `f` acts on each byte as `g`, the
    result at an index is `g` of the byte there. -/
theorem bytes_through {R r n : Nat} (w : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (hR : R = 4 * r) (f : BitVec 32 → BitVec 32) (g : BitVec 8 → BitVec 8)
    (hf : ∀ (x : BitVec 32) (b : BitVec 8) (i : Fin 4), (∀ q, q < 8 → x.getLsbD (8 * i.val + q) = b.getLsbD q) →
      ∀ q, q < 8 → (f x).getLsbD (8 * i.val + q) = (g b).getLsbD q) (v : Fin R) (l : Fin n) :
    bitcast ⟨2, ![R, n]⟩ 8 (fun j => f (bitcast ⟨2, ![r, n]⟩ 32 w h j)) h' (ix2 v l) = g (w (ix2 v l)) := by
  have hv := v.isLt
  let a : Fin r := ⟨v.val / 4, by omega⟩
  let i : Fin 4 := ⟨v.val % 4, by omega⟩
  have ev : v.val = 4 * a.val + i.val := by simp only [a, i]; omega
  apply BitVec.eq_of_getLsbD_eq
  intro q hq
  rw [bitcast2_bit _ h' v l q hq a (8 * i.val + q) (by omega) (by omega)]
  exact hf _ _ i (fun q hq => bitcast2_bit w h a l (8 * i.val + q) (by omega) v q hq (by omega)) q hq

/-- Halves joined into words, the words of one row gathered along the lanes, the words cut into halves again: the result at an
    index is the half of its own row at the gathered lane. -/
theorem halves_gather {R r n : Nat} (x : (⟨2, ![R, n]⟩ : Shape).Idx → BitVec 16)
    (h : (⟨2, ![R, n]⟩ : Shape).Bitcasts 16 ⟨2, ![r, n]⟩ 32) (h' : (⟨2, ![r, n]⟩ : Shape).Bitcasts 32 ⟨2, ![R, n]⟩ 16)
    (hR : R = 2 * r) (idx : IVec (⟨2, ![r, n]⟩ : Shape) 32) (v : Fin R) (l k : Fin n)
    (hk : ∀ a : Fin r, (idx (ix2 a l)).toNat = k.val) :
    bitcast ⟨2, ![R, n]⟩ 16 (dynamicGather (1 : Fin 2) (bitcast ⟨2, ![r, n]⟩ 32 x h) idx) h' (ix2 v l) = x (ix2 v k) := by
  have hv := v.isLt
  let a : Fin r := ⟨v.val / 2, by omega⟩
  have ea : (a : Nat) = v.val / 2 := rfl
  apply BitVec.eq_of_getLsbD_eq
  intro q hq
  rw [bitcast2_bit _ h' v l q hq a (16 * (v.val % 2) + q) (by omega) (by omega)]
  have hg : dynamicGather (1 : Fin 2) (bitcast ⟨2, ![r, n]⟩ 32 x h) idx (ix2 a l)
      = bitcast ⟨2, ![r, n]⟩ 32 x h (ix2 a k) := by
    show bitcast ⟨2, ![r, n]⟩ 32 x h _ = _
    congr 1
    funext b
    match b with
    | ⟨0, _⟩ => rfl
    | ⟨1, _⟩ =>
      apply Fin.ext
      show (idx (ix2 a l)).toNat % n = k.val
      rw [hk a, Nat.mod_eq_of_lt k.isLt]
  rw [hg]
  exact bitcast2_bit x h a k _ (by omega) v q hq (by omega)

end Cert.Math

end
-- ==== Proof.Val.Weights.lean ====
/-
  The second call's weight tile: the sixteen column blocks its body stores, each as a number at an index.

  Column `k` of the tile, `k = 256 g + 128 h + l`, holds the low (`h = 0`) or high (`h = 1`) code of byte column `128 g + l`, over
  64, times the scale of block `8 g + l / 16`.
-/
module

public import proofs.«01_k».proof.Proof.Gen.KernelIdeal.Skeleton
public import proofs.«01_k».proof.Proof.Math.Words
public import Idealize.ShloMosaic.Lib.Pipeline.ValueKit

@[expose] public section

set_option maxRecDepth 16384

noncomputable section

namespace Cert.KernelIdeal.Gen

open Idealize.ShloMosaic Cert.Math

/-- The code of a byte at column `k` of the tile: the low one in the first half of each 256 columns, else the high one. -/
def codeAt (k : Nat) (b : BitVec 8) : BitVec 4 := if k / 128 % 2 = 0 then lo b else hi b

/-- The weight tile at row `v`, column `k`. -/
def wdAt (e : S1280x64.Idx → BitVec 8) (w : S1280x1024.Idx → BitVec 8) (v : Fin 1280) (k : Fin 2048) : EReal :=
  ((e2m1 (codeAt k.val (w (ix2 v ⟨128 * (k.val / 256) + k.val % 128, by have := k.isLt; omega⟩))) / 64 : ℝ) : EReal)
    * scale (e (ix2 v ⟨8 * (k.val / 256) + k.val % 128 / 16, by have := k.isLt; omega⟩))

/-- A column block of low codes times scales. -/
def lowVec (w : Vec Ideal S1280x128 .i8) (s : FVec Ideal S1280x128 .bf16) : FVec Ideal S1280x128 .bf16 :=
  mulf (extf .bf16 (bitcastToFloat .fp8e4m3 (bitcast S1280x128 8
    (fun j => moveLow (bitcast S320x128 32 w bitcasts_S1280x128_w8_S320x128_w32 j)) bitcasts_S320x128_w32_S1280x128_w8))
    bitsLt_fp8e4m3_bf16) s

/-- A column block of high codes times scales. -/
def highVec (w : Vec Ideal S1280x128 .i8) (s : FVec Ideal S1280x128 .bf16) : FVec Ideal S1280x128 .bf16 :=
  mulf (extf .bf16 (bitcastToFloat .fp8e4m3 (bitcast S1280x128 8
    (fun j => moveHigh (bitcast S320x128 32 w bitcasts_S1280x128_w8_S320x128_w32 j)) bitcasts_S320x128_w32_S1280x128_w8))
    bitsLt_fp8e4m3_bf16) s

theorem lowVec_apply (w : Vec Ideal S1280x128 .i8) (s : FVec Ideal S1280x128 .bf16) (v : Fin 1280) (l : Fin 128) :
    lowVec w s (ix2 v l) = ((e2m1 (lo (w (ix2 v l))) / 64 : ℝ) : EReal) * s (ix2 v l) := by
  show Ideal.ofBits .fp8e4m3 (bitcast S1280x128 8 _ _ (ix2 v l)) * s (ix2 v l) = _
  rw [bytes_through w bitcasts_S1280x128_w8_S320x128_w32 bitcasts_S320x128_w32_S1280x128_w8 (by decide) moveLow
    (fun b => place (lo b)) moveLow_bit v l, ofBits_place]

theorem highVec_apply (w : Vec Ideal S1280x128 .i8) (s : FVec Ideal S1280x128 .bf16) (v : Fin 1280) (l : Fin 128) :
    highVec w s (ix2 v l) = ((e2m1 (hi (w (ix2 v l))) / 64 : ℝ) : EReal) * s (ix2 v l) := by
  show Ideal.ofBits .fp8e4m3 (bitcast S1280x128 8 _ _ (ix2 v l)) * s (ix2 v l) = _
  rw [bytes_through w bitcasts_S1280x128_w8_S320x128_w32 bitcasts_S320x128_w32_S1280x128_w8 (by decide) moveHigh
    (fun b => place (hi b)) moveHigh_bit v l, ofBits_place]

/-- The lane each lane of column group `o / 8` takes its scale from. -/
def laneIdx (o : BitVec 32) : IVec S640x128 32 :=
  have v11 : IVec S640x128 32 := addi (broadcast S640x128 o)
    (shrsi (iota .tc S640x128 32 [1] iota_S640x128_d1_w32) (broadcast S640x128 4#32))
  shapeCast S640x128 (shapeCast S640x128x1
    (select (cmpi .slt v11 (broadcast S640x128 0#32)) (addi v11 (broadcast S640x128 128#32)) v11)
    shapeCasts_S640x128_S640x128x1) shapeCasts_S640x128x1_S640x128

theorem laneIdx_apply (g : Fin 8) (a : Fin 640) (l : Fin 128) :
    (laneIdx (BitVec.ofNat 32 (8 * g.val)) (ix2 a l)).toNat = 8 * g.val + l.val / 16 := by
  have key : ∀ (g : Fin 8) (l : Fin 128),
      (Scalar.select (IntOp.cmpi .slt (IntOp.addi (BitVec.ofNat 32 (8 * g.val)) (IntOp.shrsi .vector (BitVec.ofNat 32 l.val) 4#32)) 0#32)
        (IntOp.addi (IntOp.addi (BitVec.ofNat 32 (8 * g.val)) (IntOp.shrsi .vector (BitVec.ofNat 32 l.val) 4#32)) 128#32)
        (IntOp.addi (BitVec.ofNat 32 (8 * g.val)) (IntOp.shrsi .vector (BitVec.ofNat 32 l.val) 4#32))).toNat
        = 8 * g.val + l.val / 16 := by decide +kernel
  rw [← key g l]
  unfold laneIdx
  pointwise

/-- The scales of a column group, gathered by lane. -/
def scaleVec (v6 : IVec S640x128 32) (o : BitVec 32) : FVec Ideal S1280x128 .bf16 :=
  bitcastToFloat .bf16 (bitcast S1280x128 16 (dynamicGather 1 v6 (laneIdx o)) bitcasts_S640x128_w32_S1280x128_w16)

theorem scaleVec_apply (v0 : Vec Ideal S1280x64 .i8) (g : Fin 8) (v : Fin 1280) (l : Fin 128) :
    scaleVec (k1_pay5 v0) (BitVec.ofNat 32 (8 * g.val)) (ix2 v l)
      = scale (v0 (ix2 v ⟨8 * g.val + l.val / 16, by have := g.isLt; have := l.isLt; omega⟩)) := by
  have hg := g.isLt
  have hl := l.isLt
  show Ideal.ofBits .bf16 (bitcast S1280x128 16 _ _ (ix2 v l)) = _
  unfold k1_pay5
  dsimp only
  rw [halves_gather _ bitcasts_S1280x128_w16_S640x128_w32 bitcasts_S640x128_w32_S1280x128_w16 (by decide) _ v l
    ⟨8 * g.val + l.val / 16, by omega⟩ (fun a => laneIdx_apply g a l)]
  unfold scale
  pointwise
  rw [dif_pos (by omega)]
  rfl

/-- The weight tile as an array. -/
def wdV (e : Vec Ideal S1280x64 .i8) (w : Vec Ideal S1280x1024 .i8) : Vec Ideal S1280x2048 .bf16 :=
  fun j => wdAt e w (j 0) (j 1)

/-- Low codes of byte columns `128 g …` are the tile's columns `256 g …`. -/
theorem low_block (e : Vec Ideal S1280x64 .i8) (w : Vec Ideal S1280x1024 .i8) (g : Fin 8) (o p : Nat) (ho : o = 128 * g.val)
    (hp : p = 256 * g.val) (i1 : ∀ a, (![0, o] : Fin 2 → Nat) a + S1280x128.size a ≤ S1280x1024.size a)
    (i2 : ∀ a, (![0, p] : Fin 2 → Nat) a + S1280x128.size a ≤ S1280x2048.size a) (x : S1280x128.Idx) :
    lowVec (View.ld (Val := Elt Ideal) (e' := .i8) w (Rect.unit ![0, o] S1280x128.size i1)) (scaleVec (k1_pay5 e) (BitVec.ofNat 32 (8 * g.val))) x
      = wdV e w ((Rect.unit (s := S1280x2048) ![0, p] S1280x128.size i2).emb x) := by
  idx_vars x
  have hg := g.isLt
  have hx := x1.isLt
  rw [lowVec_apply, scaleVec_apply]
  have c0 : ((Rect.unit (s := S1280x2048) ![0, p] S1280x128.size i2).emb (ix2 x0 x1) 0).val = x0.val := by
    rw [Rect.emb_apply]; simp
  have c1 : ((Rect.unit (s := S1280x2048) ![0, p] S1280x128.size i2).emb (ix2 x0 x1) 1).val = p + x1.val := by
    rw [Rect.emb_apply]; simp
  have e0 : (Rect.unit (s := S1280x2048) ![0, p] S1280x128.size i2).emb (ix2 x0 x1) 0 = x0 := Fin.ext c0
  unfold wdV wdAt codeAt
  rw [if_pos (by rw [c1]; omega), e0]
  refine congrArg₂ _ (congrArg (fun b => (((e2m1 (lo b) / 64 : ℝ)) : EReal)) ?_) (congrArg (fun q => scale (e (ix2 x0 q))) (Fin.ext ?_))
  · exact View.ld_unit_apply_of (Val := Elt Ideal) w _ _ _ _ _ fun a => by
      match a with
      | ⟨0, _⟩ => simp
      | ⟨1, _⟩ => show 128 * (_ / 256) + _ % 128 = o + x1.val; rw [c1]; omega
  · show 8 * g.val + x1.val / 16 = 8 * (_ / 256) + _ % 128 / 16
    rw [c1]; omega

/-- High codes of byte columns `128 g …` are the tile's columns `256 g + 128 …`. -/
theorem high_block (e : Vec Ideal S1280x64 .i8) (w : Vec Ideal S1280x1024 .i8) (g : Fin 8) (o p : Nat) (ho : o = 128 * g.val)
    (hp : p = 256 * g.val + 128) (i1 : ∀ a, (![0, o] : Fin 2 → Nat) a + S1280x128.size a ≤ S1280x1024.size a)
    (i2 : ∀ a, (![0, p] : Fin 2 → Nat) a + S1280x128.size a ≤ S1280x2048.size a) (x : S1280x128.Idx) :
    highVec (View.ld (Val := Elt Ideal) (e' := .i8) w (Rect.unit ![0, o] S1280x128.size i1)) (scaleVec (k1_pay5 e) (BitVec.ofNat 32 (8 * g.val))) x
      = wdV e w ((Rect.unit (s := S1280x2048) ![0, p] S1280x128.size i2).emb x) := by
  idx_vars x
  have hg := g.isLt
  have hx := x1.isLt
  rw [highVec_apply, scaleVec_apply]
  have c0 : ((Rect.unit (s := S1280x2048) ![0, p] S1280x128.size i2).emb (ix2 x0 x1) 0).val = x0.val := by
    rw [Rect.emb_apply]; simp
  have c1 : ((Rect.unit (s := S1280x2048) ![0, p] S1280x128.size i2).emb (ix2 x0 x1) 1).val = p + x1.val := by
    rw [Rect.emb_apply]; simp
  have e0 : (Rect.unit (s := S1280x2048) ![0, p] S1280x128.size i2).emb (ix2 x0 x1) 0 = x0 := Fin.ext c0
  unfold wdV wdAt codeAt
  rw [if_neg (by rw [c1]; omega), e0]
  refine congrArg₂ _ (congrArg (fun b => (((e2m1 (hi b) / 64 : ℝ)) : EReal)) ?_) (congrArg (fun q => scale (e (ix2 x0 q))) (Fin.ext ?_))
  · exact View.ld_unit_apply_of (Val := Elt Ideal) w _ _ _ _ _ fun a => by
      match a with
      | ⟨0, _⟩ => simp
      | ⟨1, _⟩ => show 128 * (_ / 256) + _ % 128 = o + x1.val; rw [c1]; omega
  · show 8 * g.val + x1.val / 16 = 8 * (_ / 256) + _ % 128 / 16
    rw [c1]; omega

/-- The sixteen stores into the weight tile, the last first. -/
def wdPieces (e : Vec Ideal S1280x64 .i8) (w : Vec Ideal S1280x1024 .i8) : List (View.Piece (Elt Ideal) S1280x2048 .bf16) :=
  [⟨Rect.unit ![0, 1920] S1280x128.size inb_S1280x2048_S1280x128_0_1920,
    k1_pay44 (F := Ideal) (k1_pay40 (k1_pay5 e) (iota Kind.tc S640x128 32 [1] iota_S640x128_d1_w32)) (k1_pay41 (View.ld (Val := Elt Ideal) (e' := .i8) w (Rect.unit ![0, 896] S1280x128.size inb_S1280x1024_S1280x128_0_896)))⟩,
   ⟨Rect.unit ![0, 1792] S1280x128.size inb_S1280x2048_S1280x128_0_1792,
    k1_pay43 (F := Ideal) (k1_pay40 (k1_pay5 e) (iota Kind.tc S640x128 32 [1] iota_S640x128_d1_w32)) (k1_pay42 (View.ld (Val := Elt Ideal) (e' := .i8) w (Rect.unit ![0, 896] S1280x128.size inb_S1280x1024_S1280x128_0_896)))⟩,
   ⟨Rect.unit ![0, 1664] S1280x128.size inb_S1280x2048_S1280x128_0_1664,
    k1_pay39 (F := Ideal) (k1_pay35 (k1_pay5 e) (iota Kind.tc S640x128 32 [1] iota_S640x128_d1_w32)) (k1_pay36 (View.ld (Val := Elt Ideal) (e' := .i8) w (Rect.unit ![0, 768] S1280x128.size inb_S1280x1024_S1280x128_0_768)))⟩,
   ⟨Rect.unit ![0, 1536] S1280x128.size inb_S1280x2048_S1280x128_0_1536,
    k1_pay38 (F := Ideal) (k1_pay35 (k1_pay5 e) (iota Kind.tc S640x128 32 [1] iota_S640x128_d1_w32)) (k1_pay37 (View.ld (Val := Elt Ideal) (e' := .i8) w (Rect.unit ![0, 768] S1280x128.size inb_S1280x1024_S1280x128_0_768)))⟩,
   ⟨Rect.unit ![0, 1408] S1280x128.size inb_S1280x2048_S1280x128_0_1408,
    k1_pay34 (F := Ideal) (k1_pay30 (k1_pay5 e) (iota Kind.tc S640x128 32 [1] iota_S640x128_d1_w32)) (k1_pay31 (View.ld (Val := Elt Ideal) (e' := .i8) w (Rect.unit ![0, 640] S1280x128.size inb_S1280x1024_S1280x128_0_640)))⟩,
   ⟨Rect.unit ![0, 1280] S1280x128.size inb_S1280x2048_S1280x128_0_1280,
    k1_pay33 (F := Ideal) (k1_pay32 (k1_pay5 e) (iota Kind.tc S640x128 32 [1] iota_S640x128_d1_w32) (View.ld (Val := Elt Ideal) (e' := .i8) w (Rect.unit ![0, 640] S1280x128.size inb_S1280x1024_S1280x128_0_640)))⟩,
   ⟨Rect.unit ![0, 1152] S1280x128.size inb_S1280x2048_S1280x128_0_1152,
    k1_pay29 (F := Ideal) (k1_pay25 (k1_pay5 e) (iota Kind.tc S640x128 32 [1] iota_S640x128_d1_w32)) (k1_pay26 (View.ld (Val := Elt Ideal) (e' := .i8) w (Rect.unit ![0, 512] S1280x128.size inb_S1280x1024_S1280x128_0_512)))⟩,
   ⟨Rect.unit ![0, 1024] S1280x128.size inb_S1280x2048_S1280x128_0_1024,
    k1_pay28 (F := Ideal) (k1_pay27 (k1_pay5 e) (iota Kind.tc S640x128 32 [1] iota_S640x128_d1_w32) (View.ld (Val := Elt Ideal) (e' := .i8) w (Rect.unit ![0, 512] S1280x128.size inb_S1280x1024_S1280x128_0_512)))⟩,
   ⟨Rect.unit ![0, 896] S1280x128.size inb_S1280x2048_S1280x128_0_896,
    k1_pay24 (F := Ideal) (k1_pay21 (k1_pay5 e) (iota Kind.tc S640x128 32 [1] iota_S640x128_d1_w32)) (k1_pay22 (View.ld (Val := Elt Ideal) (e' := .i8) w (Rect.unit ![0, 384] S1280x128.size inb_S1280x1024_S1280x128_0_384)))⟩,
   ⟨Rect.unit ![0, 768] S1280x128.size inb_S1280x2048_S1280x128_0_768,
    k1_pay23 (F := Ideal) (k1_pay5 e) (iota Kind.tc S640x128 32 [1] iota_S640x128_d1_w32) (View.ld (Val := Elt Ideal) (e' := .i8) w (Rect.unit ![0, 384] S1280x128.size inb_S1280x1024_S1280x128_0_384))⟩,
   ⟨Rect.unit ![0, 640] S1280x128.size inb_S1280x2048_S1280x128_0_640,
    k1_pay20 (F := Ideal) (k1_pay17 (k1_pay5 e) (iota Kind.tc S640x128 32 [1] iota_S640x128_d1_w32)) (k1_pay18 (View.ld (Val := Elt Ideal) (e' := .i8) w (Rect.unit ![0, 256] S1280x128.size inb_S1280x1024_S1280x128_0_256))) 2155905152#32⟩,
   ⟨Rect.unit ![0, 512] S1280x128.size inb_S1280x2048_S1280x128_0_512,
    k1_pay19 (F := Ideal) (k1_pay5 e) (iota Kind.tc S640x128 32 [1] iota_S640x128_d1_w32) (View.ld (Val := Elt Ideal) (e' := .i8) w (Rect.unit ![0, 256] S1280x128.size inb_S1280x1024_S1280x128_0_256))⟩,
   ⟨Rect.unit ![0, 384] S1280x128.size inb_S1280x2048_S1280x128_0_384,
    k1_pay16 (F := Ideal) (k1_pay12 (k1_pay5 e) (iota Kind.tc S640x128 32 [1] iota_S640x128_d1_w32)) (k1_pay13 (View.ld (Val := Elt Ideal) (e' := .i8) w (Rect.unit ![0, 128] S1280x128.size inb_S1280x1024_S1280x128_0_128))) (k1_pay15 (View.ld (Val := Elt Ideal) (e' := .i8) w (Rect.unit ![0, 128] S1280x128.size inb_S1280x1024_S1280x128_0_128)))⟩,
   ⟨Rect.unit ![0, 256] S1280x128.size inb_S1280x2048_S1280x128_0_256,
    k1_pay14 (F := Ideal) (k1_pay5 e) (iota Kind.tc S640x128 32 [1] iota_S640x128_d1_w32) (View.ld (Val := Elt Ideal) (e' := .i8) w (Rect.unit ![0, 128] S1280x128.size inb_S1280x1024_S1280x128_0_128))⟩,
   ⟨Rect.unit ![0, 128] S1280x128.size inb_S1280x2048_S1280x128_0_128,
    k1_pay11 (F := Ideal) (k1_pay6 e) (k1_pay7 (View.ld (Val := Elt Ideal) (e' := .i8) w (Rect.unit ![0, 0] S1280x128.size inb_S1280x1024_S1280x128_0_0))) (k1_pay9 (View.ld (Val := Elt Ideal) (e' := .i8) w (Rect.unit ![0, 0] S1280x128.size inb_S1280x1024_S1280x128_0_0))) k1_pay10⟩,
   ⟨Rect.unit ![0, 0] S1280x128.size inb_S1280x2048_S1280x128_0_0,
    k1_pay8 (F := Ideal) e (View.ld (Val := Elt Ideal) (e' := .i8) w (Rect.unit ![0, 0] S1280x128.size inb_S1280x1024_S1280x128_0_0))⟩]

/-- The sixteen stores fill the weight tile. -/
theorem cover_wdPieces (e : Vec Ideal S1280x64 .i8) (w : Vec Ideal S1280x1024 .i8) (y : S1280x2048.Idx) :
    ∃ p ∈ wdPieces e w, y ∈ p.1.set :=
  View.cover_of_tiled (wdPieces e w) ![1280, 128] (by rfl) y

/-- The sixteen stores leave the weight tile. -/
theorem canon_wdPieces (e : Vec Ideal S1280x64 .i8) (w : Vec Ideal S1280x1024 .i8) : View.canon (wdPieces e w) = wdV e w := by
  funext y
  refine View.canon_apply_of_pieces (wdV e w) (wdPieces e w) ?_ y (cover_wdPieces e w y)
  unfold wdPieces
  simp only [List.mem_cons, List.not_mem_nil, or_false, forall_eq_or_imp, forall_eq]
  refine ⟨?_, ?_, ?_, ?_, ?_, ?_, ?_, ?_, ?_, ?_, ?_, ?_, ?_, ?_, ?_, ?_⟩ <;> intro x
  · refine Eq.trans (congrFun ?_ x) (high_block e w 7 896 1920 rfl rfl inb_S1280x1024_S1280x128_0_896 inb_S1280x2048_S1280x128_0_1920 x)
    unfold k1_pay44 k1_pay40 k1_pay41
    simp only [shapeCast_self]
    rfl
  · refine Eq.trans (congrFun ?_ x) (low_block e w 7 896 1792 rfl rfl inb_S1280x1024_S1280x128_0_896 inb_S1280x2048_S1280x128_0_1792 x)
    unfold k1_pay43 k1_pay40 k1_pay42 k1_pay41
    simp only [shapeCast_self]
    rfl
  · refine Eq.trans (congrFun ?_ x) (high_block e w 6 768 1664 rfl rfl inb_S1280x1024_S1280x128_0_768 inb_S1280x2048_S1280x128_0_1664 x)
    unfold k1_pay39 k1_pay35 k1_pay36
    simp only [shapeCast_self]
    rfl
  · refine Eq.trans (congrFun ?_ x) (low_block e w 6 768 1536 rfl rfl inb_S1280x1024_S1280x128_0_768 inb_S1280x2048_S1280x128_0_1536 x)
    unfold k1_pay38 k1_pay35 k1_pay37 k1_pay36
    simp only [shapeCast_self]
    rfl
  · refine Eq.trans (congrFun ?_ x) (high_block e w 5 640 1408 rfl rfl inb_S1280x1024_S1280x128_0_640 inb_S1280x2048_S1280x128_0_1408 x)
    unfold k1_pay34 k1_pay30 k1_pay31
    simp only [shapeCast_self]
    rfl
  · refine Eq.trans (congrFun ?_ x) (low_block e w 5 640 1280 rfl rfl inb_S1280x1024_S1280x128_0_640 inb_S1280x2048_S1280x128_0_1280 x)
    unfold k1_pay33 k1_pay32 k1_pay30 k1_pay31
    simp only [shapeCast_self]
    rfl
  · refine Eq.trans (congrFun ?_ x) (high_block e w 4 512 1152 rfl rfl inb_S1280x1024_S1280x128_0_512 inb_S1280x2048_S1280x128_0_1152 x)
    unfold k1_pay29 k1_pay25 k1_pay26
    simp only [shapeCast_self]
    rfl
  · refine Eq.trans (congrFun ?_ x) (low_block e w 4 512 1024 rfl rfl inb_S1280x1024_S1280x128_0_512 inb_S1280x2048_S1280x128_0_1024 x)
    unfold k1_pay28 k1_pay27 k1_pay25 k1_pay26
    simp only [shapeCast_self]
    rfl
  · refine Eq.trans (congrFun ?_ x) (high_block e w 3 384 896 rfl rfl inb_S1280x1024_S1280x128_0_384 inb_S1280x2048_S1280x128_0_896 x)
    unfold k1_pay24 k1_pay21 k1_pay22
    simp only [shapeCast_self]
    rfl
  · refine Eq.trans (congrFun ?_ x) (low_block e w 3 384 768 rfl rfl inb_S1280x1024_S1280x128_0_384 inb_S1280x2048_S1280x128_0_768 x)
    unfold k1_pay23 k1_pay21 k1_pay22
    simp only [shapeCast_self]
    rfl
  · refine Eq.trans (congrFun ?_ x) (high_block e w 2 256 640 rfl rfl inb_S1280x1024_S1280x128_0_256 inb_S1280x2048_S1280x128_0_640 x)
    unfold k1_pay20 k1_pay17 k1_pay18
    simp only [shapeCast_self]
    rfl
  · refine Eq.trans (congrFun ?_ x) (low_block e w 2 256 512 rfl rfl inb_S1280x1024_S1280x128_0_256 inb_S1280x2048_S1280x128_0_512 x)
    unfold k1_pay19 k1_pay17 k1_pay18
    simp only [shapeCast_self]
    rfl
  · refine Eq.trans (congrFun ?_ x) (high_block e w 1 128 384 rfl rfl inb_S1280x1024_S1280x128_0_128 inb_S1280x2048_S1280x128_0_384 x)
    unfold k1_pay16 k1_pay12 k1_pay13 k1_pay15
    simp only [shapeCast_self]
    rfl
  · refine Eq.trans (congrFun ?_ x) (low_block e w 1 128 256 rfl rfl inb_S1280x1024_S1280x128_0_128 inb_S1280x2048_S1280x128_0_256 x)
    unfold k1_pay14 k1_pay12 k1_pay13
    simp only [shapeCast_self]
    rfl
  · refine Eq.trans (congrFun ?_ x) (high_block e w 0 0 128 rfl rfl inb_S1280x1024_S1280x128_0_0 inb_S1280x2048_S1280x128_0_128 x)
    unfold k1_pay11 k1_pay6 k1_pay7 k1_pay9 k1_pay10
    simp only [shapeCast_self]
    rfl
  · refine Eq.trans (congrFun ?_ x) (low_block e w 0 0 0 rfl rfl inb_S1280x1024_S1280x128_0_0 inb_S1280x2048_S1280x128_0_0 x)
    unfold k1_pay8 k1_pay7 k1_pay6
    simp only [shapeCast_self]
    rfl

end Cert.KernelIdeal.Gen

end
-- ==== Proof.Val.Tile.lean ====
module
public import proofs.«01_k».proof.Proof.Run.Region1
public import proofs.«01_k».proof.Proof.Val.Weights
@[expose] public section
set_option maxRecDepth 16384
noncomputable section
/-! The tile of scaled products that call 1 writes at a grid point. -/
namespace Cert.KernelIdeal.Gen
open Idealize.ShloMosaic Idealize.ShloMosaic.TcCoe Idealize.ShloMosaic.Tactic
open Idealize.SL Idealize.SL.RA Idealize.SL.BI
open Cert.Math
theorem hz2 : (![0, 0] : Fin 2 → Nat) = fun _ => 0 := funext fun a => by fin_cases a <;> rfl

/-- A tile of the logits: products of the gathered rows and the decoded weights, times the row's factor. -/
def tile (x0 : Vec Ideal S1024x2048 .bf16) (x1 : Vec Ideal S1024x1 .f32) (x2 : Vec Ideal S1280x1024 .i8) (x3 : Vec Ideal S1280x64 .i8) :
    Vec Ideal S1024x1280 .f32 :=
  fun j => (∑ k : Fin 2048, x0 (ix2 (j 0) k) * wdAt x3 x2 (j 1) k) * x1 (ix2 (j 0) 0)

/-- The product, as the tile's stored value spells it. -/
theorem pay45_eq (x0 : Vec Ideal S1024x2048 .bf16) (x1 : Vec Ideal S1024x1 .f32) (x2 : Vec Ideal S1280x1024 .i8) (x3 : Vec Ideal S1280x64 .i8) :
    k1_pay45 x0 (wdV x3 x2) x1 = tile x0 x1 x2 x3 := by
  funext j
  idx_vars j
  unfold k1_pay45 tile
  pointwise
  rfl

theorem tile_A (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec Ideal S1024x2048 .bf16) (x1 : Vec Ideal S1024x1 .f32) (x2 : Vec Ideal S1280x1024 .i8) (x3 : Vec Ideal S1280x64 .i8) :
    out1_A_4 c i arg1 harg1 arg2 harg2 arg3 harg3 arg4 harg4 arg5 harg5 arg6 harg6 arg7 harg7 arg8 harg8 arg9 harg9 hc0 hc1 x0 x1 x2 x3 = tile x0 x1 x2 x3 := by
  unfold out1_A_4
  rw [View.read_writes_eq_canon _ _ _ (cover1_A_4 c i arg1 harg1 arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_unit_zero hz2]
  simp only [View.readAt_eq_ld, harg1.read_unread, harg2.read_unread, harg3.read_unread, harg4.read_unread, View.ld_unit_zero (S := S1024x2048) hz2, View.ld_unit_zero (S := S1024x1) hz2, View.ld_unit_zero (S := S1280x64) hz2]
  refine Eq.trans ?_ (pay45_eq x0 x1 x2 x3)
  refine congrArg (fun q => k1_pay45 x0 q x1) ?_
  refine (View.readCov_eq_canon_ld arg7.view (wdPieces x3 x2) _ (cover_wdPieces x3 x2)).trans ?_
  exact (View.ld_unit_zero (S := S1280x2048) hz2 _ _).trans (canon_wdPieces x3 x2)

theorem tile_B (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec Ideal S1024x2048 .bf16) (x1 : Vec Ideal S1024x1 .f32) (x2 : Vec Ideal S1280x1024 .i8) (x3 : Vec Ideal S1280x64 .i8) (s8 s9 : Vec Ideal S1024x128 .f32) :
    out1_B_4 c i arg1 harg1 arg2 harg2 arg3 harg3 arg4 harg4 arg5 harg5 arg6 harg6 arg7 harg7 arg8 harg8 arg9 harg9 hc0 hc1 x0 x1 x2 x3 s8 s9 = tile x0 x1 x2 x3 := by
  unfold out1_B_4
  rw [View.read_writes_eq_canon _ _ _ (cover1_B_4 c i arg1 harg1 arg2 harg2 arg3 harg3 arg4 harg4 arg5 harg5 arg6 harg6 arg7 harg7 arg8 harg8 arg9 harg9 hc0 hc1 x0 x1 x2 x3 s8 s9)]
  unfold kernelRun1_B
  dsimp only
  sl_unfold_words
  rw [View.canon_unit_zero hz2]
  simp only [View.readAt_eq_ld, harg1.read_unread, harg2.read_unread, harg3.read_unread, harg4.read_unread, View.ld_unit_zero (S := S1024x2048) hz2, View.ld_unit_zero (S := S1024x1) hz2, View.ld_unit_zero (S := S1280x64) hz2]
  refine Eq.trans ?_ (pay45_eq x0 x1 x2 x3)
  refine congrArg (fun q => k1_pay45 x0 q x1) ?_
  refine (View.readCov_eq_canon_ld arg7.view (wdPieces x3 x2) _ (cover_wdPieces x3 x2)).trans ?_
  exact (View.ld_unit_zero (S := S1280x2048) hz2 _ _).trans (canon_wdPieces x3 x2)

theorem tile_C (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec Ideal S1024x2048 .bf16) (x1 : Vec Ideal S1024x1 .f32) (x2 : Vec Ideal S1280x1024 .i8) (x3 : Vec Ideal S1280x64 .i8) (s8 s9 : Vec Ideal S1024x128 .f32) :
    out1_C_4 c i arg1 harg1 arg2 harg2 arg3 harg3 arg4 harg4 arg5 harg5 arg6 harg6 arg7 harg7 arg8 harg8 arg9 harg9 hc0 hc1 x0 x1 x2 x3 s8 s9 = tile x0 x1 x2 x3 := by
  unfold out1_C_4
  rw [View.read_writes_eq_canon _ _ _ (cover1_C_4 c i arg1 harg1 arg2 harg2 arg3 harg3 arg4 harg4 arg5 harg5 arg6 harg6 arg7 harg7 arg8 harg8 arg9 harg9 hc0 hc1 x0 x1 x2 x3 s8 s9)]
  unfold kernelRun1_C
  dsimp only
  sl_unfold_words
  rw [View.canon_unit_zero hz2]
  simp only [View.readAt_eq_ld, harg1.read_unread, harg2.read_unread, harg3.read_unread, harg4.read_unread, View.ld_unit_zero (S := S1024x2048) hz2, View.ld_unit_zero (S := S1024x1) hz2, View.ld_unit_zero (S := S1280x64) hz2]
  refine Eq.trans ?_ (pay45_eq x0 x1 x2 x3)
  refine congrArg (fun q => k1_pay45 x0 q x1) ?_
  refine (View.readCov_eq_canon_ld arg7.view (wdPieces x3 x2) _ (cover_wdPieces x3 x2)).trans ?_
  exact (View.ld_unit_zero (S := S1280x2048) hz2 _ _).trans (canon_wdPieces x3 x2)

end Cert.KernelIdeal.Gen

end
-- ==== Proof.Val.Rows.lean ====
module
public import proofs.«01_k».proof.Proof.Val.Tile
public import Idealize.ShloMosaic.Lib.WritesUnit
@[expose] public section
set_option maxRecDepth 16384
noncomputable section
/-! The row loop of call 1: what its eight trips leave in the running maximum and the running sum. -/
namespace Cert.KernelIdeal.Gen
open Idealize.ShloMosaic Idealize.ShloMosaic.TcCoe Idealize.ShloMosaic.Tactic
open Idealize.SL Idealize.SL.RA Idealize.SL.BI
open Cert.Math

/-- Entry `128 c + l` of a row of a tile. -/
def laneAt (T : Vec Ideal S1024x1280 .f32) (r : Fin 1024) (l : Fin 128) (c : Fin 10) : EReal :=
  T (ix2 r ⟨128 * c.val + l.val, by omega⟩)

/-- The running maximum after a tile. -/
def mNew (T : Vec Ideal S1024x1280 .f32) (M : Vec Ideal S1024x128 .f32) : Vec Ideal S1024x128 .f32 := fun j =>
  max (M j) (Finset.univ.sup (laneAt T (j 0) (j 1)))

/-- The running sum after a tile. -/
def sNew (T : Vec Ideal S1024x1280 .f32) (M S : Vec Ideal S1024x128 .f32) : Vec Ideal S1024x128 .f32 := fun j =>
  S j * Ideal.exp (M j - mNew T M j) + ∑ c : Fin 10, Ideal.exp (laneAt T (j 0) (j 1) c - mNew T M j)

theorem sup_ten (M : EReal) (f : Fin 10 → EReal) :
    max (max (max (max (max (max (max (max (max (max M (f 0)) (f 1)) (f 2)) (f 3)) (f 4)) (f 5)) (f 6)) (f 7)) (f 8)) (f 9)
      = max M (Finset.univ.sup f) := by
  have h : (Finset.univ : Finset (Fin 10)) = {0, 1, 2, 3, 4, 5, 6, 7, 8, 9} := by decide
  rw [h]
  simp only [Finset.sup_insert, Finset.sup_singleton, max_assoc]

theorem sum_ten (S : EReal) (f : Fin 10 → EReal) :
    S + f 0 + f 1 + f 2 + f 3 + f 4 + f 5 + f 6 + f 7 + f 8 + f 9 = S + ∑ c, f c := by
  simp only [Fin.sum_univ_succ, Fin.sum_univ_zero, add_zero, add_assoc]
  rfl

theorem trips_le (k : Fin k1_t1_loop.trips) : k.val < 8 := Nat.lt_of_lt_of_le k.isLt k1_t1_abs.2.1
theorem off1_eq : ∀ k : Fin k1_t1_loop.trips, k1_off1 k = ![128 * k.val, 0] := by decide +kernel
theorem off2_eq : ∀ k : Fin k1_t1_loop.trips, k1_off2 k = ![128 * k.val, 0] := by decide +kernel
theorem off3_eq : ∀ k : Fin k1_t1_loop.trips, k1_off3 k = ![128 * k.val, 128] := by decide +kernel
theorem off4_eq : ∀ k : Fin k1_t1_loop.trips, k1_off4 k = ![128 * k.val, 256] := by decide +kernel
theorem off5_eq : ∀ k : Fin k1_t1_loop.trips, k1_off5 k = ![128 * k.val, 384] := by decide +kernel
theorem off6_eq : ∀ k : Fin k1_t1_loop.trips, k1_off6 k = ![128 * k.val, 512] := by decide +kernel
theorem off7_eq : ∀ k : Fin k1_t1_loop.trips, k1_off7 k = ![128 * k.val, 640] := by decide +kernel
theorem off8_eq : ∀ k : Fin k1_t1_loop.trips, k1_off8 k = ![128 * k.val, 768] := by decide +kernel
theorem off9_eq : ∀ k : Fin k1_t1_loop.trips, k1_off9 k = ![128 * k.val, 896] := by decide +kernel
theorem off10_eq : ∀ k : Fin k1_t1_loop.trips, k1_off10 k = ![128 * k.val, 1024] := by decide +kernel
theorem off11_eq : ∀ k : Fin k1_t1_loop.trips, k1_off11 k = ![128 * k.val, 1152] := by decide +kernel

section
variable (𝒱 : Variants) (c : Dev nD) (bd : Option 𝒱.V) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (arg0 : BitVec 32) (v321 : FVec Ideal S1280x128 .bf16) (v323 : IVec S320x128 32) (v332 : IVec S320x128 32) (X5 : BufTy.Contents (Elt Ideal) arg5.view.ty)

/-- A trip's store of its rows' running maximum. -/
theorem trip1_m (k : Fin k1_t1_loop.trips) (f8 : BufTy.Contents (Elt Ideal) arg8.view.ty) (f9 : BufTy.Contents (Elt Ideal) arg9.view.ty) :
    (tripL_k1_t1 𝒱 c bd i arg1 harg1 arg2 harg2 arg3 harg3 arg4 harg4 arg5 harg5 arg6 harg6 arg7 harg7 arg8 harg8 arg9 harg9 arg0 v321 v323 v332 X5 k f8 f9).1
      = [⟨Rect.unit (s := S1024x128) (k1_off1 k) S128x128.size (k1_off1_inb k), k1_pay48 (F := Ideal) (k1_pay2 (F := Ideal) (arg8.view.readAt (Elt Ideal) (Rect.unit (s := S1024x128) (k1_off1 k) S128x128.size (k1_off1_inb k)).toLoadRect f8) (arg5.view.readAt (Elt Ideal) (Rect.unit (s := S1024x1280) (k1_off2 k) S128x128.size (k1_off2_inb k)).toLoadRect X5) (arg5.view.readAt (Elt Ideal) (Rect.unit (s := S1024x1280) (k1_off3 k) S128x128.size (k1_off3_inb k)).toLoadRect X5) (arg5.view.readAt (Elt Ideal) (Rect.unit (s := S1024x1280) (k1_off4 k) S128x128.size (k1_off4_inb k)).toLoadRect X5) (arg5.view.readAt (Elt Ideal) (Rect.unit (s := S1024x1280) (k1_off5 k) S128x128.size (k1_off5_inb k)).toLoadRect X5) (arg5.view.readAt (Elt Ideal) (Rect.unit (s := S1024x1280) (k1_off6 k) S128x128.size (k1_off6_inb k)).toLoadRect X5) (arg5.view.readAt (Elt Ideal) (Rect.unit (s := S1024x1280) (k1_off7 k) S128x128.size (k1_off7_inb k)).toLoadRect X5) (arg5.view.readAt (Elt Ideal) (Rect.unit (s := S1024x1280) (k1_off8 k) S128x128.size (k1_off8_inb k)).toLoadRect X5) (arg5.view.readAt (Elt Ideal) (Rect.unit (s := S1024x1280) (k1_off9 k) S128x128.size (k1_off9_inb k)).toLoadRect X5) (arg5.view.readAt (Elt Ideal) (Rect.unit (s := S1024x1280) (k1_off10 k) S128x128.size (k1_off10_inb k)).toLoadRect X5) (arg5.view.readAt (Elt Ideal) (Rect.unit (s := S1024x1280) (k1_off11 k) S128x128.size (k1_off11_inb k)).toLoadRect X5))⟩] := by
  dsimp only [tripL_k1_t1]; unfold trip_k1_t1; rfl

/-- A trip's store of its rows' running sum. -/
theorem trip1_s (k : Fin k1_t1_loop.trips) (f8 : BufTy.Contents (Elt Ideal) arg8.view.ty) (f9 : BufTy.Contents (Elt Ideal) arg9.view.ty) :
    (tripL_k1_t1 𝒱 c bd i arg1 harg1 arg2 harg2 arg3 harg3 arg4 harg4 arg5 harg5 arg6 harg6 arg7 harg7 arg8 harg8 arg9 harg9 arg0 v321 v323 v332 X5 k f8 f9).2
      = [⟨Rect.unit (s := S1024x128) (k1_off1 k) S128x128.size (k1_off1_inb k), k1_pay49 (F := Ideal) (k1_pay2 (F := Ideal) (arg8.view.readAt (Elt Ideal) (Rect.unit (s := S1024x128) (k1_off1 k) S128x128.size (k1_off1_inb k)).toLoadRect f8) (arg5.view.readAt (Elt Ideal) (Rect.unit (s := S1024x1280) (k1_off2 k) S128x128.size (k1_off2_inb k)).toLoadRect X5) (arg5.view.readAt (Elt Ideal) (Rect.unit (s := S1024x1280) (k1_off3 k) S128x128.size (k1_off3_inb k)).toLoadRect X5) (arg5.view.readAt (Elt Ideal) (Rect.unit (s := S1024x1280) (k1_off4 k) S128x128.size (k1_off4_inb k)).toLoadRect X5) (arg5.view.readAt (Elt Ideal) (Rect.unit (s := S1024x1280) (k1_off5 k) S128x128.size (k1_off5_inb k)).toLoadRect X5) (arg5.view.readAt (Elt Ideal) (Rect.unit (s := S1024x1280) (k1_off6 k) S128x128.size (k1_off6_inb k)).toLoadRect X5) (arg5.view.readAt (Elt Ideal) (Rect.unit (s := S1024x1280) (k1_off7 k) S128x128.size (k1_off7_inb k)).toLoadRect X5) (arg5.view.readAt (Elt Ideal) (Rect.unit (s := S1024x1280) (k1_off8 k) S128x128.size (k1_off8_inb k)).toLoadRect X5) (arg5.view.readAt (Elt Ideal) (Rect.unit (s := S1024x1280) (k1_off9 k) S128x128.size (k1_off9_inb k)).toLoadRect X5) (arg5.view.readAt (Elt Ideal) (Rect.unit (s := S1024x1280) (k1_off10 k) S128x128.size (k1_off10_inb k)).toLoadRect X5) (arg5.view.readAt (Elt Ideal) (Rect.unit (s := S1024x1280) (k1_off11 k) S128x128.size (k1_off11_inb k)).toLoadRect X5)) (k1_pay4 (F := Ideal) (k1_pay2 (F := Ideal) (arg8.view.readAt (Elt Ideal) (Rect.unit (s := S1024x128) (k1_off1 k) S128x128.size (k1_off1_inb k)).toLoadRect f8) (arg5.view.readAt (Elt Ideal) (Rect.unit (s := S1024x1280) (k1_off2 k) S128x128.size (k1_off2_inb k)).toLoadRect X5) (arg5.view.readAt (Elt Ideal) (Rect.unit (s := S1024x1280) (k1_off3 k) S128x128.size (k1_off3_inb k)).toLoadRect X5) (arg5.view.readAt (Elt Ideal) (Rect.unit (s := S1024x1280) (k1_off4 k) S128x128.size (k1_off4_inb k)).toLoadRect X5) (arg5.view.readAt (Elt Ideal) (Rect.unit (s := S1024x1280) (k1_off5 k) S128x128.size (k1_off5_inb k)).toLoadRect X5) (arg5.view.readAt (Elt Ideal) (Rect.unit (s := S1024x1280) (k1_off6 k) S128x128.size (k1_off6_inb k)).toLoadRect X5) (arg5.view.readAt (Elt Ideal) (Rect.unit (s := S1024x1280) (k1_off7 k) S128x128.size (k1_off7_inb k)).toLoadRect X5) (arg5.view.readAt (Elt Ideal) (Rect.unit (s := S1024x1280) (k1_off8 k) S128x128.size (k1_off8_inb k)).toLoadRect X5) (arg5.view.readAt (Elt Ideal) (Rect.unit (s := S1024x1280) (k1_off9 k) S128x128.size (k1_off9_inb k)).toLoadRect X5) (arg5.view.readAt (Elt Ideal) (Rect.unit (s := S1024x1280) (k1_off10 k) S128x128.size (k1_off10_inb k)).toLoadRect X5) (arg5.view.readAt (Elt Ideal) (Rect.unit (s := S1024x1280) (k1_off11 k) S128x128.size (k1_off11_inb k)).toLoadRect X5)) (arg9.view.readAt (Elt Ideal) (Rect.unit (s := S1024x128) (k1_off1 k) S128x128.size (k1_off1_inb k)).toLoadRect f9) (k1_pay3 (F := Ideal) (arg8.view.readAt (Elt Ideal) (Rect.unit (s := S1024x128) (k1_off1 k) S128x128.size (k1_off1_inb k)).toLoadRect f8) (arg5.view.readAt (Elt Ideal) (Rect.unit (s := S1024x1280) (k1_off2 k) S128x128.size (k1_off2_inb k)).toLoadRect X5) (arg5.view.readAt (Elt Ideal) (Rect.unit (s := S1024x1280) (k1_off3 k) S128x128.size (k1_off3_inb k)).toLoadRect X5) (arg5.view.readAt (Elt Ideal) (Rect.unit (s := S1024x1280) (k1_off4 k) S128x128.size (k1_off4_inb k)).toLoadRect X5) (arg5.view.readAt (Elt Ideal) (Rect.unit (s := S1024x1280) (k1_off5 k) S128x128.size (k1_off5_inb k)).toLoadRect X5) (arg5.view.readAt (Elt Ideal) (Rect.unit (s := S1024x1280) (k1_off6 k) S128x128.size (k1_off6_inb k)).toLoadRect X5) (arg5.view.readAt (Elt Ideal) (Rect.unit (s := S1024x1280) (k1_off7 k) S128x128.size (k1_off7_inb k)).toLoadRect X5) (arg5.view.readAt (Elt Ideal) (Rect.unit (s := S1024x1280) (k1_off8 k) S128x128.size (k1_off8_inb k)).toLoadRect X5) (arg5.view.readAt (Elt Ideal) (Rect.unit (s := S1024x1280) (k1_off9 k) S128x128.size (k1_off9_inb k)).toLoadRect X5) (arg5.view.readAt (Elt Ideal) (Rect.unit (s := S1024x1280) (k1_off10 k) S128x128.size (k1_off10_inb k)).toLoadRect X5) (arg5.view.readAt (Elt Ideal) (Rect.unit (s := S1024x1280) (k1_off11 k) S128x128.size (k1_off11_inb k)).toLoadRect X5)) (arg5.view.readAt (Elt Ideal) (Rect.unit (s := S1024x1280) (k1_off2 k) S128x128.size (k1_off2_inb k)).toLoadRect X5) (arg5.view.readAt (Elt Ideal) (Rect.unit (s := S1024x1280) (k1_off3 k) S128x128.size (k1_off3_inb k)).toLoadRect X5) (arg5.view.readAt (Elt Ideal) (Rect.unit (s := S1024x1280) (k1_off4 k) S128x128.size (k1_off4_inb k)).toLoadRect X5) (arg5.view.readAt (Elt Ideal) (Rect.unit (s := S1024x1280) (k1_off5 k) S128x128.size (k1_off5_inb k)).toLoadRect X5) (arg5.view.readAt (Elt Ideal) (Rect.unit (s := S1024x1280) (k1_off6 k) S128x128.size (k1_off6_inb k)).toLoadRect X5) (arg5.view.readAt (Elt Ideal) (Rect.unit (s := S1024x1280) (k1_off7 k) S128x128.size (k1_off7_inb k)).toLoadRect X5) (arg5.view.readAt (Elt Ideal) (Rect.unit (s := S1024x1280) (k1_off8 k) S128x128.size (k1_off8_inb k)).toLoadRect X5) (arg5.view.readAt (Elt Ideal) (Rect.unit (s := S1024x1280) (k1_off9 k) S128x128.size (k1_off9_inb k)).toLoadRect X5)) (arg5.view.readAt (Elt Ideal) (Rect.unit (s := S1024x1280) (k1_off10 k) S128x128.size (k1_off10_inb k)).toLoadRect X5) (arg5.view.readAt (Elt Ideal) (Rect.unit (s := S1024x1280) (k1_off11 k) S128x128.size (k1_off11_inb k)).toLoadRect X5)⟩] := by
  dsimp only [tripL_k1_t1]; unfold trip_k1_t1; rfl

/-- A load of a trip's rows from a buffer of lanes. -/
theorem ld_off1 (v : Vec Ideal S1024x128 .f32) (k : Fin k1_t1_loop.trips) (r l : Fin 128) (h : 128 * k.val + r.val < 1024) :
    View.ld (Val := Elt Ideal) (e' := .f32) v (Rect.unit (s := S1024x128) (k1_off1 k) S128x128.size (k1_off1_inb k)) (ix2 r l) = v (ix2 ⟨128 * k.val + r.val, h⟩ l) :=
  View.ld_unit_apply_of (Val := Elt Ideal) v _ _ _ _ _ fun a => by
    have e := congrFun (off1_eq k) a
    match a with
    | ⟨0, _⟩ => exact (congrArg (· + r.val) e).symm
    | ⟨1, _⟩ => exact (Nat.zero_add _).symm.trans (congrArg (· + l.val) e).symm
theorem ld_off2 (v : Vec Ideal S1024x1280 .f32) (k : Fin k1_t1_loop.trips) (r l : Fin 128) (h : 128 * k.val + r.val < 1024) :
    View.ld (Val := Elt Ideal) (e' := .f32) v (Rect.unit (s := S1024x1280) (k1_off2 k) S128x128.size (k1_off2_inb k)) (ix2 r l) = laneAt v ⟨128 * k.val + r.val, h⟩ l 0 :=
  View.ld_unit_apply_of (Val := Elt Ideal) v _ _ _ _ _ fun a => by
    have e := congrFun (off2_eq k) a
    match a with
    | ⟨0, _⟩ => exact (congrArg (· + r.val) e).symm
    | ⟨1, _⟩ => exact (congrArg (· + l.val) e).symm
theorem rd_off2 (arg5 : Memref sig .tc .vmem S1024x1280 .f32) (X5 : BufTy.Contents (Elt Ideal) arg5.view.ty) (v : Vec Ideal S1024x1280 .f32)
    (hT : arg5.view.read (Elt Ideal) X5 = v) (k : Fin k1_t1_loop.trips) (r l : Fin 128) (h : 128 * k.val + r.val < 1024) :
    (arg5.view.readAt (Elt Ideal) (Rect.unit (s := S1024x1280) (k1_off2 k) S128x128.size (k1_off2_inb k)).toLoadRect X5) (ix2 r l) = laneAt v ⟨128 * k.val + r.val, h⟩ l 0 := by
  rw [View.readAt_eq_ld, hT]; exact ld_off2 v k r l h
theorem ld_off3 (v : Vec Ideal S1024x1280 .f32) (k : Fin k1_t1_loop.trips) (r l : Fin 128) (h : 128 * k.val + r.val < 1024) :
    View.ld (Val := Elt Ideal) (e' := .f32) v (Rect.unit (s := S1024x1280) (k1_off3 k) S128x128.size (k1_off3_inb k)) (ix2 r l) = laneAt v ⟨128 * k.val + r.val, h⟩ l 1 :=
  View.ld_unit_apply_of (Val := Elt Ideal) v _ _ _ _ _ fun a => by
    have e := congrFun (off3_eq k) a
    match a with
    | ⟨0, _⟩ => exact (congrArg (· + r.val) e).symm
    | ⟨1, _⟩ => exact (congrArg (· + l.val) e).symm
theorem rd_off3 (arg5 : Memref sig .tc .vmem S1024x1280 .f32) (X5 : BufTy.Contents (Elt Ideal) arg5.view.ty) (v : Vec Ideal S1024x1280 .f32)
    (hT : arg5.view.read (Elt Ideal) X5 = v) (k : Fin k1_t1_loop.trips) (r l : Fin 128) (h : 128 * k.val + r.val < 1024) :
    (arg5.view.readAt (Elt Ideal) (Rect.unit (s := S1024x1280) (k1_off3 k) S128x128.size (k1_off3_inb k)).toLoadRect X5) (ix2 r l) = laneAt v ⟨128 * k.val + r.val, h⟩ l 1 := by
  rw [View.readAt_eq_ld, hT]; exact ld_off3 v k r l h
theorem ld_off4 (v : Vec Ideal S1024x1280 .f32) (k : Fin k1_t1_loop.trips) (r l : Fin 128) (h : 128 * k.val + r.val < 1024) :
    View.ld (Val := Elt Ideal) (e' := .f32) v (Rect.unit (s := S1024x1280) (k1_off4 k) S128x128.size (k1_off4_inb k)) (ix2 r l) = laneAt v ⟨128 * k.val + r.val, h⟩ l 2 :=
  View.ld_unit_apply_of (Val := Elt Ideal) v _ _ _ _ _ fun a => by
    have e := congrFun (off4_eq k) a
    match a with
    | ⟨0, _⟩ => exact (congrArg (· + r.val) e).symm
    | ⟨1, _⟩ => exact (congrArg (· + l.val) e).symm
theorem rd_off4 (arg5 : Memref sig .tc .vmem S1024x1280 .f32) (X5 : BufTy.Contents (Elt Ideal) arg5.view.ty) (v : Vec Ideal S1024x1280 .f32)
    (hT : arg5.view.read (Elt Ideal) X5 = v) (k : Fin k1_t1_loop.trips) (r l : Fin 128) (h : 128 * k.val + r.val < 1024) :
    (arg5.view.readAt (Elt Ideal) (Rect.unit (s := S1024x1280) (k1_off4 k) S128x128.size (k1_off4_inb k)).toLoadRect X5) (ix2 r l) = laneAt v ⟨128 * k.val + r.val, h⟩ l 2 := by
  rw [View.readAt_eq_ld, hT]; exact ld_off4 v k r l h
theorem ld_off5 (v : Vec Ideal S1024x1280 .f32) (k : Fin k1_t1_loop.trips) (r l : Fin 128) (h : 128 * k.val + r.val < 1024) :
    View.ld (Val := Elt Ideal) (e' := .f32) v (Rect.unit (s := S1024x1280) (k1_off5 k) S128x128.size (k1_off5_inb k)) (ix2 r l) = laneAt v ⟨128 * k.val + r.val, h⟩ l 3 :=
  View.ld_unit_apply_of (Val := Elt Ideal) v _ _ _ _ _ fun a => by
    have e := congrFun (off5_eq k) a
    match a with
    | ⟨0, _⟩ => exact (congrArg (· + r.val) e).symm
    | ⟨1, _⟩ => exact (congrArg (· + l.val) e).symm
theorem rd_off5 (arg5 : Memref sig .tc .vmem S1024x1280 .f32) (X5 : BufTy.Contents (Elt Ideal) arg5.view.ty) (v : Vec Ideal S1024x1280 .f32)
    (hT : arg5.view.read (Elt Ideal) X5 = v) (k : Fin k1_t1_loop.trips) (r l : Fin 128) (h : 128 * k.val + r.val < 1024) :
    (arg5.view.readAt (Elt Ideal) (Rect.unit (s := S1024x1280) (k1_off5 k) S128x128.size (k1_off5_inb k)).toLoadRect X5) (ix2 r l) = laneAt v ⟨128 * k.val + r.val, h⟩ l 3 := by
  rw [View.readAt_eq_ld, hT]; exact ld_off5 v k r l h
theorem ld_off6 (v : Vec Ideal S1024x1280 .f32) (k : Fin k1_t1_loop.trips) (r l : Fin 128) (h : 128 * k.val + r.val < 1024) :
    View.ld (Val := Elt Ideal) (e' := .f32) v (Rect.unit (s := S1024x1280) (k1_off6 k) S128x128.size (k1_off6_inb k)) (ix2 r l) = laneAt v ⟨128 * k.val + r.val, h⟩ l 4 :=
  View.ld_unit_apply_of (Val := Elt Ideal) v _ _ _ _ _ fun a => by
    have e := congrFun (off6_eq k) a
    match a with
    | ⟨0, _⟩ => exact (congrArg (· + r.val) e).symm
    | ⟨1, _⟩ => exact (congrArg (· + l.val) e).symm
theorem rd_off6 (arg5 : Memref sig .tc .vmem S1024x1280 .f32) (X5 : BufTy.Contents (Elt Ideal) arg5.view.ty) (v : Vec Ideal S1024x1280 .f32)
    (hT : arg5.view.read (Elt Ideal) X5 = v) (k : Fin k1_t1_loop.trips) (r l : Fin 128) (h : 128 * k.val + r.val < 1024) :
    (arg5.view.readAt (Elt Ideal) (Rect.unit (s := S1024x1280) (k1_off6 k) S128x128.size (k1_off6_inb k)).toLoadRect X5) (ix2 r l) = laneAt v ⟨128 * k.val + r.val, h⟩ l 4 := by
  rw [View.readAt_eq_ld, hT]; exact ld_off6 v k r l h
theorem ld_off7 (v : Vec Ideal S1024x1280 .f32) (k : Fin k1_t1_loop.trips) (r l : Fin 128) (h : 128 * k.val + r.val < 1024) :
    View.ld (Val := Elt Ideal) (e' := .f32) v (Rect.unit (s := S1024x1280) (k1_off7 k) S128x128.size (k1_off7_inb k)) (ix2 r l) = laneAt v ⟨128 * k.val + r.val, h⟩ l 5 :=
  View.ld_unit_apply_of (Val := Elt Ideal) v _ _ _ _ _ fun a => by
    have e := congrFun (off7_eq k) a
    match a with
    | ⟨0, _⟩ => exact (congrArg (· + r.val) e).symm
    | ⟨1, _⟩ => exact (congrArg (· + l.val) e).symm
theorem rd_off7 (arg5 : Memref sig .tc .vmem S1024x1280 .f32) (X5 : BufTy.Contents (Elt Ideal) arg5.view.ty) (v : Vec Ideal S1024x1280 .f32)
    (hT : arg5.view.read (Elt Ideal) X5 = v) (k : Fin k1_t1_loop.trips) (r l : Fin 128) (h : 128 * k.val + r.val < 1024) :
    (arg5.view.readAt (Elt Ideal) (Rect.unit (s := S1024x1280) (k1_off7 k) S128x128.size (k1_off7_inb k)).toLoadRect X5) (ix2 r l) = laneAt v ⟨128 * k.val + r.val, h⟩ l 5 := by
  rw [View.readAt_eq_ld, hT]; exact ld_off7 v k r l h
theorem ld_off8 (v : Vec Ideal S1024x1280 .f32) (k : Fin k1_t1_loop.trips) (r l : Fin 128) (h : 128 * k.val + r.val < 1024) :
    View.ld (Val := Elt Ideal) (e' := .f32) v (Rect.unit (s := S1024x1280) (k1_off8 k) S128x128.size (k1_off8_inb k)) (ix2 r l) = laneAt v ⟨128 * k.val + r.val, h⟩ l 6 :=
  View.ld_unit_apply_of (Val := Elt Ideal) v _ _ _ _ _ fun a => by
    have e := congrFun (off8_eq k) a
    match a with
    | ⟨0, _⟩ => exact (congrArg (· + r.val) e).symm
    | ⟨1, _⟩ => exact (congrArg (· + l.val) e).symm
theorem rd_off8 (arg5 : Memref sig .tc .vmem S1024x1280 .f32) (X5 : BufTy.Contents (Elt Ideal) arg5.view.ty) (v : Vec Ideal S1024x1280 .f32)
    (hT : arg5.view.read (Elt Ideal) X5 = v) (k : Fin k1_t1_loop.trips) (r l : Fin 128) (h : 128 * k.val + r.val < 1024) :
    (arg5.view.readAt (Elt Ideal) (Rect.unit (s := S1024x1280) (k1_off8 k) S128x128.size (k1_off8_inb k)).toLoadRect X5) (ix2 r l) = laneAt v ⟨128 * k.val + r.val, h⟩ l 6 := by
  rw [View.readAt_eq_ld, hT]; exact ld_off8 v k r l h
theorem ld_off9 (v : Vec Ideal S1024x1280 .f32) (k : Fin k1_t1_loop.trips) (r l : Fin 128) (h : 128 * k.val + r.val < 1024) :
    View.ld (Val := Elt Ideal) (e' := .f32) v (Rect.unit (s := S1024x1280) (k1_off9 k) S128x128.size (k1_off9_inb k)) (ix2 r l) = laneAt v ⟨128 * k.val + r.val, h⟩ l 7 :=
  View.ld_unit_apply_of (Val := Elt Ideal) v _ _ _ _ _ fun a => by
    have e := congrFun (off9_eq k) a
    match a with
    | ⟨0, _⟩ => exact (congrArg (· + r.val) e).symm
    | ⟨1, _⟩ => exact (congrArg (· + l.val) e).symm
theorem rd_off9 (arg5 : Memref sig .tc .vmem S1024x1280 .f32) (X5 : BufTy.Contents (Elt Ideal) arg5.view.ty) (v : Vec Ideal S1024x1280 .f32)
    (hT : arg5.view.read (Elt Ideal) X5 = v) (k : Fin k1_t1_loop.trips) (r l : Fin 128) (h : 128 * k.val + r.val < 1024) :
    (arg5.view.readAt (Elt Ideal) (Rect.unit (s := S1024x1280) (k1_off9 k) S128x128.size (k1_off9_inb k)).toLoadRect X5) (ix2 r l) = laneAt v ⟨128 * k.val + r.val, h⟩ l 7 := by
  rw [View.readAt_eq_ld, hT]; exact ld_off9 v k r l h
theorem ld_off10 (v : Vec Ideal S1024x1280 .f32) (k : Fin k1_t1_loop.trips) (r l : Fin 128) (h : 128 * k.val + r.val < 1024) :
    View.ld (Val := Elt Ideal) (e' := .f32) v (Rect.unit (s := S1024x1280) (k1_off10 k) S128x128.size (k1_off10_inb k)) (ix2 r l) = laneAt v ⟨128 * k.val + r.val, h⟩ l 8 :=
  View.ld_unit_apply_of (Val := Elt Ideal) v _ _ _ _ _ fun a => by
    have e := congrFun (off10_eq k) a
    match a with
    | ⟨0, _⟩ => exact (congrArg (· + r.val) e).symm
    | ⟨1, _⟩ => exact (congrArg (· + l.val) e).symm
theorem rd_off10 (arg5 : Memref sig .tc .vmem S1024x1280 .f32) (X5 : BufTy.Contents (Elt Ideal) arg5.view.ty) (v : Vec Ideal S1024x1280 .f32)
    (hT : arg5.view.read (Elt Ideal) X5 = v) (k : Fin k1_t1_loop.trips) (r l : Fin 128) (h : 128 * k.val + r.val < 1024) :
    (arg5.view.readAt (Elt Ideal) (Rect.unit (s := S1024x1280) (k1_off10 k) S128x128.size (k1_off10_inb k)).toLoadRect X5) (ix2 r l) = laneAt v ⟨128 * k.val + r.val, h⟩ l 8 := by
  rw [View.readAt_eq_ld, hT]; exact ld_off10 v k r l h
theorem ld_off11 (v : Vec Ideal S1024x1280 .f32) (k : Fin k1_t1_loop.trips) (r l : Fin 128) (h : 128 * k.val + r.val < 1024) :
    View.ld (Val := Elt Ideal) (e' := .f32) v (Rect.unit (s := S1024x1280) (k1_off11 k) S128x128.size (k1_off11_inb k)) (ix2 r l) = laneAt v ⟨128 * k.val + r.val, h⟩ l 9 :=
  View.ld_unit_apply_of (Val := Elt Ideal) v _ _ _ _ _ fun a => by
    have e := congrFun (off11_eq k) a
    match a with
    | ⟨0, _⟩ => exact (congrArg (· + r.val) e).symm
    | ⟨1, _⟩ => exact (congrArg (· + l.val) e).symm
theorem rd_off11 (arg5 : Memref sig .tc .vmem S1024x1280 .f32) (X5 : BufTy.Contents (Elt Ideal) arg5.view.ty) (v : Vec Ideal S1024x1280 .f32)
    (hT : arg5.view.read (Elt Ideal) X5 = v) (k : Fin k1_t1_loop.trips) (r l : Fin 128) (h : 128 * k.val + r.val < 1024) :
    (arg5.view.readAt (Elt Ideal) (Rect.unit (s := S1024x1280) (k1_off11 k) S128x128.size (k1_off11_inb k)).toLoadRect X5) (ix2 r l) = laneAt v ⟨128 * k.val + r.val, h⟩ l 9 := by
  rw [View.readAt_eq_ld, hT]; exact ld_off11 v k r l h

variable (T : Vec Ideal S1024x1280 .f32) (M S : Vec Ideal S1024x128 .f32)

/-- The maximum of eleven blocks, at an entry. -/
theorem pay2_apply (m b0 b1 b2 b3 b4 b5 b6 b7 b8 b9 : Vec Ideal S128x128 .f32) (r l : Fin 128) :
    k1_pay2 (F := Ideal) m b0 b1 b2 b3 b4 b5 b6 b7 b8 b9 (ix2 r l) = max (m (ix2 r l)) (Finset.univ.sup (![b0 (ix2 r l), b1 (ix2 r l), b2 (ix2 r l), b3 (ix2 r l), b4 (ix2 r l), b5 (ix2 r l), b6 (ix2 r l), b7 (ix2 r l), b8 (ix2 r l), b9 (ix2 r l)] : Fin 10 → EReal)) := by
  unfold k1_pay2
  pointwise
  exact sup_ten (m (ix2 r l)) ![b0 (ix2 r l), b1 (ix2 r l), b2 (ix2 r l), b3 (ix2 r l), b4 (ix2 r l), b5 (ix2 r l), b6 (ix2 r l), b7 (ix2 r l), b8 (ix2 r l), b9 (ix2 r l)]

/-- The rescaled sum and ten exponentials, at an entry. -/
theorem pay49_apply (p d s b0 b1 b2 b3 b4 b5 b6 b7 b8 b9 : Vec Ideal S128x128 .f32) (r l : Fin 128) :
    k1_pay49 (F := Ideal) p (k1_pay4 (F := Ideal) p s d b0 b1 b2 b3 b4 b5 b6 b7) b8 b9 (ix2 r l)
      = s (ix2 r l) * Ideal.exp (d (ix2 r l)) + ∑ c, (![Ideal.exp (b0 (ix2 r l) - p (ix2 r l)), Ideal.exp (b1 (ix2 r l) - p (ix2 r l)), Ideal.exp (b2 (ix2 r l) - p (ix2 r l)), Ideal.exp (b3 (ix2 r l) - p (ix2 r l)), Ideal.exp (b4 (ix2 r l) - p (ix2 r l)), Ideal.exp (b5 (ix2 r l) - p (ix2 r l)), Ideal.exp (b6 (ix2 r l) - p (ix2 r l)), Ideal.exp (b7 (ix2 r l) - p (ix2 r l)), Ideal.exp (b8 (ix2 r l) - p (ix2 r l)), Ideal.exp (b9 (ix2 r l) - p (ix2 r l))] : Fin 10 → EReal) c := by
  unfold k1_pay49 k1_pay4
  pointwise
  exact sum_ten (s (ix2 r l) * Ideal.exp (d (ix2 r l))) ![Ideal.exp (b0 (ix2 r l) - p (ix2 r l)), Ideal.exp (b1 (ix2 r l) - p (ix2 r l)), Ideal.exp (b2 (ix2 r l) - p (ix2 r l)), Ideal.exp (b3 (ix2 r l) - p (ix2 r l)), Ideal.exp (b4 (ix2 r l) - p (ix2 r l)), Ideal.exp (b5 (ix2 r l) - p (ix2 r l)), Ideal.exp (b6 (ix2 r l) - p (ix2 r l)), Ideal.exp (b7 (ix2 r l) - p (ix2 r l)), Ideal.exp (b8 (ix2 r l) - p (ix2 r l)), Ideal.exp (b9 (ix2 r l) - p (ix2 r l))]

/-- The stored running maximum, at an entry. -/
theorem pay2_at (k : Fin k1_t1_loop.trips) (f8 : BufTy.Contents (Elt Ideal) arg8.view.ty) (hT : arg5.view.read (Elt Ideal) X5 = T)
    (r l : Fin 128) (h : 128 * k.val + r.val < 1024) (hM : arg8.view.read (Elt Ideal) f8 (ix2 ⟨128 * k.val + r.val, h⟩ l) = M (ix2 ⟨128 * k.val + r.val, h⟩ l)) :
    (k1_pay2 (F := Ideal) (arg8.view.readAt (Elt Ideal) (Rect.unit (s := S1024x128) (k1_off1 k) S128x128.size (k1_off1_inb k)).toLoadRect f8) (arg5.view.readAt (Elt Ideal) (Rect.unit (s := S1024x1280) (k1_off2 k) S128x128.size (k1_off2_inb k)).toLoadRect X5) (arg5.view.readAt (Elt Ideal) (Rect.unit (s := S1024x1280) (k1_off3 k) S128x128.size (k1_off3_inb k)).toLoadRect X5) (arg5.view.readAt (Elt Ideal) (Rect.unit (s := S1024x1280) (k1_off4 k) S128x128.size (k1_off4_inb k)).toLoadRect X5) (arg5.view.readAt (Elt Ideal) (Rect.unit (s := S1024x1280) (k1_off5 k) S128x128.size (k1_off5_inb k)).toLoadRect X5) (arg5.view.readAt (Elt Ideal) (Rect.unit (s := S1024x1280) (k1_off6 k) S128x128.size (k1_off6_inb k)).toLoadRect X5) (arg5.view.readAt (Elt Ideal) (Rect.unit (s := S1024x1280) (k1_off7 k) S128x128.size (k1_off7_inb k)).toLoadRect X5) (arg5.view.readAt (Elt Ideal) (Rect.unit (s := S1024x1280) (k1_off8 k) S128x128.size (k1_off8_inb k)).toLoadRect X5) (arg5.view.readAt (Elt Ideal) (Rect.unit (s := S1024x1280) (k1_off9 k) S128x128.size (k1_off9_inb k)).toLoadRect X5) (arg5.view.readAt (Elt Ideal) (Rect.unit (s := S1024x1280) (k1_off10 k) S128x128.size (k1_off10_inb k)).toLoadRect X5) (arg5.view.readAt (Elt Ideal) (Rect.unit (s := S1024x1280) (k1_off11 k) S128x128.size (k1_off11_inb k)).toLoadRect X5)) (ix2 r l) = mNew T M (ix2 ⟨128 * k.val + r.val, h⟩ l) := by
  rw [pay2_apply, View.readAt_eq_ld arg8.view, ld_off1 _ k r l h, hM, rd_off2 arg5 X5 T hT k r l h, rd_off3 arg5 X5 T hT k r l h, rd_off4 arg5 X5 T hT k r l h, rd_off5 arg5 X5 T hT k r l h, rd_off6 arg5 X5 T hT k r l h, rd_off7 arg5 X5 T hT k r l h, rd_off8 arg5 X5 T hT k r l h, rd_off9 arg5 X5 T hT k r l h, rd_off10 arg5 X5 T hT k r l h, rd_off11 arg5 X5 T hT k r l h]
  unfold mNew
  exact congrArg (fun f => max (M (ix2 ⟨128 * k.val + r.val, h⟩ l)) (Finset.univ.sup f)) (funext fun c => by fin_cases c <;> rfl)

/-- The stored running sum, at an entry. -/
theorem pay49_at (k : Fin k1_t1_loop.trips) (f8 : BufTy.Contents (Elt Ideal) arg8.view.ty) (f9 : BufTy.Contents (Elt Ideal) arg9.view.ty) (hT : arg5.view.read (Elt Ideal) X5 = T)
    (r l : Fin 128) (h : 128 * k.val + r.val < 1024) (hM : arg8.view.read (Elt Ideal) f8 (ix2 ⟨128 * k.val + r.val, h⟩ l) = M (ix2 ⟨128 * k.val + r.val, h⟩ l))
    (hS : arg9.view.read (Elt Ideal) f9 (ix2 ⟨128 * k.val + r.val, h⟩ l) = S (ix2 ⟨128 * k.val + r.val, h⟩ l)) :
    k1_pay49 (F := Ideal) (k1_pay2 (F := Ideal) (arg8.view.readAt (Elt Ideal) (Rect.unit (s := S1024x128) (k1_off1 k) S128x128.size (k1_off1_inb k)).toLoadRect f8) (arg5.view.readAt (Elt Ideal) (Rect.unit (s := S1024x1280) (k1_off2 k) S128x128.size (k1_off2_inb k)).toLoadRect X5) (arg5.view.readAt (Elt Ideal) (Rect.unit (s := S1024x1280) (k1_off3 k) S128x128.size (k1_off3_inb k)).toLoadRect X5) (arg5.view.readAt (Elt Ideal) (Rect.unit (s := S1024x1280) (k1_off4 k) S128x128.size (k1_off4_inb k)).toLoadRect X5) (arg5.view.readAt (Elt Ideal) (Rect.unit (s := S1024x1280) (k1_off5 k) S128x128.size (k1_off5_inb k)).toLoadRect X5) (arg5.view.readAt (Elt Ideal) (Rect.unit (s := S1024x1280) (k1_off6 k) S128x128.size (k1_off6_inb k)).toLoadRect X5) (arg5.view.readAt (Elt Ideal) (Rect.unit (s := S1024x1280) (k1_off7 k) S128x128.size (k1_off7_inb k)).toLoadRect X5) (arg5.view.readAt (Elt Ideal) (Rect.unit (s := S1024x1280) (k1_off8 k) S128x128.size (k1_off8_inb k)).toLoadRect X5) (arg5.view.readAt (Elt Ideal) (Rect.unit (s := S1024x1280) (k1_off9 k) S128x128.size (k1_off9_inb k)).toLoadRect X5) (arg5.view.readAt (Elt Ideal) (Rect.unit (s := S1024x1280) (k1_off10 k) S128x128.size (k1_off10_inb k)).toLoadRect X5) (arg5.view.readAt (Elt Ideal) (Rect.unit (s := S1024x1280) (k1_off11 k) S128x128.size (k1_off11_inb k)).toLoadRect X5)) (k1_pay4 (F := Ideal) (k1_pay2 (F := Ideal) (arg8.view.readAt (Elt Ideal) (Rect.unit (s := S1024x128) (k1_off1 k) S128x128.size (k1_off1_inb k)).toLoadRect f8) (arg5.view.readAt (Elt Ideal) (Rect.unit (s := S1024x1280) (k1_off2 k) S128x128.size (k1_off2_inb k)).toLoadRect X5) (arg5.view.readAt (Elt Ideal) (Rect.unit (s := S1024x1280) (k1_off3 k) S128x128.size (k1_off3_inb k)).toLoadRect X5) (arg5.view.readAt (Elt Ideal) (Rect.unit (s := S1024x1280) (k1_off4 k) S128x128.size (k1_off4_inb k)).toLoadRect X5) (arg5.view.readAt (Elt Ideal) (Rect.unit (s := S1024x1280) (k1_off5 k) S128x128.size (k1_off5_inb k)).toLoadRect X5) (arg5.view.readAt (Elt Ideal) (Rect.unit (s := S1024x1280) (k1_off6 k) S128x128.size (k1_off6_inb k)).toLoadRect X5) (arg5.view.readAt (Elt Ideal) (Rect.unit (s := S1024x1280) (k1_off7 k) S128x128.size (k1_off7_inb k)).toLoadRect X5) (arg5.view.readAt (Elt Ideal) (Rect.unit (s := S1024x1280) (k1_off8 k) S128x128.size (k1_off8_inb k)).toLoadRect X5) (arg5.view.readAt (Elt Ideal) (Rect.unit (s := S1024x1280) (k1_off9 k) S128x128.size (k1_off9_inb k)).toLoadRect X5) (arg5.view.readAt (Elt Ideal) (Rect.unit (s := S1024x1280) (k1_off10 k) S128x128.size (k1_off10_inb k)).toLoadRect X5) (arg5.view.readAt (Elt Ideal) (Rect.unit (s := S1024x1280) (k1_off11 k) S128x128.size (k1_off11_inb k)).toLoadRect X5)) (arg9.view.readAt (Elt Ideal) (Rect.unit (s := S1024x128) (k1_off1 k) S128x128.size (k1_off1_inb k)).toLoadRect f9) (k1_pay3 (F := Ideal) (arg8.view.readAt (Elt Ideal) (Rect.unit (s := S1024x128) (k1_off1 k) S128x128.size (k1_off1_inb k)).toLoadRect f8) (arg5.view.readAt (Elt Ideal) (Rect.unit (s := S1024x1280) (k1_off2 k) S128x128.size (k1_off2_inb k)).toLoadRect X5) (arg5.view.readAt (Elt Ideal) (Rect.unit (s := S1024x1280) (k1_off3 k) S128x128.size (k1_off3_inb k)).toLoadRect X5) (arg5.view.readAt (Elt Ideal) (Rect.unit (s := S1024x1280) (k1_off4 k) S128x128.size (k1_off4_inb k)).toLoadRect X5) (arg5.view.readAt (Elt Ideal) (Rect.unit (s := S1024x1280) (k1_off5 k) S128x128.size (k1_off5_inb k)).toLoadRect X5) (arg5.view.readAt (Elt Ideal) (Rect.unit (s := S1024x1280) (k1_off6 k) S128x128.size (k1_off6_inb k)).toLoadRect X5) (arg5.view.readAt (Elt Ideal) (Rect.unit (s := S1024x1280) (k1_off7 k) S128x128.size (k1_off7_inb k)).toLoadRect X5) (arg5.view.readAt (Elt Ideal) (Rect.unit (s := S1024x1280) (k1_off8 k) S128x128.size (k1_off8_inb k)).toLoadRect X5) (arg5.view.readAt (Elt Ideal) (Rect.unit (s := S1024x1280) (k1_off9 k) S128x128.size (k1_off9_inb k)).toLoadRect X5) (arg5.view.readAt (Elt Ideal) (Rect.unit (s := S1024x1280) (k1_off10 k) S128x128.size (k1_off10_inb k)).toLoadRect X5) (arg5.view.readAt (Elt Ideal) (Rect.unit (s := S1024x1280) (k1_off11 k) S128x128.size (k1_off11_inb k)).toLoadRect X5)) (arg5.view.readAt (Elt Ideal) (Rect.unit (s := S1024x1280) (k1_off2 k) S128x128.size (k1_off2_inb k)).toLoadRect X5) (arg5.view.readAt (Elt Ideal) (Rect.unit (s := S1024x1280) (k1_off3 k) S128x128.size (k1_off3_inb k)).toLoadRect X5) (arg5.view.readAt (Elt Ideal) (Rect.unit (s := S1024x1280) (k1_off4 k) S128x128.size (k1_off4_inb k)).toLoadRect X5) (arg5.view.readAt (Elt Ideal) (Rect.unit (s := S1024x1280) (k1_off5 k) S128x128.size (k1_off5_inb k)).toLoadRect X5) (arg5.view.readAt (Elt Ideal) (Rect.unit (s := S1024x1280) (k1_off6 k) S128x128.size (k1_off6_inb k)).toLoadRect X5) (arg5.view.readAt (Elt Ideal) (Rect.unit (s := S1024x1280) (k1_off7 k) S128x128.size (k1_off7_inb k)).toLoadRect X5) (arg5.view.readAt (Elt Ideal) (Rect.unit (s := S1024x1280) (k1_off8 k) S128x128.size (k1_off8_inb k)).toLoadRect X5) (arg5.view.readAt (Elt Ideal) (Rect.unit (s := S1024x1280) (k1_off9 k) S128x128.size (k1_off9_inb k)).toLoadRect X5)) (arg5.view.readAt (Elt Ideal) (Rect.unit (s := S1024x1280) (k1_off10 k) S128x128.size (k1_off10_inb k)).toLoadRect X5) (arg5.view.readAt (Elt Ideal) (Rect.unit (s := S1024x1280) (k1_off11 k) S128x128.size (k1_off11_inb k)).toLoadRect X5) (ix2 r l) = sNew T M S (ix2 ⟨128 * k.val + r.val, h⟩ l) := by
  have e := pay2_at arg5 arg8 X5 T M k f8 hT r l h hM
  rw [pay49_apply, show ∀ m b0 b1 b2 b3 b4 b5 b6 b7 b8 b9 : Vec Ideal S128x128 .f32, k1_pay3 (F := Ideal) m b0 b1 b2 b3 b4 b5 b6 b7 b8 b9 (ix2 r l) = m (ix2 r l) - k1_pay2 (F := Ideal) m b0 b1 b2 b3 b4 b5 b6 b7 b8 b9 (ix2 r l) from fun _ _ _ _ _ _ _ _ _ _ _ => rfl, e,
    View.readAt_eq_ld arg8.view, View.readAt_eq_ld arg9.view, ld_off1 _ k r l h, ld_off1 _ k r l h, hM, hS, rd_off2 arg5 X5 T hT k r l h, rd_off3 arg5 X5 T hT k r l h, rd_off4 arg5 X5 T hT k r l h, rd_off5 arg5 X5 T hT k r l h, rd_off6 arg5 X5 T hT k r l h, rd_off7 arg5 X5 T hT k r l h, rd_off8 arg5 X5 T hT k r l h, rd_off9 arg5 X5 T hT k r l h, rd_off10 arg5 X5 T hT k r l h, rd_off11 arg5 X5 T hT k r l h]
  unfold sNew
  exact congrArg (fun f : Fin 10 → EReal => S (ix2 ⟨128 * k.val + r.val, h⟩ l) * Ideal.exp (M (ix2 ⟨128 * k.val + r.val, h⟩ l) - mNew T M (ix2 ⟨128 * k.val + r.val, h⟩ l)) + ∑ c, f c) (funext fun c => by fin_cases c <;> rfl)

/-- After `k` trips the first `128 k` rows hold the new running maximum and sum, the others what they held. -/
theorem pb1_read (G8 : BufTy.Contents (Elt Ideal) arg8.view.ty) (G9 : BufTy.Contents (Elt Ideal) arg9.view.ty) (hT : arg5.view.read (Elt Ideal) X5 = T)
    (hM : arg8.view.read (Elt Ideal) G8 = M) (hS : arg9.view.read (Elt Ideal) G9 = S) (k : ℕ) (hk : k ≤ k1_t1_loop.trips) :
    arg8.view.read (Elt Ideal) (arg8.view.writes (Elt Ideal) G8 (pb_k1_t1 𝒱 c bd i arg1 harg1 arg2 harg2 arg3 harg3 arg4 harg4 arg5 harg5 arg6 harg6 arg7 harg7 arg8 harg8 arg9 harg9 arg0 v321 v323 v332 X5 G8 G9 k).1)
        = (fun j => if (j 0).val < 128 * k then mNew T M j else M j) ∧
      arg9.view.read (Elt Ideal) (arg9.view.writes (Elt Ideal) G9 (pb_k1_t1 𝒱 c bd i arg1 harg1 arg2 harg2 arg3 harg3 arg4 harg4 arg5 harg5 arg6 harg6 arg7 harg7 arg8 harg8 arg9 harg9 arg0 v321 v323 v332 X5 G8 G9 k).2)
        = (fun j => if (j 0).val < 128 * k then sNew T M S j else S j) := by
  induction k with
  | zero => exact ⟨funext fun j => (congrFun hM j).trans (if_neg (by omega)).symm, funext fun j => (congrFun hS j).trans (if_neg (by omega)).symm⟩
  | succ k ih =>
    obtain ⟨ihM, ihS⟩ := ih (by omega)
    have hs : pb_k1_t1 𝒱 c bd i arg1 harg1 arg2 harg2 arg3 harg3 arg4 harg4 arg5 harg5 arg6 harg6 arg7 harg7 arg8 harg8 arg9 harg9 arg0 v321 v323 v332 X5 G8 G9 (k + 1) = _ := pb_k1_t1_succ 𝒱 c bd i arg1 harg1 arg2 harg2 arg3 harg3 arg4 harg4 arg5 harg5 arg6 harg6 arg7 harg7 arg8 harg8 arg9 harg9 arg0 v321 v323 v332 X5 G8 G9 ⟨k, hk⟩
    have h8 : k < 8 := trips_le ⟨k, hk⟩
    rw [hs, trip1_m, trip1_s]
    dsimp only [List.singleton_append]
    constructor
    · funext j
      idx_vars j
      by_cases h : 128 * k ≤ j0.val ∧ j0.val < 128 * k + 128
      · have hlt : 128 * k + (⟨j0.val - 128 * k, by omega⟩ : Fin 128).val < 1024 := by dsimp only; omega
        have hj : (⟨128 * k + (⟨j0.val - 128 * k, by omega⟩ : Fin 128).val, hlt⟩ : Fin 1024) = j0 := Fin.ext (by dsimp only; omega)
        refine (View.read_writes_cons_rows_of_mem (o := 128 * k) arg8.view G8 _ _ _ (ix2 j0 j1) (ix2 (⟨j0.val - 128 * k, by omega⟩ : Fin 128) j1) (off1_eq ⟨k, hk⟩)
          (by show j0.val = 128 * k + (j0.val - 128 * k); omega) rfl).trans ?_
        rw [show k1_pay48 (F := Ideal) = fun v => v from funext fun v => by unfold k1_pay48; rw [shapeCast_self]]
        refine (pay2_at arg5 arg8 X5 T M ⟨k, hk⟩ _ hT (⟨j0.val - 128 * k, by omega⟩ : Fin 128) j1 hlt ?_).trans ?_
        · rw [ihM]; exact if_neg (by show ¬ (128 * k + (j0.val - 128 * k) < 128 * k); omega)
        · rw [hj]; exact (if_pos (by show j0.val < 128 * (k + 1); omega)).symm
      · refine (View.read_writes_cons_rows_of_not_mem (o := 128 * k) (W := 128) arg8.view G8 _ _ _ (ix2 j0 j1) (off1_eq ⟨k, hk⟩) rfl (by show j0.val < 128 * k ∨ 128 * k + 128 ≤ j0.val; omega)).trans ((congrFun ihM _).trans ?_)
        exact if_congr (by show j0.val < 128 * k ↔ j0.val < 128 * (k + 1); omega) rfl rfl
    · funext j
      idx_vars j
      by_cases h : 128 * k ≤ j0.val ∧ j0.val < 128 * k + 128
      · have hlt : 128 * k + (⟨j0.val - 128 * k, by omega⟩ : Fin 128).val < 1024 := by dsimp only; omega
        have hj : (⟨128 * k + (⟨j0.val - 128 * k, by omega⟩ : Fin 128).val, hlt⟩ : Fin 1024) = j0 := Fin.ext (by dsimp only; omega)
        refine (View.read_writes_cons_rows_of_mem (o := 128 * k) arg9.view G9 _ _ _ (ix2 j0 j1) (ix2 (⟨j0.val - 128 * k, by omega⟩ : Fin 128) j1) (off1_eq ⟨k, hk⟩)
          (by show j0.val = 128 * k + (j0.val - 128 * k); omega) rfl).trans ?_
        refine (pay49_at arg5 arg8 arg9 X5 T M S ⟨k, hk⟩ _ _ hT (⟨j0.val - 128 * k, by omega⟩ : Fin 128) j1 hlt ?_ ?_).trans ?_
        · rw [ihM]; exact if_neg (by show ¬ (128 * k + (j0.val - 128 * k) < 128 * k); omega)
        · rw [ihS]; exact if_neg (by show ¬ (128 * k + (j0.val - 128 * k) < 128 * k); omega)
        · rw [hj]; exact (if_pos (by show j0.val < 128 * (k + 1); omega)).symm
      · refine (View.read_writes_cons_rows_of_not_mem (o := 128 * k) (W := 128) arg9.view G9 _ _ _ (ix2 j0 j1) (off1_eq ⟨k, hk⟩) rfl (by show j0.val < 128 * k ∨ 128 * k + 128 ≤ j0.val; omega)).trans ((congrFun ihS _).trans ?_)
        exact if_congr (by show j0.val < 128 * k ↔ j0.val < 128 * (k + 1); omega) rfl rfl

/-- The loop leaves the new running maximum and the new running sum in every row. -/
theorem loop1_read (G8 : BufTy.Contents (Elt Ideal) arg8.view.ty) (G9 : BufTy.Contents (Elt Ideal) arg9.view.ty) (hT : arg5.view.read (Elt Ideal) X5 = T)
    (hM : arg8.view.read (Elt Ideal) G8 = M) (hS : arg9.view.read (Elt Ideal) G9 = S) (n : ℕ) (hn : n = k1_t1_loop.trips) :
    arg8.view.read (Elt Ideal) (arg8.view.writes (Elt Ideal) G8 (pb_k1_t1 𝒱 c bd i arg1 harg1 arg2 harg2 arg3 harg3 arg4 harg4 arg5 harg5 arg6 harg6 arg7 harg7 arg8 harg8 arg9 harg9 arg0 v321 v323 v332 X5 G8 G9 n).1) = mNew T M ∧
      arg9.view.read (Elt Ideal) (arg9.view.writes (Elt Ideal) G9 (pb_k1_t1 𝒱 c bd i arg1 harg1 arg2 harg2 arg3 harg3 arg4 harg4 arg5 harg5 arg6 harg6 arg7 harg7 arg8 harg8 arg9 harg9 arg0 v321 v323 v332 X5 G8 G9 n).2) = sNew T M S := by
  have h8 : n = 8 := hn.trans (by decide +kernel)
  obtain ⟨hm, hs⟩ := pb1_read 𝒱 c bd i arg1 harg1 arg2 harg2 arg3 harg3 arg4 harg4 arg5 harg5 arg6 harg6 arg7 harg7 arg8 harg8 arg9 harg9 arg0 v321 v323 v332 X5 T M S G8 G9 hT hM hS n hn.le
  exact ⟨hm.trans (funext fun j => if_pos (by have : (j 0).val < 1024 := (j 0).isLt; omega)), hs.trans (funext fun j => if_pos (by have : (j 0).val < 1024 := (j 0).isLt; omega))⟩

end

end Cert.KernelIdeal.Gen

end
-- ==== Proof.Math.Consts.lean ====
module
public import Idealize.ShloMosaic.PureOps.Ideal
@[expose] public section
noncomputable section
/-! The float constants of the kernel and of the reference as extended reals. -/
namespace Cert.Math
open Idealize.ShloMosaic

theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]
theorem ofBits_64 : Ideal.ofBits .bf16 0x4280#16 = ((64 : ℝ) : EReal) := by simp [Ideal.ofBits, Ideal.ieee, -EReal.coe_mul]; norm_num

end Cert.Math

end
-- ==== Proof.Val.Points1.lean ====
module
public import proofs.«01_k».proof.Proof.Val.Rows
public import proofs.«01_k».proof.Proof.Math.Consts
@[expose] public section
set_option maxRecDepth 16384
noncomputable section
/-! What call 1 leaves at a grid point in its two carried scratch buffers, and the log-sum-exp of the last point. -/
namespace Cert.KernelIdeal.Gen
open Idealize.ShloMosaic Idealize.ShloMosaic.TcCoe Idealize.ShloMosaic.Tactic
open Idealize.SL Idealize.SL.RA Idealize.SL.BI
open Cert.Math

/-- The running maximum starts at minus infinity. -/
theorem pay46_eq : k1_pay46 (F := Ideal) = fun _ => (⊥ : EReal) := by
  funext j; idx_vars j; unfold k1_pay46; pointwise; exact ofBits_neg_inf

/-- The running sum starts at zero. -/
theorem pay47_eq : k1_pay47 (F := Ideal) = fun _ => (0 : EReal) := by
  funext j; idx_vars j; unfold k1_pay47; pointwise

theorem tileX_A (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec Ideal S1024x2048 .bf16) (x1 : Vec Ideal S1024x1 .f32) (x2 : Vec Ideal S1280x1024 .i8) (x3 : Vec Ideal S1280x64 .i8) (f : BufTy.Contents (Elt Ideal) arg5.view.ty) :
    arg5.view.read (Elt Ideal) (arg5.view.writes (Elt Ideal) f (kernelRun1_A c i arg1 harg1 arg2 harg2 arg3 harg3 arg4 harg4 arg5 harg5 arg6 harg6 arg7 harg7 arg8 harg8 arg9 harg9 hc0 hc1 x0 x1 x2 x3).1) = tile x0 x1 x2 x3 :=
  (View.read_writes_eq_canon _ _ _ (cover1_A_4 c i arg1 harg1 arg2 harg2 arg3 harg3 arg4 harg4 arg5 harg5 arg6 harg6 arg7 harg7 arg8 harg8 arg9 harg9 hc0 hc1 x0 x1 x2 x3)).trans
    ((View.read_writes_eq_canon _ _ _ (cover1_A_4 c i arg1 harg1 arg2 harg2 arg3 harg3 arg4 harg4 arg5 harg5 arg6 harg6 arg7 harg7 arg8 harg8 arg9 harg9 hc0 hc1 x0 x1 x2 x3)).symm.trans (tile_A c i arg1 harg1 arg2 harg2 arg3 harg3 arg4 harg4 arg5 harg5 arg6 harg6 arg7 harg7 arg8 harg8 arg9 harg9 hc0 hc1 x0 x1 x2 x3))

theorem sout_A_1 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec Ideal S1024x2048 .bf16) (x1 : Vec Ideal S1024x1 .f32) (x2 : Vec Ideal S1280x1024 .i8) (x3 : Vec Ideal S1280x64 .i8) :
    sout1_A_1 c i arg1 harg1 arg2 harg2 arg3 harg3 arg4 harg4 arg5 harg5 arg6 harg6 arg7 harg7 arg8 harg8 arg9 harg9 hc0 hc1 x0 x1 x2 x3 = mNew (tile x0 x1 x2 x3) (fun _ => (⊥ : EReal)) := by
  unfold sout1_A_1
  rw [View.read_writes_eq_canon _ _ _ (scover1_A_1 c i arg1 harg1 arg2 harg2 arg3 harg3 arg4 harg4 arg5 harg5 arg6 harg6 arg7 harg7 arg8 harg8 arg9 harg9 hc0 hc1 x0 x1 x2 x3), ← View.read_writes_eq_canon arg8.view arg8.view.junk _ (scover1_A_1 c i arg1 harg1 arg2 harg2 arg3 harg3 arg4 harg4 arg5 harg5 arg6 harg6 arg7 harg7 arg8 harg8 arg9 harg9 hc0 hc1 x0 x1 x2 x3)]
  unfold kernelRun1_A
  dsimp only
  rw [View.writes_append]
  exact (loop1_read Variants.none c none i arg1 harg1 arg2 harg2 arg3 harg3 arg4 harg4 arg5 harg5 arg6 harg6 arg7 harg7 arg8 harg8 arg9 harg9 _ _ _ _ _ (tile x0 x1 x2 x3) (fun _ => (⊥ : EReal)) (fun _ => (0 : EReal)) _ _ (tileX_A c i arg1 harg1 arg2 harg2 arg3 harg3 arg4 harg4 arg5 harg5 arg6 harg6 arg7 harg7 arg8 harg8 arg9 harg9 hc0 hc1 x0 x1 x2 x3 _)
    ((View.read_writes_eq_canon _ _ _ (View.cover_of_wholeMem _ (by sl_whole_mem))).trans ((View.canon_unit_zero hz2 _ _).trans pay46_eq))
    ((View.read_writes_eq_canon _ _ _ (View.cover_of_wholeMem _ (by sl_whole_mem))).trans ((View.canon_unit_zero hz2 _ _).trans pay47_eq)) _ rfl).1

theorem sout_A_2 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : cond1_0 i) (hc1 : ¬cond1_1 i)
    (x0 : Vec Ideal S1024x2048 .bf16) (x1 : Vec Ideal S1024x1 .f32) (x2 : Vec Ideal S1280x1024 .i8) (x3 : Vec Ideal S1280x64 .i8) :
    sout1_A_2 c i arg1 harg1 arg2 harg2 arg3 harg3 arg4 harg4 arg5 harg5 arg6 harg6 arg7 harg7 arg8 harg8 arg9 harg9 hc0 hc1 x0 x1 x2 x3 = sNew (tile x0 x1 x2 x3) (fun _ => (⊥ : EReal)) (fun _ => (0 : EReal)) := by
  unfold sout1_A_2
  rw [View.read_writes_eq_canon _ _ _ (scover1_A_2 c i arg1 harg1 arg2 harg2 arg3 harg3 arg4 harg4 arg5 harg5 arg6 harg6 arg7 harg7 arg8 harg8 arg9 harg9 hc0 hc1 x0 x1 x2 x3), ← View.read_writes_eq_canon arg9.view arg9.view.junk _ (scover1_A_2 c i arg1 harg1 arg2 harg2 arg3 harg3 arg4 harg4 arg5 harg5 arg6 harg6 arg7 harg7 arg8 harg8 arg9 harg9 hc0 hc1 x0 x1 x2 x3)]
  unfold kernelRun1_A
  dsimp only
  rw [View.writes_append]
  exact (loop1_read Variants.none c none i arg1 harg1 arg2 harg2 arg3 harg3 arg4 harg4 arg5 harg5 arg6 harg6 arg7 harg7 arg8 harg8 arg9 harg9 _ _ _ _ _ (tile x0 x1 x2 x3) (fun _ => (⊥ : EReal)) (fun _ => (0 : EReal)) _ _ (tileX_A c i arg1 harg1 arg2 harg2 arg3 harg3 arg4 harg4 arg5 harg5 arg6 harg6 arg7 harg7 arg8 harg8 arg9 harg9 hc0 hc1 x0 x1 x2 x3 _)
    ((View.read_writes_eq_canon _ _ _ (View.cover_of_wholeMem _ (by sl_whole_mem))).trans ((View.canon_unit_zero hz2 _ _).trans pay46_eq))
    ((View.read_writes_eq_canon _ _ _ (View.cover_of_wholeMem _ (by sl_whole_mem))).trans ((View.canon_unit_zero hz2 _ _).trans pay47_eq)) _ rfl).2

theorem tileX_B (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec Ideal S1024x2048 .bf16) (x1 : Vec Ideal S1024x1 .f32) (x2 : Vec Ideal S1280x1024 .i8) (x3 : Vec Ideal S1280x64 .i8) (s8 s9 : Vec Ideal S1024x128 .f32) (f : BufTy.Contents (Elt Ideal) arg5.view.ty) :
    arg5.view.read (Elt Ideal) (arg5.view.writes (Elt Ideal) f (kernelRun1_B c i arg1 harg1 arg2 harg2 arg3 harg3 arg4 harg4 arg5 harg5 arg6 harg6 arg7 harg7 arg8 harg8 arg9 harg9 hc0 hc1 x0 x1 x2 x3 s8 s9).1) = tile x0 x1 x2 x3 :=
  (View.read_writes_eq_canon _ _ _ (cover1_B_4 c i arg1 harg1 arg2 harg2 arg3 harg3 arg4 harg4 arg5 harg5 arg6 harg6 arg7 harg7 arg8 harg8 arg9 harg9 hc0 hc1 x0 x1 x2 x3 s8 s9)).trans
    ((View.read_writes_eq_canon _ _ _ (cover1_B_4 c i arg1 harg1 arg2 harg2 arg3 harg3 arg4 harg4 arg5 harg5 arg6 harg6 arg7 harg7 arg8 harg8 arg9 harg9 hc0 hc1 x0 x1 x2 x3 s8 s9)).symm.trans (tile_B c i arg1 harg1 arg2 harg2 arg3 harg3 arg4 harg4 arg5 harg5 arg6 harg6 arg7 harg7 arg8 harg8 arg9 harg9 hc0 hc1 x0 x1 x2 x3 s8 s9))

theorem sout_B_1 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec Ideal S1024x2048 .bf16) (x1 : Vec Ideal S1024x1 .f32) (x2 : Vec Ideal S1280x1024 .i8) (x3 : Vec Ideal S1280x64 .i8) (s8 s9 : Vec Ideal S1024x128 .f32) :
    sout1_B_1 c i arg1 harg1 arg2 harg2 arg3 harg3 arg4 harg4 arg5 harg5 arg6 harg6 arg7 harg7 arg8 harg8 arg9 harg9 hc0 hc1 x0 x1 x2 x3 s8 s9 = mNew (tile x0 x1 x2 x3) s8 := by
  unfold sout1_B_1
  rw [View.read_writes_eq_canon _ _ _ (scover1_B_1 c i arg1 harg1 arg2 harg2 arg3 harg3 arg4 harg4 arg5 harg5 arg6 harg6 arg7 harg7 arg8 harg8 arg9 harg9 hc0 hc1 x0 x1 x2 x3 s8 s9), ← View.read_writes_eq_canon arg8.view (harg8.unread s8) _ (scover1_B_1 c i arg1 harg1 arg2 harg2 arg3 harg3 arg4 harg4 arg5 harg5 arg6 harg6 arg7 harg7 arg8 harg8 arg9 harg9 hc0 hc1 x0 x1 x2 x3 s8 s9)]
  unfold kernelRun1_B
  dsimp only
  exact (loop1_read Variants.none c none i arg1 harg1 arg2 harg2 arg3 harg3 arg4 harg4 arg5 harg5 arg6 harg6 arg7 harg7 arg8 harg8 arg9 harg9 _ _ _ _ _ (tile x0 x1 x2 x3) s8 s9 _ _ (tileX_B c i arg1 harg1 arg2 harg2 arg3 harg3 arg4 harg4 arg5 harg5 arg6 harg6 arg7 harg7 arg8 harg8 arg9 harg9 hc0 hc1 x0 x1 x2 x3 s8 s9 _) (harg8.read_unread s8) (harg9.read_unread s9) _ rfl).1

theorem sout_B_2 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : ¬cond1_1 i)
    (x0 : Vec Ideal S1024x2048 .bf16) (x1 : Vec Ideal S1024x1 .f32) (x2 : Vec Ideal S1280x1024 .i8) (x3 : Vec Ideal S1280x64 .i8) (s8 s9 : Vec Ideal S1024x128 .f32) :
    sout1_B_2 c i arg1 harg1 arg2 harg2 arg3 harg3 arg4 harg4 arg5 harg5 arg6 harg6 arg7 harg7 arg8 harg8 arg9 harg9 hc0 hc1 x0 x1 x2 x3 s8 s9 = sNew (tile x0 x1 x2 x3) s8 s9 := by
  unfold sout1_B_2
  rw [View.read_writes_eq_canon _ _ _ (scover1_B_2 c i arg1 harg1 arg2 harg2 arg3 harg3 arg4 harg4 arg5 harg5 arg6 harg6 arg7 harg7 arg8 harg8 arg9 harg9 hc0 hc1 x0 x1 x2 x3 s8 s9), ← View.read_writes_eq_canon arg9.view (harg9.unread s9) _ (scover1_B_2 c i arg1 harg1 arg2 harg2 arg3 harg3 arg4 harg4 arg5 harg5 arg6 harg6 arg7 harg7 arg8 harg8 arg9 harg9 hc0 hc1 x0 x1 x2 x3 s8 s9)]
  unfold kernelRun1_B
  dsimp only
  exact (loop1_read Variants.none c none i arg1 harg1 arg2 harg2 arg3 harg3 arg4 harg4 arg5 harg5 arg6 harg6 arg7 harg7 arg8 harg8 arg9 harg9 _ _ _ _ _ (tile x0 x1 x2 x3) s8 s9 _ _ (tileX_B c i arg1 harg1 arg2 harg2 arg3 harg3 arg4 harg4 arg5 harg5 arg6 harg6 arg7 harg7 arg8 harg8 arg9 harg9 hc0 hc1 x0 x1 x2 x3 s8 s9 _) (harg8.read_unread s8) (harg9.read_unread s9) _ rfl).2

theorem tileX_C (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec Ideal S1024x2048 .bf16) (x1 : Vec Ideal S1024x1 .f32) (x2 : Vec Ideal S1280x1024 .i8) (x3 : Vec Ideal S1280x64 .i8) (s8 s9 : Vec Ideal S1024x128 .f32) (f : BufTy.Contents (Elt Ideal) arg5.view.ty) :
    arg5.view.read (Elt Ideal) (arg5.view.writes (Elt Ideal) f (kernelRun1_C c i arg1 harg1 arg2 harg2 arg3 harg3 arg4 harg4 arg5 harg5 arg6 harg6 arg7 harg7 arg8 harg8 arg9 harg9 hc0 hc1 x0 x1 x2 x3 s8 s9).1) = tile x0 x1 x2 x3 :=
  (View.read_writes_eq_canon _ _ _ (cover1_C_4 c i arg1 harg1 arg2 harg2 arg3 harg3 arg4 harg4 arg5 harg5 arg6 harg6 arg7 harg7 arg8 harg8 arg9 harg9 hc0 hc1 x0 x1 x2 x3 s8 s9)).trans
    ((View.read_writes_eq_canon _ _ _ (cover1_C_4 c i arg1 harg1 arg2 harg2 arg3 harg3 arg4 harg4 arg5 harg5 arg6 harg6 arg7 harg7 arg8 harg8 arg9 harg9 hc0 hc1 x0 x1 x2 x3 s8 s9)).symm.trans (tile_C c i arg1 harg1 arg2 harg2 arg3 harg3 arg4 harg4 arg5 harg5 arg6 harg6 arg7 harg7 arg8 harg8 arg9 harg9 hc0 hc1 x0 x1 x2 x3 s8 s9))

theorem sout_C_1 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec Ideal S1024x2048 .bf16) (x1 : Vec Ideal S1024x1 .f32) (x2 : Vec Ideal S1280x1024 .i8) (x3 : Vec Ideal S1280x64 .i8) (s8 s9 : Vec Ideal S1024x128 .f32) :
    sout1_C_1 c i arg1 harg1 arg2 harg2 arg3 harg3 arg4 harg4 arg5 harg5 arg6 harg6 arg7 harg7 arg8 harg8 arg9 harg9 hc0 hc1 x0 x1 x2 x3 s8 s9 = mNew (tile x0 x1 x2 x3) s8 := by
  unfold sout1_C_1
  rw [View.read_writes_eq_canon _ _ _ (scover1_C_1 c i arg1 harg1 arg2 harg2 arg3 harg3 arg4 harg4 arg5 harg5 arg6 harg6 arg7 harg7 arg8 harg8 arg9 harg9 hc0 hc1 x0 x1 x2 x3 s8 s9), ← View.read_writes_eq_canon arg8.view (harg8.unread s8) _ (scover1_C_1 c i arg1 harg1 arg2 harg2 arg3 harg3 arg4 harg4 arg5 harg5 arg6 harg6 arg7 harg7 arg8 harg8 arg9 harg9 hc0 hc1 x0 x1 x2 x3 s8 s9)]
  unfold kernelRun1_C
  dsimp only
  exact (loop1_read Variants.none c none i arg1 harg1 arg2 harg2 arg3 harg3 arg4 harg4 arg5 harg5 arg6 harg6 arg7 harg7 arg8 harg8 arg9 harg9 _ _ _ _ _ (tile x0 x1 x2 x3) s8 s9 _ _ (tileX_C c i arg1 harg1 arg2 harg2 arg3 harg3 arg4 harg4 arg5 harg5 arg6 harg6 arg7 harg7 arg8 harg8 arg9 harg9 hc0 hc1 x0 x1 x2 x3 s8 s9 _) (harg8.read_unread s8) (harg9.read_unread s9) _ rfl).1

theorem sout_C_2 (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec Ideal S1024x2048 .bf16) (x1 : Vec Ideal S1024x1 .f32) (x2 : Vec Ideal S1280x1024 .i8) (x3 : Vec Ideal S1280x64 .i8) (s8 s9 : Vec Ideal S1024x128 .f32) :
    sout1_C_2 c i arg1 harg1 arg2 harg2 arg3 harg3 arg4 harg4 arg5 harg5 arg6 harg6 arg7 harg7 arg8 harg8 arg9 harg9 hc0 hc1 x0 x1 x2 x3 s8 s9 = sNew (tile x0 x1 x2 x3) s8 s9 := by
  unfold sout1_C_2
  rw [View.read_writes_eq_canon _ _ _ (scover1_C_2 c i arg1 harg1 arg2 harg2 arg3 harg3 arg4 harg4 arg5 harg5 arg6 harg6 arg7 harg7 arg8 harg8 arg9 harg9 hc0 hc1 x0 x1 x2 x3 s8 s9), ← View.read_writes_eq_canon arg9.view (harg9.unread s9) _ (scover1_C_2 c i arg1 harg1 arg2 harg2 arg3 harg3 arg4 harg4 arg5 harg5 arg6 harg6 arg7 harg7 arg8 harg8 arg9 harg9 hc0 hc1 x0 x1 x2 x3 s8 s9)]
  unfold kernelRun1_C
  dsimp only
  exact (loop1_read Variants.none c none i arg1 harg1 arg2 harg2 arg3 harg3 arg4 harg4 arg5 harg5 arg6 harg6 arg7 harg7 arg8 harg8 arg9 harg9 _ _ _ _ _ (tile x0 x1 x2 x3) s8 s9 _ _ (tileX_C c i arg1 harg1 arg2 harg2 arg3 harg3 arg4 harg4 arg5 harg5 arg6 harg6 arg7 harg7 arg8 harg8 arg9 harg9 hc0 hc1 x0 x1 x2 x3 s8 s9 _) (harg8.read_unread s8) (harg9.read_unread s9) _ rfl).2

/-- The last point's log-sum-exp. -/
theorem lse_C (c : Dev nD) (i : grid1.Coords) (arg1 : Memref sig .tc .vmem S1024x2048 .bf16) (harg1 : arg1.IsWhole) (arg2 : Memref sig .tc .vmem S1024x1 .f32) (harg2 : arg2.IsWhole) (arg3 : Memref sig .tc .vmem S1280x1024 .i8) (harg3 : arg3.IsWhole) (arg4 : Memref sig .tc .vmem S1280x64 .i8) (harg4 : arg4.IsWhole) (arg5 : Memref sig .tc .vmem S1024x1280 .f32) (harg5 : arg5.IsWhole) (arg6 : Memref sig .tc .vmem S1024x1 .f32) (harg6 : arg6.IsWhole) (arg7 : Memref sig .tc .vmem S1280x2048 .bf16) (harg7 : arg7.IsWhole) (arg8 : Memref sig .tc .vmem S1024x128 .f32) (harg8 : arg8.IsWhole) (arg9 : Memref sig .tc .vmem S1024x128 .f32) (harg9 : arg9.IsWhole) (hc0 : ¬cond1_0 i) (hc1 : cond1_1 i)
    (x0 : Vec Ideal S1024x2048 .bf16) (x1 : Vec Ideal S1024x1 .f32) (x2 : Vec Ideal S1280x1024 .i8) (x3 : Vec Ideal S1280x64 .i8) (s8 s9 : Vec Ideal S1024x128 .f32) :
    out1_C_5 c i arg1 harg1 arg2 harg2 arg3 harg3 arg4 harg4 arg5 harg5 arg6 harg6 arg7 harg7 arg8 harg8 arg9 harg9 hc0 hc1 x0 x1 x2 x3 s8 s9 = k1_pay1 (F := Ideal) (mNew (tile x0 x1 x2 x3) s8) (sNew (tile x0 x1 x2 x3) s8 s9) (mNew (tile x0 x1 x2 x3) s8) := by
  have hl := loop1_read Variants.none c none i arg1 harg1 arg2 harg2 arg3 harg3 arg4 harg4 arg5 harg5 arg6 harg6 arg7 harg7 arg8 harg8 arg9 harg9 (BitVec.ofNat 32 (i 0).val) (kernelRun1_C.sl.r_21 c arg4 harg4 x3)
    (kernelRun1_C.sl.r_22 c arg3 harg3 x2) (kernelRun1_C.sl.r_23 c arg3 harg3 x2) _ (tile x0 x1 x2 x3) s8 s9 _ _ (tileX_C c i arg1 harg1 arg2 harg2 arg3 harg3 arg4 harg4 arg5 harg5 arg6 harg6 arg7 harg7 arg8 harg8 arg9 harg9 hc0 hc1 x0 x1 x2 x3 s8 s9 arg5.view.junk)
    (harg8.read_unread s8) (harg9.read_unread s9) _ rfl
  unfold out1_C_5
  rw [View.read_writes_eq_canon _ _ _ (cover1_C_5 c i arg1 harg1 arg2 harg2 arg3 harg3 arg4 harg4 arg5 harg5 arg6 harg6 arg7 harg7 arg8 harg8 arg9 harg9 hc0 hc1 x0 x1 x2 x3 s8 s9)]
  unfold kernelRun1_C
  dsimp only
  rw [View.canon_unit_zero hz2]
  exact congrArg₂ (fun a b => k1_pay1 (F := Ideal) a b a) ((View.ld_unit_zero (S := S1024x128) hz2 _ _).trans hl.1) ((View.ld_unit_zero (S := S1024x128) hz2 _ _).trans hl.2)

end Cert.KernelIdeal.Gen

end
-- ==== Proof.Math.Online.lean ====
module
public import proofs.«01_k».proof.Proof.Math.Consts
public import Idealize.ShloMosaic.PureOps.Ideal
public import Mathlib.Data.EReal.Operations
@[expose] public section
noncomputable section
/-! The running maximum and the running sum of exponentials, carried from tile to tile, are the maximum and the sum
    over all the tiles. Everything is over the extended reals and unconditional. -/
namespace Cert.Math
open Idealize.ShloMosaic

theorem exp_coe (r : ℝ) : Ideal.exp (r : EReal) = (Real.exp r : EReal) := rfl
theorem exp_bot : Ideal.exp ⊥ = 0 := rfl
theorem exp_top : Ideal.exp ⊤ = ⊤ := rfl

theorem exp_nonneg (x : EReal) : 0 ≤ Ideal.exp x := by
  induction x using EReal.rec with
  | bot => exact le_refl _
  | top => exact le_top
  | coe r => rw [exp_coe]; exact_mod_cast (Real.exp_pos r).le

/-- Rescaling one exponential from an older maximum to a newer one. -/
theorem exp_rescale {l a b : EReal} (h1 : l ≤ a) (h2 : a ≤ b) :
    Ideal.exp (l - a) * Ideal.exp (a - b) = Ideal.exp (l - b) := by
  induction a using EReal.rec with
  | bot =>
    have : l = ⊥ := le_bot_iff.mp h1
    subst this
    simp [exp_bot]
  | top =>
    have : b = ⊤ := top_le_iff.mp h2
    subst this
    simp [exp_bot]
  | coe a =>
    induction b using EReal.rec with
    | bot => exact absurd h2 (by simp)
    | top => simp [exp_bot]
    | coe b =>
      induction l using EReal.rec with
      | bot => simp [exp_bot]
      | top => exact absurd h1 (by simp)
      | coe l =>
        rw [← EReal.coe_sub, ← EReal.coe_sub, ← EReal.coe_sub, exp_coe, exp_coe, exp_coe, ← EReal.coe_mul, ← Real.exp_add]
        congr 2; ring

/-- A sum of nonnegative terms times anything, termwise. -/
theorem sum_mul_of_nonneg {ι : Type*} (s : Finset ι) (f : ι → EReal) (hf : ∀ i ∈ s, 0 ≤ f i) (x : EReal) :
    (∑ i ∈ s, f i) * x = ∑ i ∈ s, f i * x := by
  classical
  induction s using Finset.induction_on with
  | empty => simp
  | insert a s ha ih =>
    rw [Finset.sum_insert ha, Finset.sum_insert ha, EReal.right_distrib_of_nonneg (hf a (Finset.mem_insert_self _ _))
      (Finset.sum_nonneg fun i hi => hf i (Finset.mem_insert_of_mem hi)),
      ih fun i hi => hf i (Finset.mem_insert_of_mem hi)]

/-- A sum of exponentials rescaled from a bound of its exponents to a larger one. -/
theorem sum_rescale {ι : Type*} (s : Finset ι) (f : ι → EReal) (a b : EReal) (hf : ∀ i ∈ s, f i ≤ a) (h : a ≤ b) :
    (∑ i ∈ s, Ideal.exp (f i - a)) * Ideal.exp (a - b) = ∑ i ∈ s, Ideal.exp (f i - b) := by
  rw [sum_mul_of_nonneg s _ (fun i _ => exp_nonneg _)]
  exact Finset.sum_congr rfl fun i hi => exp_rescale (hf i hi) h

/-- The running maximum over tiles of `n` entries. -/
def runMax {n : ℕ} (f : ℕ → Fin n → EReal) : ℕ → EReal
  | 0 => max ⊥ (Finset.univ.sup (f 0))
  | t + 1 => max (runMax f t) (Finset.univ.sup (f (t + 1)))

/-- The running sum of exponentials, rescaled at every tile. -/
def runSum {n : ℕ} (f : ℕ → Fin n → EReal) : ℕ → EReal
  | 0 => 0 * Ideal.exp (⊥ - runMax f 0) + ∑ c, Ideal.exp (f 0 c - runMax f 0)
  | t + 1 => runSum f t * Ideal.exp (runMax f t - runMax f (t + 1)) + ∑ c, Ideal.exp (f (t + 1) c - runMax f (t + 1))

theorem runMax_eq {n : ℕ} (f : ℕ → Fin n → EReal) (t : ℕ) :
    runMax f t = (Finset.range (t + 1)).sup fun i => Finset.univ.sup (f i) := by
  induction t with
  | zero => simp [runMax]
  | succ t ih => rw [Finset.range_add_one, Finset.sup_insert, ← ih, runMax]; exact max_comm _ _

theorem le_runMax {n : ℕ} (f : ℕ → Fin n → EReal) (t i : ℕ) (hi : i ∈ Finset.range (t + 1)) (c : Fin n) : f i c ≤ runMax f t := by
  rw [runMax_eq]
  exact (Finset.le_sup (f := f i) (Finset.mem_univ c)).trans (Finset.le_sup (f := fun i => Finset.univ.sup (f i)) hi)

theorem runSum_eq {n : ℕ} (f : ℕ → Fin n → EReal) (t : ℕ) :
    runSum f t = ∑ i ∈ Finset.range (t + 1), ∑ c, Ideal.exp (f i c - runMax f t) := by
  induction t with
  | zero => simp [runSum]
  | succ t ih =>
    rw [Finset.sum_range_succ, runSum, ih]
    congr 1
    rw [← Finset.sum_product' (Finset.range (t + 1)) Finset.univ fun i c => Ideal.exp (f i c - runMax f t),
      ← Finset.sum_product' (Finset.range (t + 1)) Finset.univ fun i c => Ideal.exp (f i c - runMax f (t + 1))]
    refine sum_rescale _ (fun p : ℕ × Fin n => f p.1 p.2) _ _ (fun p hp => ?_) (le_max_left _ _)
    exact le_runMax f t p.1 (Finset.mem_product.mp hp).1 p.2

/-- The log-sum-exp of a family, about its maximum. -/
def lseOf {ι : Type} [Fintype ι] (f : ι → EReal) : EReal :=
  Finset.univ.sup f + Ideal.log (∑ i, Ideal.exp (f i - Finset.univ.sup f))

/-- A column of the vocabulary as tile, chunk and lane. -/
def col (p : Fin 25 × Fin 10 × Fin 128) : Fin 32000 :=
  ⟨1280 * p.1.val + (128 * p.2.1.val + p.2.2.val), by have := p.1.isLt; have := p.2.1.isLt; have := p.2.2.isLt; omega⟩

def colEquiv : (Fin 25 × Fin 10 × Fin 128) ≃ Fin 32000 where
  toFun := col
  invFun v := (⟨v.val / 1280, by have := v.isLt; omega⟩, ⟨v.val % 1280 / 128, by omega⟩, ⟨v.val % 128, by omega⟩)
  left_inv p := by
    obtain ⟨⟨a, ha⟩, ⟨b, hb⟩, ⟨c, hc⟩⟩ := p
    simp only [col, Prod.mk.injEq, Fin.mk.injEq]
    omega
  right_inv v := by
    apply Fin.ext
    show 1280 * (v.val / 1280) + (128 * (v.val % 1280 / 128) + v.val % 128) = v.val
    omega

/-- Lane `l`'s entries, tile by tile. -/
def laneFam (f : Fin 32000 → EReal) (l : Fin 128) (t : ℕ) (c : Fin 10) : EReal :=
  if h : t < 25 then f (col (⟨t, h⟩, c, l)) else 0

theorem sup_lanes (f : Fin 32000 → EReal) :
    (Finset.univ.sup fun l => runMax (laneFam f l) 24) = Finset.univ.sup f := by
  apply le_antisymm
  · refine Finset.sup_le fun l _ => ?_
    rw [runMax_eq]
    refine Finset.sup_le fun i hi => Finset.sup_le fun c _ => ?_
    have h : i < 25 := Finset.mem_range.mp hi
    unfold laneFam
    rw [dif_pos h]
    exact Finset.le_sup (f := f) (Finset.mem_univ _)
  · refine Finset.sup_le fun v _ => ?_
    obtain ⟨p, rfl⟩ := colEquiv.surjective v
    have h1 := le_runMax (laneFam f p.2.2) 24 p.1.val (Finset.mem_range.mpr p.1.isLt) p.2.1
    unfold laneFam at h1
    rw [dif_pos p.1.isLt] at h1
    exact h1.trans (Finset.le_sup (f := fun l => runMax (laneFam f l) 24) (Finset.mem_univ _))

/-- The lanes' running sums, brought to the common maximum and added, are the sum over the vocabulary. -/
theorem sum_lanes (f : Fin 32000 → EReal) :
    (∑ l, runSum (laneFam f l) 24 * Ideal.exp (runMax (laneFam f l) 24 - Finset.univ.sup f))
      = ∑ v, Ideal.exp (f v - Finset.univ.sup f) := by
  have h1 : ∀ l, runSum (laneFam f l) 24 * Ideal.exp (runMax (laneFam f l) 24 - Finset.univ.sup f)
      = ∑ t : Fin 25, ∑ c : Fin 10, Ideal.exp (f (col (t, c, l)) - Finset.univ.sup f) := by
    intro l
    rw [runSum_eq, ← Finset.sum_product' (Finset.range (24 + 1)) Finset.univ
      fun i c => Ideal.exp (laneFam f l i c - runMax (laneFam f l) 24)]
    rw [sum_rescale _ (fun p : ℕ × Fin 10 => laneFam f l p.1 p.2) _ _ (fun p hp => le_runMax _ 24 p.1 (Finset.mem_product.mp hp).1 p.2)
      (by rw [← sup_lanes]; exact Finset.le_sup (f := fun l => runMax (laneFam f l) 24) (Finset.mem_univ l))]
    rw [Finset.sum_product' (Finset.range (24 + 1)) Finset.univ fun i c => Ideal.exp (laneFam f l i c - Finset.univ.sup f),
      Finset.sum_range]
    refine Finset.sum_congr rfl fun t _ => Finset.sum_congr rfl fun c _ => ?_
    unfold laneFam
    rw [dif_pos (show t.val < 25 from t.isLt)]
  rw [Finset.sum_congr rfl fun l _ => h1 l]
  rw [← Equiv.sum_comp colEquiv, Fintype.sum_prod_type]
  simp only [Fintype.sum_prod_type]
  rw [Finset.sum_comm]
  refine Finset.sum_congr rfl fun t _ => ?_
  rw [Finset.sum_comm]
  rfl
end Cert.Math
-- ==== Proof.Val.Lanes.lean ====
module
public import proofs.«01_k».proof.Proof.Val.Points1
public import proofs.«01_k».proof.Proof.Math.Online
@[expose] public section
set_option maxRecDepth 16384
noncomputable section
/-! The two scratch buffers of call 1, tile by tile, in terms of the whole array of logits; the log-sum-exp of the last
    tile is that of the whole row. -/
namespace Cert.KernelIdeal.Gen
open Idealize.ShloMosaic Idealize.ShloMosaic.TcCoe Idealize.ShloMosaic.Tactic
open Idealize.SL Idealize.SL.RA Idealize.SL.BI
open Cert.Math

/-- A decoded weight over the whole vocabulary. -/
def wAll (e : Vec Ideal S32000x64 .i8) (w : Vec Ideal S32000x1024 .i8) (v : Fin 32000) (k : Fin 2048) : EReal :=
  ((e2m1 (codeAt k.val (w (ix2 v ⟨128 * (k.val / 256) + k.val % 128, by have := k.isLt; omega⟩))) / 64 : ℝ) : EReal)
    * scale (e (ix2 v ⟨8 * (k.val / 256) + k.val % 128 / 16, by have := k.isLt; omega⟩))

/-- The logits of the gathered rows. -/
def logitsOf (x : Vec Ideal S1024x2048 .bf16) (xs : Vec Ideal S1024x1 .f32) (w : Vec Ideal S32000x1024 .i8)
    (e : Vec Ideal S32000x64 .i8) : Vec Ideal S1024x32000 .f32 :=
  fun j => (∑ k : Fin 2048, x (ix2 (j 0) k) * wAll e w (j 1) k) * xs (ix2 (j 0) 0)

/-- Tile `n` of an array over the vocabulary. -/
def tileAt (L : Vec Ideal S1024x32000 .f32) (n : ℕ) : Vec Ideal S1024x1280 .f32 :=
  fun j => if h : 1280 * n + (j 1).val < 32000 then L (ix2 (j 0) ⟨1280 * n + (j 1).val, h⟩) else 0

/-- The running maxima after tile `n`. -/
def mSt (L : Vec Ideal S1024x32000 .f32) : ℕ → Vec Ideal S1024x128 .f32
  | 0 => mNew (tileAt L 0) (fun _ => ⊥)
  | n + 1 => mNew (tileAt L (n + 1)) (mSt L n)

/-- The running sums after tile `n`. -/
def sSt (L : Vec Ideal S1024x32000 .f32) : ℕ → Vec Ideal S1024x128 .f32
  | 0 => sNew (tileAt L 0) (fun _ => ⊥) (fun _ => 0)
  | n + 1 => sNew (tileAt L (n + 1)) (mSt L n) (sSt L n)

/-- Row `r` of an array over the vocabulary. -/
def rowOf (L : Vec Ideal S1024x32000 .f32) (r : Fin 1024) : Fin 32000 → EReal := fun v => L (ix2 r v)

theorem lane_eq (L : Vec Ideal S1024x32000 .f32) (n : ℕ) (hn : n < 25) (r : Fin 1024) (l : Fin 128) :
    laneAt (tileAt L n) r l = laneFam (rowOf L r) l n := by
  funext c
  unfold laneAt tileAt laneFam rowOf col
  have hc := c.isLt
  have hl := l.isLt
  rw [dif_pos hn]
  refine (dif_pos (show 1280 * n + (128 * c.val + l.val) < 32000 by omega)).trans rfl

theorem mSt_apply (L : Vec Ideal S1024x32000 .f32) (n : ℕ) (hn : n < 25) (r : Fin 1024) (l : Fin 128) :
    mSt L n (ix2 r l) = runMax (laneFam (rowOf L r) l) n := by
  induction n with
  | zero =>
    show max ⊥ (Finset.univ.sup (laneAt (tileAt L 0) r l)) = _
    rw [lane_eq L 0 hn]; rfl
  | succ n ih =>
    show max (mSt L n (ix2 r l)) (Finset.univ.sup (laneAt (tileAt L (n + 1)) r l)) = _
    rw [lane_eq L _ hn, ih (by omega)]; rfl

theorem sSt_apply (L : Vec Ideal S1024x32000 .f32) (n : ℕ) (hn : n < 25) (r : Fin 1024) (l : Fin 128) :
    sSt L n (ix2 r l) = runSum (laneFam (rowOf L r) l) n := by
  induction n with
  | zero =>
    show 0 * Ideal.exp (⊥ - mSt L 0 (ix2 r l)) + ∑ c : Fin 10, Ideal.exp (laneAt (tileAt L 0) r l c - mSt L 0 (ix2 r l)) = _
    rw [lane_eq L 0 hn, mSt_apply L 0 hn]; rfl
  | succ n ih =>
    show sSt L n (ix2 r l) * Ideal.exp (mSt L n (ix2 r l) - mSt L (n + 1) (ix2 r l))
      + ∑ c : Fin 10, Ideal.exp (laneAt (tileAt L (n + 1)) r l c - mSt L (n + 1) (ix2 r l)) = _
    rw [lane_eq L _ hn, ih (by omega), mSt_apply L _ hn, mSt_apply L n (by omega)]; rfl

/-- The log-sum-exp of every row. -/
def lseV (L : Vec Ideal S1024x32000 .f32) : Vec Ideal S1024x1 .f32 := fun j => lseOf (rowOf L (j 0))

theorem pay1_at (M S : Vec Ideal S1024x128 .f32) (r : Fin 1024) (z : Fin 1) :
    k1_pay1 M S M (ix2 r z) = (Finset.univ.sup fun l => M (ix2 r l))
      + Ideal.log (∑ l, S (ix2 r l) * Ideal.exp (M (ix2 r l) - Finset.univ.sup fun l => M (ix2 r l))) := by
  unfold k1_pay1
  pointwise
  rw [ofBits_neg_inf]
  rfl

theorem lse_eq (L : Vec Ideal S1024x32000 .f32) : k1_pay1 (mSt L 24) (sSt L 24) (mSt L 24) = lseV L := by
  funext j
  idx_vars j
  rw [pay1_at]
  have e1 : (fun l => mSt L 24 (ix2 j0 l)) = fun l => runMax (laneFam (rowOf L j0) l) 24 :=
    funext fun l => mSt_apply L 24 (by decide) j0 l
  have e2 : (fun l => sSt L 24 (ix2 j0 l)) = fun l => runSum (laneFam (rowOf L j0) l) 24 :=
    funext fun l => sSt_apply L 24 (by decide) j0 l
  rw [e1, sup_lanes]
  have e3 : (fun l => sSt L 24 (ix2 j0 l) * Ideal.exp (mSt L 24 (ix2 j0 l) - Finset.univ.sup (rowOf L j0)))
      = fun l => runSum (laneFam (rowOf L j0) l) 24 * Ideal.exp (runMax (laneFam (rowOf L j0) l) 24 - Finset.univ.sup (rowOf L j0)) :=
    funext fun l => by rw [congrFun e1 l, congrFun e2 l]
  rw [e3, sum_lanes]
  rfl
end Cert.KernelIdeal.Gen
-- ==== Proof.Val.Array1.lean ====
module
public import proofs.«01_k».proof.Proof.Val.Lanes
public import Idealize.ShloMosaic.Lib.Pipeline.Value
@[expose] public section
set_option maxRecDepth 16384
noncomputable section
/-! The two arrays that call 1 writes: the logits, and the log-sum-exp of every row. -/
namespace Cert.KernelIdeal.Gen
open Idealize.ShloMosaic Idealize.ShloMosaic.TcCoe Idealize.ShloMosaic.Tactic
open Idealize.SL Idealize.SL.RA Idealize.SL.BI
open Idealize.ShloMosaic.Pipeline (Dat)
open Cert.Math

variable (V : (c : Dev nD) → (b : Ref sig .tc) → Buf (Elt Ideal) ((c : Thread nD τ).loc b))

/-- The block indices of the six windows of call 1: the first two stand still, the next two move down the vocabulary,
    the logits move along it, the log-sum-exp stands still. -/
theorem idx1 : ∀ t : Fin cfg1.N, (win1_0.index t (0 : Fin 2) = 0 ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = 0 ∧ win1_4.index t (1 : Fin 2) = t.val)
    ∧ (win1_5.index t (0 : Fin 2) = 0 ∧ win1_5.index t (1 : Fin 2) = 0) :=
  (by decide +kernel : ∀ t : Fin grid1.N, _)

theorem lt25 (t : Fin cfg1.N) : t.val < 25 := Nat.lt_of_lt_of_eq t.isLt N_1

theorem blk1_0 (c : Dev nD) (t : Fin cfg1.N) : iblk1 V c 0 t = V c main_v2 := by
  obtain ⟨⟨e0, e1⟩, -⟩ := idx1 t
  funext j
  show V c main_v2 (((cfg1.win 0).blk t).view.emb j) = V c main_v2 j
  refine congrArg _ (funext fun a => Fin.ext ?_)
  match a with
  | ⟨0, _⟩ => show win1_0.index t (0 : Fin 2) * 1024 + 1 * (j 0).val = (j 0).val; omega
  | ⟨1, _⟩ => show win1_0.index t (1 : Fin 2) * 2048 + 1 * (j 1).val = (j 1).val; omega

theorem blk1_1 (c : Dev nD) (t : Fin cfg1.N) : iblk1 V c 1 t = V c main_v1 := by
  obtain ⟨-, ⟨e0, e1⟩, -⟩ := idx1 t
  funext j
  show V c main_v1 (((cfg1.win 1).blk t).view.emb j) = V c main_v1 j
  refine congrArg _ (funext fun a => Fin.ext ?_)
  match a with
  | ⟨0, _⟩ => show win1_1.index t (0 : Fin 2) * 1024 + 1 * (j 0).val = (j 0).val; omega
  | ⟨1, _⟩ => show win1_1.index t (1 : Fin 2) * 1 + 1 * (j 1).val = (j 1).val; omega

theorem blk1_2 (c : Dev nD) (t : Fin cfg1.N) (v : Fin 1280) (b : Fin 1024) :
    (iblk1 V c 2 t : Vec Ideal S1280x1024 .i8) (ix2 v b)
      = (V c main_arg2 : Vec Ideal S32000x1024 .i8) (ix2 ⟨1280 * t.val + v.val, by have := lt25 t; omega⟩ b) := by
  obtain ⟨-, -, ⟨e0, e1⟩, -⟩ := idx1 t
  show V c main_arg2 (((cfg1.win 2).blk t).view.emb (ix2 v b)) = _
  refine congrArg _ (funext fun a => Fin.ext ?_)
  match a with
  | ⟨0, _⟩ => show win1_2.index t (0 : Fin 2) * 1280 + 1 * v.val = 1280 * t.val + v.val; omega
  | ⟨1, _⟩ => show win1_2.index t (1 : Fin 2) * 1024 + 1 * b.val = b.val; omega

theorem blk1_3 (c : Dev nD) (t : Fin cfg1.N) (v : Fin 1280) (b : Fin 64) :
    (iblk1 V c 3 t : Vec Ideal S1280x64 .i8) (ix2 v b)
      = (V c main_arg3 : Vec Ideal S32000x64 .i8) (ix2 ⟨1280 * t.val + v.val, by have := lt25 t; omega⟩ b) := by
  obtain ⟨-, -, -, ⟨e0, e1⟩, -⟩ := idx1 t
  show V c main_arg3 (((cfg1.win 3).blk t).view.emb (ix2 v b)) = _
  refine congrArg _ (funext fun a => Fin.ext ?_)
  match a with
  | ⟨0, _⟩ => show win1_3.index t (0 : Fin 2) * 1280 + 1 * v.val = 1280 * t.val + v.val; omega
  | ⟨1, _⟩ => show win1_3.index t (1 : Fin 2) * 64 + 1 * b.val = b.val; omega

/-- The logits, from the arrays call 1 finds. -/
def L1 (c : Dev nD) : Vec Ideal S1024x32000 .f32 := logitsOf (V c main_v2) (V c main_v1) (V c main_arg2) (V c main_arg3)

/-- The tile of point `t` is tile `t` of the logits. -/
theorem tile_blk (c : Dev nD) (t : Fin cfg1.N) :
    tile (iblk1 V c 0 t) (iblk1 V c 1 t) (iblk1 V c 2 t) (iblk1 V c 3 t) = tileAt (L1 V c) t.val := by
  funext j
  idx_vars j
  have ht := lt25 t
  have hj := j1.isLt
  unfold tile tileAt L1 logitsOf
  refine Eq.trans ?_ (dif_pos (show 1280 * t.val + j1.val < 32000 by omega)).symm
  rw [blk1_0, blk1_1]
  refine congrArg (· * (V c main_v1 : Vec Ideal S1024x1 .f32) (ix2 j0 0)) (Finset.sum_congr rfl fun k _ => ?_)
  have h : wdAt (iblk1 V c 3 t) (iblk1 V c 2 t) j1 k
      = wAll (V c main_arg3) (V c main_arg2) ⟨1280 * t.val + j1.val, by omega⟩ k := by
    unfold wdAt wAll
    rw [blk1_2, blk1_3]
  exact congrArg (fun z : EReal => (show EReal from (V c main_v2 : Vec Ideal S1024x2048 .bf16) (ix2 j0 k)) * z) h

/-- The scratch buffers after point `n`. -/
theorem scratch1 (c : Dev nD) : ∀ (n : ℕ) (hn : n < cfg1.N),
    (outsAt1 V c n hn).2.2.1 = mSt (L1 V c) n ∧ (outsAt1 V c n hn).2.2.2 = sSt (L1 V c) n := by
  intro n
  induction n with
  | zero =>
    intro hn
    have h := outsAt1_A V c ⟨0, hn⟩ (Nat.zero_mod _) (by show ¬ 0 % 25 = 24; decide)
    rw [show outsAt1 V c 0 hn = _ from h]
    exact ⟨(sout_A_1 ..).trans (by rw [tile_blk]; rfl), (sout_A_2 ..).trans (by rw [tile_blk]; rfl)⟩
  | succ n ih =>
    intro hn
    obtain ⟨im, is⟩ := ih (Nat.lt_of_succ_lt hn)
    have hN : n + 1 < 25 := Nat.lt_of_lt_of_eq hn N_1
    have h0 : ¬ (n + 1) % 25 = 0 := by omega
    by_cases h1 : (n + 1) % 25 = 24
    · have h := outsAt1_C V c ⟨n + 1, hn⟩ h0 h1
      rw [show outsAt1 V c (n + 1) hn = _ from h]
      exact ⟨(sout_C_1 ..).trans (by rw [tile_blk]; exact congrArg _ im), (sout_C_2 ..).trans (by rw [tile_blk]; exact congrArg₂ _ im is)⟩
    · have h := outsAt1_B V c ⟨n + 1, hn⟩ h0 h1
      rw [show outsAt1 V c (n + 1) hn = _ from h]
      exact ⟨(sout_B_1 ..).trans (by rw [tile_blk]; exact congrArg _ im), (sout_B_2 ..).trans (by rw [tile_blk]; exact congrArg₂ _ im is)⟩

/-- What point `t` leaves in the logits' buffer. -/
theorem out1_4_eq (c : Dev nD) (t : Fin cfg1.N) : (outsAt1 V c t.val t.isLt).1 = tileAt (L1 V c) t.val := by
  by_cases h0 : t.val % 25 = 0
  · have h1 : ¬ t.val % 25 = 24 := by omega
    refine (congrArg Prod.fst (outsAt1_A V c t h0 h1)).trans ?_
    dsimp only
    rw [tile_A]
    exact tile_blk V c t
  · by_cases h1 : t.val % 25 = 24
    · refine (congrArg Prod.fst (outsAt1_C V c t h0 h1)).trans ?_
      dsimp only
      rw [tile_C]
      exact tile_blk V c t
    · refine (congrArg Prod.fst (outsAt1_B V c t h0 h1)).trans ?_
      dsimp only
      rw [tile_B]
      exact tile_blk V c t

/-- What the last point leaves in the log-sum-exp's buffer. -/
theorem out1_5_eq (c : Dev nD) (t : Fin cfg1.N) (h1 : t.val % 25 = 24) : (outsAt1 V c t.val t.isLt).2.1 = lseV (L1 V c) := by
  have ht := lt25 t
  have h0 : ¬ t.val % 25 = 0 := by omega
  have h24 : t.val = 23 + 1 := by omega
  obtain ⟨im, is⟩ := scratch1 V c (t.val - 1) (by have := t.isLt; omega)
  refine (congrArg (fun q => q.2.1) (outsAt1_C V c t h0 h1)).trans ?_
  dsimp only
  rw [lse_C, tile_blk, im, is, ← lse_eq]
  rw [show t.val - 1 = 23 by omega, h24]
  rfl

/-! ## The arrays -/

theorem flushed1_4_eq (c : Dev nD) (t : Fin cfg1.N) :
    (dat1 V c).flushed 4 t = ((cfg1.win 4).blk t).view.read (Elt Ideal) (L1 V c) := by
  show (cfg1.win 4).cut (grid1.coords t) ((dat1 V c).after 4 t) = _
  rw [after1_4, out1_4_eq]
  obtain ⟨-, -, -, -, ⟨e0, e1⟩, -⟩ := idx1 t
  have ht := lt25 t
  funext y
  have hy1 : (y 1).val < 1280 := (y 1).isLt
  show tileAt (L1 V c) t.val y = L1 V c (((cfg1.win 4).blk t).view.emb y)
  unfold tileAt
  refine (dif_pos (show 1280 * t.val + (y 1).val < 32000 by omega)).trans ?_
  refine congrArg _ (funext fun a => Fin.ext ?_)
  match a with
  | ⟨0, _⟩ => show (y 0).val = win1_4.index t (0 : Fin 2) * 1024 + 1 * (y 0).val; omega
  | ⟨1, _⟩ => show 1280 * t.val + (y 1).val = win1_4.index t (1 : Fin 2) * 1280 + 1 * (y 1).val; omega

theorem mem_blk1_4 (t : Fin cfg1.N) (i : S1024x32000.Idx) :
    i ∈ ((cfg1.win 4).blk t).view.set ↔ ∀ a : Fin 2, win1_4.index t a * S1024x1280.size a ≤ (i a).val ∧ (i a).val < win1_4.index t a * S1024x1280.size a + S1024x1280.size a := by
  show i ∈ ((View.whole main_v3_0).slice (win1_4.rect t)).set ↔ _
  rw [View.set_slice_whole, Rect.mem_set_unit]
  exact Iff.rfl

theorem flushes1_4 : ∀ t : Fin cfg1.N, (cfg1.win 4).flush t = true :=
  (by decide +kernel : ∀ t : Fin grid1.N, win1_4.flush t = true)

theorem covered1_4 (i : S1024x32000.Idx) :
    ∃ t : Fin cfg1.N, (cfg1.win 4).flush t = true ∧ i ∈ ((cfg1.win 4).blk t).view.set := by
  have hi0 : (i 0).val < 1024 := (i 0).isLt
  have hi1 : (i 1).val < 32000 := (i 1).isLt
  have hN : (i 1).val / 1280 < cfg1.N := Nat.lt_of_lt_of_eq (by omega) N_1.symm
  obtain ⟨-, -, -, -, ⟨e0, e1⟩, -⟩ := idx1 ⟨(i 1).val / 1280, hN⟩
  refine ⟨⟨(i 1).val / 1280, hN⟩, flushes1_4 _, ?_⟩
  rw [mem_blk1_4]
  intro a
  match a with
  | ⟨0, _⟩ =>
    show win1_4.index ⟨(i 1).val / 1280, hN⟩ (0 : Fin 2) * 1024 ≤ (i 0).val ∧ (i 0).val < win1_4.index ⟨(i 1).val / 1280, hN⟩ (0 : Fin 2) * 1024 + 1024
    rw [e0]; omega
  | ⟨1, _⟩ =>
    show win1_4.index ⟨(i 1).val / 1280, hN⟩ (1 : Fin 2) * 1280 ≤ (i 1).val ∧ (i 1).val < win1_4.index ⟨(i 1).val / 1280, hN⟩ (1 : Fin 2) * 1280 + 1280
    rw [e1]; dsimp only; omega

/-- The array of logits that call 1 writes. -/
theorem final1_4 (c : Dev nD) : (dat1 V c).arrAt 4 cfg1.N = L1 V c :=
  (dat1 V c).arrAt_eq_of_cover 4 (L1 V c) (fun t _ => flushed1_4_eq V c t) covered1_4

theorem emb1_5 (t : Fin cfg1.N) (j : S1024x1.Idx) : ((cfg1.win 5).blk t).view.emb j = j := by
  obtain ⟨-, -, -, -, -, e0, e1⟩ := idx1 t
  funext a; apply Fin.ext
  match a with
  | ⟨0, _⟩ => show win1_5.index t (0 : Fin 2) * 1024 + 1 * (j 0).val = (j 0).val; omega
  | ⟨1, _⟩ => show win1_5.index t (1 : Fin 2) * 1 + 1 * (j 1).val = (j 1).val; omega

theorem flushed1_5_eq (c : Dev nD) (t : Fin cfg1.N) (hf : (cfg1.win 5).flush t = true) :
    (dat1 V c).flushed 5 t = ((cfg1.win 5).blk t).view.read (Elt Ideal) (lseV (L1 V c)) := by
  show (cfg1.win 5).cut (grid1.coords t) ((dat1 V c).after 5 t) = _
  rw [after1_5, out1_5_eq V c t ((flush1_5 t).mp hf)]
  funext j
  show lseV (L1 V c) j = lseV (L1 V c) (((cfg1.win 5).blk t).view.emb j)
  rw [emb1_5]

theorem covered1_5 (i : S1024x1.Idx) :
    ∃ t : Fin cfg1.N, (cfg1.win 5).flush t = true ∧ i ∈ ((cfg1.win 5).blk t).view.set :=
  ⟨(⟨24, by decide⟩ : Fin cfg1.N), (flush1_5 _).mpr rfl, by have h := ((cfg1.win 5).blk (⟨24, by decide⟩ : Fin cfg1.N)).view.emb_mem_set i; rwa [emb1_5] at h⟩

/-- The array of log-sum-exps that call 1 writes. -/
theorem final1_5 (c : Dev nD) : (dat1 V c).arrAt 5 cfg1.N = lseV (L1 V c) :=
  (dat1 V c).arrAt_eq_of_cover 5 (lseV (L1 V c)) (flushed1_5_eq V c) covered1_5
end Cert.KernelIdeal.Gen
-- ==== Proof.Val.OutRows.lean ====
module
public import proofs.«01_k».proof.Proof.Val.Rows
public import proofs.«01_k».proof.Proof.Run.OutLoop
public import Idealize.ShloMosaic.Lib.WritesUnit
@[expose] public section
set_option maxRecDepth 16384
noncomputable section
/-! The row loop of call 2: the codes that its eight trips store, and what they leave in the running error. -/
namespace Cert.KernelIdeal.Gen
open Idealize.ShloMosaic Idealize.ShloMosaic.TcCoe Idealize.ShloMosaic.Tactic
open Idealize.SL Idealize.SL.RA Idealize.SL.BI
open Cert.Math

/-- A log-probability, floored. -/
def codeOf (l s : EReal) : EReal := max (l - s) (Ideal.ofBits .f32 0xC2700000#32)

/-- The error of a code's probability. -/
def errOf (q : EReal) : EReal := max (Ideal.exp q - Ideal.exp q) (-(Ideal.exp q - Ideal.exp q))

/-- A tile of codes. -/
def codesV (T : Vec Ideal S1024x1280 .f32) (s : Vec Ideal S1024x1 .f32) : Vec Ideal S1024x1280 .fp8e5m2 :=
  fun j => codeOf (T j) (s (ix2 (j 0) 0))

/-- The running error after a tile. -/
def aNew (T : Vec Ideal S1024x1280 .f32) (s : Vec Ideal S1024x1 .f32) (A : Vec Ideal S1024x128 .f32) : Vec Ideal S1024x128 .f32 :=
  fun j => max (A j) (Finset.univ.sup fun c => errOf (codeOf (laneAt T (j 0) (j 1) c) (s (ix2 (j 0) 0))))

theorem trips2_le (k : Fin k2_t1_loop.trips) : k.val < 8 := Nat.lt_of_lt_of_le k.isLt k2_t1_abs.2.1
theorem off2_1_eq : ∀ k : Fin k2_t1_loop.trips, k2_off1 k = ![128 * k.val, 0] := by decide +kernel
theorem off2_2_eq : ∀ k : Fin k2_t1_loop.trips, k2_off2 k = ![128 * k.val, 0] := by decide +kernel
theorem off2_3_eq : ∀ k : Fin k2_t1_loop.trips, k2_off3 k = ![128 * k.val, 0] := by decide +kernel
theorem off2_4_eq : ∀ k : Fin k2_t1_loop.trips, k2_off4 k = ![128 * k.val, 128] := by decide +kernel
theorem off2_5_eq : ∀ k : Fin k2_t1_loop.trips, k2_off5 k = ![128 * k.val, 256] := by decide +kernel
theorem off2_6_eq : ∀ k : Fin k2_t1_loop.trips, k2_off6 k = ![128 * k.val, 384] := by decide +kernel
theorem off2_7_eq : ∀ k : Fin k2_t1_loop.trips, k2_off7 k = ![128 * k.val, 512] := by decide +kernel
theorem off2_8_eq : ∀ k : Fin k2_t1_loop.trips, k2_off8 k = ![128 * k.val, 640] := by decide +kernel
theorem off2_9_eq : ∀ k : Fin k2_t1_loop.trips, k2_off9 k = ![128 * k.val, 768] := by decide +kernel
theorem off2_10_eq : ∀ k : Fin k2_t1_loop.trips, k2_off10 k = ![128 * k.val, 896] := by decide +kernel
theorem off2_11_eq : ∀ k : Fin k2_t1_loop.trips, k2_off11 k = ![128 * k.val, 1024] := by decide +kernel
theorem off2_12_eq : ∀ k : Fin k2_t1_loop.trips, k2_off12 k = ![128 * k.val, 1152] := by decide +kernel

/-- A stored block of codes, at an entry. -/
theorem code_apply (s : Vec Ideal S128x1 .f32) (b : Vec Ideal S128x128 .f32) (r l : Fin 128) :
    k2_pay8 s b (ix2 r l) = codeOf (b (ix2 r l)) (s (ix2 r 0)) := by
  unfold k2_pay8 k2_pay7 k2_pay6 codeOf
  pointwise

/-- The stored running error, from the rows' log-sum-exps, the old error and ten blocks of logits. -/
def errPay (s : Vec Ideal S128x1 .f32) (a b0 b1 b2 b3 b4 b5 b6 b7 b8 b9 : Vec Ideal S128x128 .f32) : Vec Ideal S128x128 .f32 :=
  k2_pay4 (F := Ideal) (k2_pay6 s) (k2_pay25 (k2_pay6 s) (k2_pay18 (k2_pay6 s) (k2_pay11 s a b0 b1) (k2_pay12 s b2) (k2_pay13 s b2) b3 b4)
    (k2_pay19 (k2_pay6 s) b5) (k2_pay20 (k2_pay6 s) b5) b6 b7) (k2_pay28 (k2_pay6 s) b8) (k2_pay29 (k2_pay6 s) b8) b9

theorem errPay_apply (s : Vec Ideal S128x1 .f32) (a b0 b1 b2 b3 b4 b5 b6 b7 b8 b9 : Vec Ideal S128x128 .f32) (r l : Fin 128) :
    errPay s a b0 b1 b2 b3 b4 b5 b6 b7 b8 b9 (ix2 r l) = max (a (ix2 r l)) (Finset.univ.sup (![errOf (codeOf (b0 (ix2 r l)) (s (ix2 r 0))), errOf (codeOf (b1 (ix2 r l)) (s (ix2 r 0))), errOf (codeOf (b2 (ix2 r l)) (s (ix2 r 0))), errOf (codeOf (b3 (ix2 r l)) (s (ix2 r 0))), errOf (codeOf (b4 (ix2 r l)) (s (ix2 r 0))), errOf (codeOf (b5 (ix2 r l)) (s (ix2 r 0))), errOf (codeOf (b6 (ix2 r l)) (s (ix2 r 0))), errOf (codeOf (b7 (ix2 r l)) (s (ix2 r 0))), errOf (codeOf (b8 (ix2 r l)) (s (ix2 r 0))), errOf (codeOf (b9 (ix2 r l)) (s (ix2 r 0)))] : Fin 10 → EReal)) := by
  unfold errPay k2_pay4 k2_pay3 k2_pay2 k2_pay29 k2_pay28 k2_pay27 k2_pay26 k2_pay25 k2_pay24 k2_pay23 k2_pay22 k2_pay21 k2_pay20 k2_pay19
    k2_pay18 k2_pay17 k2_pay16 k2_pay15 k2_pay14 k2_pay13 k2_pay12 k2_pay11 k2_pay10 k2_pay9 k2_pay8 k2_pay7 k2_pay6
  pointwise
  exact sup_ten (a (ix2 r l)) ![errOf (codeOf (b0 (ix2 r l)) (s (ix2 r 0))), errOf (codeOf (b1 (ix2 r l)) (s (ix2 r 0))), errOf (codeOf (b2 (ix2 r l)) (s (ix2 r 0))), errOf (codeOf (b3 (ix2 r l)) (s (ix2 r 0))), errOf (codeOf (b4 (ix2 r l)) (s (ix2 r 0))), errOf (codeOf (b5 (ix2 r l)) (s (ix2 r 0))), errOf (codeOf (b6 (ix2 r l)) (s (ix2 r 0))), errOf (codeOf (b7 (ix2 r l)) (s (ix2 r 0))), errOf (codeOf (b8 (ix2 r l)) (s (ix2 r 0))), errOf (codeOf (b9 (ix2 r l)) (s (ix2 r 0)))]

section
variable (𝒱 : Variants) (c : Dev nD) (bd : Option 𝒱.V) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole)
  (X1 : BufTy.Contents (Elt Ideal) arg1.view.ty) (X2 : BufTy.Contents (Elt Ideal) arg2.view.ty)
  (T : Vec Ideal S1024x1280 .f32) (ls : Vec Ideal S1024x1 .f32) (A : Vec Ideal S1024x128 .f32)

/-- A trip's load of its rows' log-sum-exps. -/
theorem rd2_s (arg2 : Memref sig .tc .vmem S1024x1 .f32) (X2 : BufTy.Contents (Elt Ideal) arg2.view.ty) (ls : Vec Ideal S1024x1 .f32)
    (hL : arg2.view.read (Elt Ideal) X2 = ls) (k : Fin k2_t1_loop.trips) (r : Fin 128) (h : 128 * k.val + r.val < 1024) :
    (arg2.view.readAt (Elt Ideal) (Rect.unit (s := S1024x1) (k2_off1 k) S128x1.size (k2_off1_inb k)).toLoadRect X2) (ix2 r 0) = ls (ix2 ⟨128 * k.val + r.val, h⟩ 0) := by
  rw [View.readAt_eq_ld, hL]
  exact View.ld_unit_apply_of (Val := Elt Ideal) ls _ _ _ _ _ fun a => by
    have e := congrFun (off2_1_eq k) a
    match a with
    | ⟨0, _⟩ => exact (congrArg (· + r.val) e).symm
    | ⟨1, _⟩ => exact (congrArg (· + 0) e).symm

/-- A trip's load of a block of logits. -/
theorem rd2_b (arg1 : Memref sig .tc .vmem S1024x1280 .f32) (X1 : BufTy.Contents (Elt Ideal) arg1.view.ty) (T : Vec Ideal S1024x1280 .f32)
    (hT : arg1.view.read (Elt Ideal) X1 = T) (k : Fin k2_t1_loop.trips) (q : Fin 10) (off : Fin 2 → ℕ) (inb) (ho : off = ![128 * k.val, 128 * q.val])
    (r l : Fin 128) (h : 128 * k.val + r.val < 1024) :
    arg1.view.readAt (Elt Ideal) (Rect.unit (s := S1024x1280) off S128x128.size inb).toLoadRect X1 (ix2 r l) = laneAt T ⟨128 * k.val + r.val, h⟩ l q := by
  rw [View.readAt_eq_ld, hT]
  exact View.ld_unit_apply_of (Val := Elt Ideal) T _ _ _ _ _ fun a => by
    have e := congrFun ho a
    match a with
    | ⟨0, _⟩ => exact (congrArg (· + r.val) e).symm
    | ⟨1, _⟩ => exact (congrArg (· + l.val) e).symm

/-- A trip's load of its rows' running error. -/
theorem rd2_a (arg5 : Memref sig .tc .vmem S1024x128 .f32) (f5 : BufTy.Contents (Elt Ideal) arg5.view.ty) (k : Fin k2_t1_loop.trips) (r l : Fin 128) (h : 128 * k.val + r.val < 1024) :
    (arg5.view.readAt (Elt Ideal) (Rect.unit (s := S1024x128) (k2_off2 k) S128x128.size (k2_off2_inb k)).toLoadRect f5) (ix2 r l) = arg5.view.read (Elt Ideal) f5 (ix2 ⟨128 * k.val + r.val, h⟩ l) := by
  rw [View.readAt_eq_ld]
  exact View.ld_unit_apply_of (Val := Elt Ideal) _ _ _ _ _ _ fun a => by
    have e := congrFun (off2_2_eq k) a
    match a with
    | ⟨0, _⟩ => exact (congrArg (· + r.val) e).symm
    | ⟨1, _⟩ => exact (Nat.zero_add _).symm.trans (congrArg (· + l.val) e).symm

/-- A trip's store of its rows' running error. -/
theorem trip2_e (k : Fin k2_t1_loop.trips) (f3 : BufTy.Contents (Elt Ideal) arg3.view.ty) (f5 : BufTy.Contents (Elt Ideal) arg5.view.ty) :
    (tripL_k2_t1 𝒱 c bd i arg1 harg1 arg2 harg2 arg3 harg3 arg4 harg4 arg5 harg5 X1 X2 k f3 f5).2
      = [⟨Rect.unit (s := S1024x128) (k2_off2 k) S128x128.size (k2_off2_inb k), errPay (arg2.view.readAt (Elt Ideal) (Rect.unit (s := S1024x1) (k2_off1 k) S128x1.size (k2_off1_inb k)).toLoadRect X2) (arg5.view.readAt (Elt Ideal) (Rect.unit (s := S1024x128) (k2_off2 k) S128x128.size (k2_off2_inb k)).toLoadRect f5) (arg1.view.readAt (Elt Ideal) (Rect.unit (s := S1024x1280) (k2_off3 k) S128x128.size (k2_off3_inb k)).toLoadRect X1) (arg1.view.readAt (Elt Ideal) (Rect.unit (s := S1024x1280) (k2_off4 k) S128x128.size (k2_off4_inb k)).toLoadRect X1) (arg1.view.readAt (Elt Ideal) (Rect.unit (s := S1024x1280) (k2_off5 k) S128x128.size (k2_off5_inb k)).toLoadRect X1) (arg1.view.readAt (Elt Ideal) (Rect.unit (s := S1024x1280) (k2_off6 k) S128x128.size (k2_off6_inb k)).toLoadRect X1) (arg1.view.readAt (Elt Ideal) (Rect.unit (s := S1024x1280) (k2_off7 k) S128x128.size (k2_off7_inb k)).toLoadRect X1) (arg1.view.readAt (Elt Ideal) (Rect.unit (s := S1024x1280) (k2_off8 k) S128x128.size (k2_off8_inb k)).toLoadRect X1) (arg1.view.readAt (Elt Ideal) (Rect.unit (s := S1024x1280) (k2_off9 k) S128x128.size (k2_off9_inb k)).toLoadRect X1) (arg1.view.readAt (Elt Ideal) (Rect.unit (s := S1024x1280) (k2_off10 k) S128x128.size (k2_off10_inb k)).toLoadRect X1) (arg1.view.readAt (Elt Ideal) (Rect.unit (s := S1024x1280) (k2_off11 k) S128x128.size (k2_off11_inb k)).toLoadRect X1) (arg1.view.readAt (Elt Ideal) (Rect.unit (s := S1024x1280) (k2_off12 k) S128x128.size (k2_off12_inb k)).toLoadRect X1)⟩] := by
  dsimp only [tripL_k2_t1]; unfold trip_k2_t1; rfl

/-- A trip's stores of codes. -/
theorem trip2_c (k : Fin k2_t1_loop.trips) (f3 : BufTy.Contents (Elt Ideal) arg3.view.ty) (f5 : BufTy.Contents (Elt Ideal) arg5.view.ty) :
    (tripL_k2_t1 𝒱 c bd i arg1 harg1 arg2 harg2 arg3 harg3 arg4 harg4 arg5 harg5 X1 X2 k f3 f5).1
      = [⟨Rect.unit (s := S1024x1280) (k2_off12 k) S128x128.size (k2_off12_inb k), k2_pay8 (F := Ideal) (arg2.view.readAt (Elt Ideal) (Rect.unit (s := S1024x1) (k2_off1 k) S128x1.size (k2_off1_inb k)).toLoadRect X2) (arg1.view.readAt (Elt Ideal) (Rect.unit (s := S1024x1280) (k2_off12 k) S128x128.size (k2_off12_inb k)).toLoadRect X1)⟩, ⟨Rect.unit (s := S1024x1280) (k2_off11 k) S128x128.size (k2_off11_inb k), k2_pay8 (F := Ideal) (arg2.view.readAt (Elt Ideal) (Rect.unit (s := S1024x1) (k2_off1 k) S128x1.size (k2_off1_inb k)).toLoadRect X2) (arg1.view.readAt (Elt Ideal) (Rect.unit (s := S1024x1280) (k2_off11 k) S128x128.size (k2_off11_inb k)).toLoadRect X1)⟩, ⟨Rect.unit (s := S1024x1280) (k2_off10 k) S128x128.size (k2_off10_inb k), k2_pay8 (F := Ideal) (arg2.view.readAt (Elt Ideal) (Rect.unit (s := S1024x1) (k2_off1 k) S128x1.size (k2_off1_inb k)).toLoadRect X2) (arg1.view.readAt (Elt Ideal) (Rect.unit (s := S1024x1280) (k2_off10 k) S128x128.size (k2_off10_inb k)).toLoadRect X1)⟩, ⟨Rect.unit (s := S1024x1280) (k2_off9 k) S128x128.size (k2_off9_inb k), k2_pay8 (F := Ideal) (arg2.view.readAt (Elt Ideal) (Rect.unit (s := S1024x1) (k2_off1 k) S128x1.size (k2_off1_inb k)).toLoadRect X2) (arg1.view.readAt (Elt Ideal) (Rect.unit (s := S1024x1280) (k2_off9 k) S128x128.size (k2_off9_inb k)).toLoadRect X1)⟩, ⟨Rect.unit (s := S1024x1280) (k2_off8 k) S128x128.size (k2_off8_inb k), k2_pay8 (F := Ideal) (arg2.view.readAt (Elt Ideal) (Rect.unit (s := S1024x1) (k2_off1 k) S128x1.size (k2_off1_inb k)).toLoadRect X2) (arg1.view.readAt (Elt Ideal) (Rect.unit (s := S1024x1280) (k2_off8 k) S128x128.size (k2_off8_inb k)).toLoadRect X1)⟩, ⟨Rect.unit (s := S1024x1280) (k2_off7 k) S128x128.size (k2_off7_inb k), k2_pay8 (F := Ideal) (arg2.view.readAt (Elt Ideal) (Rect.unit (s := S1024x1) (k2_off1 k) S128x1.size (k2_off1_inb k)).toLoadRect X2) (arg1.view.readAt (Elt Ideal) (Rect.unit (s := S1024x1280) (k2_off7 k) S128x128.size (k2_off7_inb k)).toLoadRect X1)⟩, ⟨Rect.unit (s := S1024x1280) (k2_off6 k) S128x128.size (k2_off6_inb k), k2_pay8 (F := Ideal) (arg2.view.readAt (Elt Ideal) (Rect.unit (s := S1024x1) (k2_off1 k) S128x1.size (k2_off1_inb k)).toLoadRect X2) (arg1.view.readAt (Elt Ideal) (Rect.unit (s := S1024x1280) (k2_off6 k) S128x128.size (k2_off6_inb k)).toLoadRect X1)⟩, ⟨Rect.unit (s := S1024x1280) (k2_off5 k) S128x128.size (k2_off5_inb k), k2_pay8 (F := Ideal) (arg2.view.readAt (Elt Ideal) (Rect.unit (s := S1024x1) (k2_off1 k) S128x1.size (k2_off1_inb k)).toLoadRect X2) (arg1.view.readAt (Elt Ideal) (Rect.unit (s := S1024x1280) (k2_off5 k) S128x128.size (k2_off5_inb k)).toLoadRect X1)⟩, ⟨Rect.unit (s := S1024x1280) (k2_off4 k) S128x128.size (k2_off4_inb k), k2_pay8 (F := Ideal) (arg2.view.readAt (Elt Ideal) (Rect.unit (s := S1024x1) (k2_off1 k) S128x1.size (k2_off1_inb k)).toLoadRect X2) (arg1.view.readAt (Elt Ideal) (Rect.unit (s := S1024x1280) (k2_off4 k) S128x128.size (k2_off4_inb k)).toLoadRect X1)⟩, ⟨Rect.unit (s := S1024x1280) (k2_off3 k) S128x128.size (k2_off3_inb k), k2_pay8 (F := Ideal) (arg2.view.readAt (Elt Ideal) (Rect.unit (s := S1024x1) (k2_off1 k) S128x1.size (k2_off1_inb k)).toLoadRect X2) (arg1.view.readAt (Elt Ideal) (Rect.unit (s := S1024x1280) (k2_off3 k) S128x128.size (k2_off3_inb k)).toLoadRect X1)⟩] := by
  dsimp only [tripL_k2_t1]; unfold trip_k2_t1; rfl

/-- A stored block of codes is the tile of codes read at the block's place. -/
theorem code_block (hT : arg1.view.read (Elt Ideal) X1 = T) (hL : arg2.view.read (Elt Ideal) X2 = ls) (k : Fin k2_t1_loop.trips) (q : Fin 10)
    (off : Fin 2 → ℕ) (inb) (ho : off = ![128 * k.val, 128 * q.val]) (x : S128x128.Idx) :
    k2_pay8 (F := Ideal) (arg2.view.readAt (Elt Ideal) (Rect.unit (s := S1024x1) (k2_off1 k) S128x1.size (k2_off1_inb k)).toLoadRect X2) (arg1.view.readAt (Elt Ideal) (Rect.unit (s := S1024x1280) off S128x128.size inb).toLoadRect X1) x
      = codesV T ls ((Rect.unit (s := S1024x1280) off S128x128.size inb).emb x) := by
  idx_vars x
  have hk := trips2_le k
  have hr := x0.isLt
  rw [code_apply, rd2_s arg2 X2 ls hL k x0 (by omega), rd2_b arg1 X1 T hT k q off inb ho x0 x1 (by omega)]
  unfold codesV laneAt
  subst ho
  have c0 : ((Rect.unit (s := S1024x1280) ![128 * k.val, 128 * q.val] S128x128.size inb).emb (ix2 x0 x1) 0).val = 128 * k.val + x0.val := by
    rw [Rect.emb_apply]; simp
  have c1 : ((Rect.unit (s := S1024x1280) ![128 * k.val, 128 * q.val] S128x128.size inb).emb (ix2 x0 x1) 1).val = 128 * q.val + x1.val := by
    rw [Rect.emb_apply]; simp
  refine congrArg₂ codeOf (congrArg T ?_) (congrArg ls ?_)
  · funext a
    match a with
    | ⟨0, _⟩ => exact Fin.ext c0.symm
    | ⟨1, _⟩ => exact Fin.ext c1.symm
  · funext a
    match a with
    | ⟨0, _⟩ => exact Fin.ext c0.symm
    | ⟨1, _⟩ => rfl

/-- Every store of codes of the trips before `k` is the tile of codes read at the store's place. -/
theorem pb2_codes (hT : arg1.view.read (Elt Ideal) X1 = T) (hL : arg2.view.read (Elt Ideal) X2 = ls)
    (G3 : BufTy.Contents (Elt Ideal) arg3.view.ty) (G5 : BufTy.Contents (Elt Ideal) arg5.view.ty) (k : ℕ) (hk : k ≤ k2_t1_loop.trips) :
    ∀ p ∈ (pb_k2_t1 𝒱 c bd i arg1 harg1 arg2 harg2 arg3 harg3 arg4 harg4 arg5 harg5 X1 X2 G3 G5 k).1, ∀ x : p.1.shape.Idx, p.2 x = codesV T ls (p.1.emb x) := by
  induction k with
  | zero => intro p hp; exact absurd hp List.not_mem_nil
  | succ k ih =>
    have hs : pb_k2_t1 𝒱 c bd i arg1 harg1 arg2 harg2 arg3 harg3 arg4 harg4 arg5 harg5 X1 X2 G3 G5 (k + 1) = _ := pb_k2_t1_succ 𝒱 c bd i arg1 harg1 arg2 harg2 arg3 harg3 arg4 harg4 arg5 harg5 X1 X2 G3 G5 ⟨k, hk⟩
    rw [hs, trip2_c]
    intro p hp
    rcases List.mem_append.mp hp with h | h
    · simp only [List.mem_cons, List.not_mem_nil, or_false] at h
      rcases h with rfl | rfl | rfl | rfl | rfl | rfl | rfl | rfl | rfl | rfl
      · exact code_block arg1 arg2 X1 X2 T ls hT hL ⟨k, hk⟩ 9 _ (k2_off12_inb ⟨k, hk⟩) (off2_12_eq ⟨k, hk⟩)
      · exact code_block arg1 arg2 X1 X2 T ls hT hL ⟨k, hk⟩ 8 _ (k2_off11_inb ⟨k, hk⟩) (off2_11_eq ⟨k, hk⟩)
      · exact code_block arg1 arg2 X1 X2 T ls hT hL ⟨k, hk⟩ 7 _ (k2_off10_inb ⟨k, hk⟩) (off2_10_eq ⟨k, hk⟩)
      · exact code_block arg1 arg2 X1 X2 T ls hT hL ⟨k, hk⟩ 6 _ (k2_off9_inb ⟨k, hk⟩) (off2_9_eq ⟨k, hk⟩)
      · exact code_block arg1 arg2 X1 X2 T ls hT hL ⟨k, hk⟩ 5 _ (k2_off8_inb ⟨k, hk⟩) (off2_8_eq ⟨k, hk⟩)
      · exact code_block arg1 arg2 X1 X2 T ls hT hL ⟨k, hk⟩ 4 _ (k2_off7_inb ⟨k, hk⟩) (off2_7_eq ⟨k, hk⟩)
      · exact code_block arg1 arg2 X1 X2 T ls hT hL ⟨k, hk⟩ 3 _ (k2_off6_inb ⟨k, hk⟩) (off2_6_eq ⟨k, hk⟩)
      · exact code_block arg1 arg2 X1 X2 T ls hT hL ⟨k, hk⟩ 2 _ (k2_off5_inb ⟨k, hk⟩) (off2_5_eq ⟨k, hk⟩)
      · exact code_block arg1 arg2 X1 X2 T ls hT hL ⟨k, hk⟩ 1 _ (k2_off4_inb ⟨k, hk⟩) (off2_4_eq ⟨k, hk⟩)
      · exact code_block arg1 arg2 X1 X2 T ls hT hL ⟨k, hk⟩ 0 _ (k2_off3_inb ⟨k, hk⟩) (off2_3_eq ⟨k, hk⟩)
    · exact ih (by omega) p h

/-- The stored running error, at an entry. -/
theorem err_at (hT : arg1.view.read (Elt Ideal) X1 = T) (hL : arg2.view.read (Elt Ideal) X2 = ls) (k : Fin k2_t1_loop.trips) (f5 : BufTy.Contents (Elt Ideal) arg5.view.ty)
    (r l : Fin 128) (h : 128 * k.val + r.val < 1024) (hA : arg5.view.read (Elt Ideal) f5 (ix2 ⟨128 * k.val + r.val, h⟩ l) = A (ix2 ⟨128 * k.val + r.val, h⟩ l)) :
    errPay (arg2.view.readAt (Elt Ideal) (Rect.unit (s := S1024x1) (k2_off1 k) S128x1.size (k2_off1_inb k)).toLoadRect X2) (arg5.view.readAt (Elt Ideal) (Rect.unit (s := S1024x128) (k2_off2 k) S128x128.size (k2_off2_inb k)).toLoadRect f5) (arg1.view.readAt (Elt Ideal) (Rect.unit (s := S1024x1280) (k2_off3 k) S128x128.size (k2_off3_inb k)).toLoadRect X1) (arg1.view.readAt (Elt Ideal) (Rect.unit (s := S1024x1280) (k2_off4 k) S128x128.size (k2_off4_inb k)).toLoadRect X1) (arg1.view.readAt (Elt Ideal) (Rect.unit (s := S1024x1280) (k2_off5 k) S128x128.size (k2_off5_inb k)).toLoadRect X1) (arg1.view.readAt (Elt Ideal) (Rect.unit (s := S1024x1280) (k2_off6 k) S128x128.size (k2_off6_inb k)).toLoadRect X1) (arg1.view.readAt (Elt Ideal) (Rect.unit (s := S1024x1280) (k2_off7 k) S128x128.size (k2_off7_inb k)).toLoadRect X1) (arg1.view.readAt (Elt Ideal) (Rect.unit (s := S1024x1280) (k2_off8 k) S128x128.size (k2_off8_inb k)).toLoadRect X1) (arg1.view.readAt (Elt Ideal) (Rect.unit (s := S1024x1280) (k2_off9 k) S128x128.size (k2_off9_inb k)).toLoadRect X1) (arg1.view.readAt (Elt Ideal) (Rect.unit (s := S1024x1280) (k2_off10 k) S128x128.size (k2_off10_inb k)).toLoadRect X1) (arg1.view.readAt (Elt Ideal) (Rect.unit (s := S1024x1280) (k2_off11 k) S128x128.size (k2_off11_inb k)).toLoadRect X1) (arg1.view.readAt (Elt Ideal) (Rect.unit (s := S1024x1280) (k2_off12 k) S128x128.size (k2_off12_inb k)).toLoadRect X1) (ix2 r l) = aNew T ls A (ix2 ⟨128 * k.val + r.val, h⟩ l) := by
  rw [errPay_apply, rd2_a arg5 f5 k r l h, hA, rd2_s arg2 X2 ls hL k r h, rd2_b arg1 X1 T hT k 0 _ (k2_off3_inb k) (off2_3_eq k) r l h, rd2_b arg1 X1 T hT k 1 _ (k2_off4_inb k) (off2_4_eq k) r l h, rd2_b arg1 X1 T hT k 2 _ (k2_off5_inb k) (off2_5_eq k) r l h, rd2_b arg1 X1 T hT k 3 _ (k2_off6_inb k) (off2_6_eq k) r l h, rd2_b arg1 X1 T hT k 4 _ (k2_off7_inb k) (off2_7_eq k) r l h, rd2_b arg1 X1 T hT k 5 _ (k2_off8_inb k) (off2_8_eq k) r l h, rd2_b arg1 X1 T hT k 6 _ (k2_off9_inb k) (off2_9_eq k) r l h, rd2_b arg1 X1 T hT k 7 _ (k2_off10_inb k) (off2_10_eq k) r l h, rd2_b arg1 X1 T hT k 8 _ (k2_off11_inb k) (off2_11_eq k) r l h, rd2_b arg1 X1 T hT k 9 _ (k2_off12_inb k) (off2_12_eq k) r l h]
  unfold aNew
  exact congrArg (fun f => max (A (ix2 ⟨128 * k.val + r.val, h⟩ l)) (Finset.univ.sup f)) (funext fun c => by fin_cases c <;> rfl)

/-- After `k` trips the first `128 k` rows hold the new running error, the others what they held. -/
theorem pb2_read (hT : arg1.view.read (Elt Ideal) X1 = T) (hL : arg2.view.read (Elt Ideal) X2 = ls)
    (G3 : BufTy.Contents (Elt Ideal) arg3.view.ty) (G5 : BufTy.Contents (Elt Ideal) arg5.view.ty) (hA : arg5.view.read (Elt Ideal) G5 = A) (k : ℕ) (hk : k ≤ k2_t1_loop.trips) :
    arg5.view.read (Elt Ideal) (arg5.view.writes (Elt Ideal) G5 (pb_k2_t1 𝒱 c bd i arg1 harg1 arg2 harg2 arg3 harg3 arg4 harg4 arg5 harg5 X1 X2 G3 G5 k).2)
        = (fun j => if (j 0).val < 128 * k then aNew T ls A j else A j) := by
  induction k with
  | zero => exact funext fun j => (congrFun hA j).trans (if_neg (by omega)).symm
  | succ k ih =>
    have ihA := ih (by omega)
    have hs : pb_k2_t1 𝒱 c bd i arg1 harg1 arg2 harg2 arg3 harg3 arg4 harg4 arg5 harg5 X1 X2 G3 G5 (k + 1) = _ := pb_k2_t1_succ 𝒱 c bd i arg1 harg1 arg2 harg2 arg3 harg3 arg4 harg4 arg5 harg5 X1 X2 G3 G5 ⟨k, hk⟩
    have h8 : k < 8 := trips2_le ⟨k, hk⟩
    rw [hs, trip2_e]
    dsimp only [List.singleton_append]
    funext j
    idx_vars j
    by_cases h : 128 * k ≤ j0.val ∧ j0.val < 128 * k + 128
    · have hlt : 128 * k + (⟨j0.val - 128 * k, by omega⟩ : Fin 128).val < 1024 := by dsimp only; omega
      have hj : (⟨128 * k + (⟨j0.val - 128 * k, by omega⟩ : Fin 128).val, hlt⟩ : Fin 1024) = j0 := Fin.ext (by dsimp only; omega)
      refine (View.read_writes_cons_rows_of_mem (o := 128 * k) arg5.view G5 _ _ _ (ix2 j0 j1) (ix2 (⟨j0.val - 128 * k, by omega⟩ : Fin 128) j1) (off2_2_eq ⟨k, hk⟩)
        (by show j0.val = 128 * k + (j0.val - 128 * k); omega) rfl).trans ?_
      refine (err_at arg1 arg2 arg5 X1 X2 T ls A hT hL ⟨k, hk⟩ _ (⟨j0.val - 128 * k, by omega⟩ : Fin 128) j1 hlt ?_).trans ?_
      · rw [ihA]; exact if_neg (by show ¬ (128 * k + (j0.val - 128 * k) < 128 * k); omega)
      · rw [hj]; exact (if_pos (by show j0.val < 128 * (k + 1); omega)).symm
    · refine (View.read_writes_cons_rows_of_not_mem (o := 128 * k) (W := 128) arg5.view G5 _ _ _ (ix2 j0 j1) (off2_2_eq ⟨k, hk⟩) rfl (by show j0.val < 128 * k ∨ 128 * k + 128 ≤ j0.val; omega)).trans ((congrFun ihA _).trans ?_)
      exact if_congr (by show j0.val < 128 * k ↔ j0.val < 128 * (k + 1); omega) rfl rfl

/-- The loop leaves the new running error in every row. -/
theorem loop2_read (hT : arg1.view.read (Elt Ideal) X1 = T) (hL : arg2.view.read (Elt Ideal) X2 = ls)
    (G3 : BufTy.Contents (Elt Ideal) arg3.view.ty) (G5 : BufTy.Contents (Elt Ideal) arg5.view.ty) (hA : arg5.view.read (Elt Ideal) G5 = A) (n : ℕ) (hn : n = k2_t1_loop.trips) :
    arg5.view.read (Elt Ideal) (arg5.view.writes (Elt Ideal) G5 (pb_k2_t1 𝒱 c bd i arg1 harg1 arg2 harg2 arg3 harg3 arg4 harg4 arg5 harg5 X1 X2 G3 G5 n).2) = aNew T ls A := by
  have h8 : n = 8 := hn.trans (by decide +kernel)
  have ha := pb2_read 𝒱 c bd i arg1 harg1 arg2 harg2 arg3 harg3 arg4 harg4 arg5 harg5 X1 X2 T ls A hT hL G3 G5 hA n hn.le
  exact ha.trans (funext fun j => if_pos (by have : (j 0).val < 1024 := (j 0).isLt; omega))

end

end Cert.KernelIdeal.Gen

end
-- ==== Proof.Val.Points2.lean ====
module
public import proofs.«01_k».proof.Proof.Run.Region2
public import proofs.«01_k».proof.Proof.Val.OutRows
public import proofs.«01_k».proof.Proof.Math.Consts
public import Idealize.ShloMosaic.Lib.Pipeline.Value
@[expose] public section
set_option maxRecDepth 16384
noncomputable section
/-! What call 2 leaves at a grid point: the tile of codes, the running error, and at the last point the rows' errors. -/
namespace Cert.KernelIdeal.Gen
open Idealize.ShloMosaic Idealize.ShloMosaic.TcCoe Idealize.ShloMosaic.Tactic
open Idealize.SL Idealize.SL.RA Idealize.SL.BI
open Cert.Math

theorem pay2_1_eq : (k2_pay1 (F := Ideal)) = fun _ => (0 : EReal) := by
  funext j
  idx_vars j
  unfold k2_pay1
  pointwise

/-- The running error's buffer once it is cleared. -/
theorem clear_read (arg5 : Memref sig .tc .vmem S1024x128 .f32) (f : BufTy.Contents (Elt Ideal) arg5.view.ty) :
    arg5.view.read (Elt Ideal) (arg5.view.writes (Elt Ideal) f [⟨Rect.unit (s := S1024x128) ![0, 0] S1024x128.size inb_S1024x128_S1024x128_0_0, k2_pay1 (F := Ideal)⟩])
      = fun _ => (0 : EReal) :=
  ((View.read_writes_eq_canon _ _ _ fun y => View.cover_of_wholeMem _ (by sl_whole_mem) y).trans (View.canon_unit_zero hz2 _ _)).trans pay2_1_eq

theorem codes_A (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : cond2_0 i) (hc1 : ¬cond2_1 i)
    (x0 : Vec Ideal S1024x1280 .f32) (x1 : Vec Ideal S1024x1 .f32) :
    out2_A_2 c i arg1 harg1 arg2 harg2 arg3 harg3 arg4 harg4 arg5 harg5 hc0 hc1 x0 x1 = codesV x0 x1 := by
  unfold out2_A_2
  rw [View.read_writes_eq_canon _ _ _ (cover2_A_2 c i arg1 harg1 arg2 harg2 arg3 harg3 arg4 harg4 arg5 harg5 hc0 hc1 x0 x1)]
  funext y
  refine View.canon_apply_of_pieces (codesV x0 x1) _ ?_ y (cover2_A_2 c i arg1 harg1 arg2 harg2 arg3 harg3 arg4 harg4 arg5 harg5 hc0 hc1 x0 x1 y)
  unfold kernelRun2_A
  dsimp only
  exact pb2_codes Variants.none c none i arg1 harg1 arg2 harg2 arg3 harg3 arg4 harg4 arg5 harg5 _ _ x0 x1 (harg1.read_unread x0) (harg2.read_unread x1) _ _ _ (le_of_eq rfl)

theorem err_A (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : cond2_0 i) (hc1 : ¬cond2_1 i)
    (x0 : Vec Ideal S1024x1280 .f32) (x1 : Vec Ideal S1024x1 .f32) :
    sout2_A_0 c i arg1 harg1 arg2 harg2 arg3 harg3 arg4 harg4 arg5 harg5 hc0 hc1 x0 x1 = aNew x0 x1 (fun _ => (0 : EReal)) := by
  unfold sout2_A_0
  rw [View.read_writes_eq_canon _ _ _ (scover2_A_0 c i arg1 harg1 arg2 harg2 arg3 harg3 arg4 harg4 arg5 harg5 hc0 hc1 x0 x1), ← View.read_writes_eq_canon arg5.view arg5.view.junk _ (scover2_A_0 c i arg1 harg1 arg2 harg2 arg3 harg3 arg4 harg4 arg5 harg5 hc0 hc1 x0 x1)]
  unfold kernelRun2_A
  dsimp only
  rw [View.writes_append]
  exact loop2_read Variants.none c none i arg1 harg1 arg2 harg2 arg3 harg3 arg4 harg4 arg5 harg5 _ _ x0 x1 _ (harg1.read_unread x0) (harg2.read_unread x1) _ _ (clear_read arg5 _) _ rfl

theorem codes_B (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : ¬cond2_0 i) (hc1 : ¬cond2_1 i)
    (x0 : Vec Ideal S1024x1280 .f32) (x1 : Vec Ideal S1024x1 .f32) (s5 : Vec Ideal S1024x128 .f32) :
    out2_B_2 c i arg1 harg1 arg2 harg2 arg3 harg3 arg4 harg4 arg5 harg5 hc0 hc1 x0 x1 s5 = codesV x0 x1 := by
  unfold out2_B_2
  rw [View.read_writes_eq_canon _ _ _ (cover2_B_2 c i arg1 harg1 arg2 harg2 arg3 harg3 arg4 harg4 arg5 harg5 hc0 hc1 x0 x1 s5)]
  funext y
  refine View.canon_apply_of_pieces (codesV x0 x1) _ ?_ y (cover2_B_2 c i arg1 harg1 arg2 harg2 arg3 harg3 arg4 harg4 arg5 harg5 hc0 hc1 x0 x1 s5 y)
  unfold kernelRun2_B
  dsimp only
  exact pb2_codes Variants.none c none i arg1 harg1 arg2 harg2 arg3 harg3 arg4 harg4 arg5 harg5 _ _ x0 x1 (harg1.read_unread x0) (harg2.read_unread x1) _ _ _ (le_of_eq rfl)

theorem err_B (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : ¬cond2_0 i) (hc1 : ¬cond2_1 i)
    (x0 : Vec Ideal S1024x1280 .f32) (x1 : Vec Ideal S1024x1 .f32) (s5 : Vec Ideal S1024x128 .f32) :
    sout2_B_0 c i arg1 harg1 arg2 harg2 arg3 harg3 arg4 harg4 arg5 harg5 hc0 hc1 x0 x1 s5 = aNew x0 x1 s5 := by
  unfold sout2_B_0
  rw [View.read_writes_eq_canon _ _ _ (scover2_B_0 c i arg1 harg1 arg2 harg2 arg3 harg3 arg4 harg4 arg5 harg5 hc0 hc1 x0 x1 s5), ← View.read_writes_eq_canon arg5.view (harg5.unread s5) _ (scover2_B_0 c i arg1 harg1 arg2 harg2 arg3 harg3 arg4 harg4 arg5 harg5 hc0 hc1 x0 x1 s5)]
  unfold kernelRun2_B
  dsimp only
  exact loop2_read Variants.none c none i arg1 harg1 arg2 harg2 arg3 harg3 arg4 harg4 arg5 harg5 _ _ x0 x1 s5 (harg1.read_unread x0) (harg2.read_unread x1) _ _ (harg5.read_unread s5) _ rfl

theorem codes_C (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : ¬cond2_0 i) (hc1 : cond2_1 i)
    (x0 : Vec Ideal S1024x1280 .f32) (x1 : Vec Ideal S1024x1 .f32) (s5 : Vec Ideal S1024x128 .f32) :
    out2_C_2 c i arg1 harg1 arg2 harg2 arg3 harg3 arg4 harg4 arg5 harg5 hc0 hc1 x0 x1 s5 = codesV x0 x1 := by
  unfold out2_C_2
  rw [View.read_writes_eq_canon _ _ _ (cover2_C_2 c i arg1 harg1 arg2 harg2 arg3 harg3 arg4 harg4 arg5 harg5 hc0 hc1 x0 x1 s5)]
  funext y
  refine View.canon_apply_of_pieces (codesV x0 x1) _ ?_ y (cover2_C_2 c i arg1 harg1 arg2 harg2 arg3 harg3 arg4 harg4 arg5 harg5 hc0 hc1 x0 x1 s5 y)
  unfold kernelRun2_C
  dsimp only
  exact pb2_codes Variants.none c none i arg1 harg1 arg2 harg2 arg3 harg3 arg4 harg4 arg5 harg5 _ _ x0 x1 (harg1.read_unread x0) (harg2.read_unread x1) _ _ _ (le_of_eq rfl)

theorem err_C (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : ¬cond2_0 i) (hc1 : cond2_1 i)
    (x0 : Vec Ideal S1024x1280 .f32) (x1 : Vec Ideal S1024x1 .f32) (s5 : Vec Ideal S1024x128 .f32) :
    sout2_C_0 c i arg1 harg1 arg2 harg2 arg3 harg3 arg4 harg4 arg5 harg5 hc0 hc1 x0 x1 s5 = aNew x0 x1 s5 := by
  unfold sout2_C_0
  rw [View.read_writes_eq_canon _ _ _ (scover2_C_0 c i arg1 harg1 arg2 harg2 arg3 harg3 arg4 harg4 arg5 harg5 hc0 hc1 x0 x1 s5), ← View.read_writes_eq_canon arg5.view (harg5.unread s5) _ (scover2_C_0 c i arg1 harg1 arg2 harg2 arg3 harg3 arg4 harg4 arg5 harg5 hc0 hc1 x0 x1 s5)]
  unfold kernelRun2_C
  dsimp only
  exact loop2_read Variants.none c none i arg1 harg1 arg2 harg2 arg3 harg3 arg4 harg4 arg5 harg5 _ _ x0 x1 s5 (harg1.read_unread x0) (harg2.read_unread x1) _ _ (harg5.read_unread s5) _ rfl

/-- The last point's errors: the largest of a row's lanes. -/
theorem rowErr_C (c : Dev nD) (i : grid2.Coords) (arg1 : Memref sig .tc .vmem S1024x1280 .f32) (harg1 : arg1.IsWhole) (arg2 : Memref sig .tc .vmem S1024x1 .f32) (harg2 : arg2.IsWhole) (arg3 : Memref sig .tc .vmem S1024x1280 .fp8e5m2) (harg3 : arg3.IsWhole) (arg4 : Memref sig .tc .vmem S1024x1 .f32) (harg4 : arg4.IsWhole) (arg5 : Memref sig .tc .vmem S1024x128 .f32) (harg5 : arg5.IsWhole) (hc0 : ¬cond2_0 i) (hc1 : cond2_1 i)
    (x0 : Vec Ideal S1024x1280 .f32) (x1 : Vec Ideal S1024x1 .f32) (s5 : Vec Ideal S1024x128 .f32) :
    out2_C_3 c i arg1 harg1 arg2 harg2 arg3 harg3 arg4 harg4 arg5 harg5 hc0 hc1 x0 x1 s5 = k2_pay5 (F := Ideal) (aNew x0 x1 s5) := by
  have hl := fun G3 => loop2_read Variants.none c none i arg1 harg1 arg2 harg2 arg3 harg3 arg4 harg4 arg5 harg5 (harg1.unread x0) (harg2.unread x1) x0 x1 s5 (harg1.read_unread x0) (harg2.read_unread x1) G3 (harg5.unread s5) (harg5.read_unread s5) _ rfl
  unfold out2_C_3
  rw [View.read_writes_eq_canon _ _ _ (cover2_C_3 c i arg1 harg1 arg2 harg2 arg3 harg3 arg4 harg4 arg5 harg5 hc0 hc1 x0 x1 s5)]
  unfold kernelRun2_C
  dsimp only
  rw [View.canon_unit_zero hz2]
  exact congrArg (k2_pay5 (F := Ideal)) ((View.ld_unit_zero (S := S1024x128) hz2 _ _).trans (hl _))

end Cert.KernelIdeal.Gen

end
-- ==== Proof.Val.Array2.lean ====
module
public import proofs.«01_k».proof.Proof.Val.Points2
public import proofs.«01_k».proof.Proof.Val.Lanes
public import Idealize.ShloMosaic.Lib.Pipeline.Value
@[expose] public section
set_option maxRecDepth 16384
noncomputable section
/-! The two arrays that call 2 writes: the codes, and every row's largest error. -/
namespace Cert.KernelIdeal.Gen
open Idealize.ShloMosaic Idealize.ShloMosaic.TcCoe Idealize.ShloMosaic.Tactic
open Idealize.SL Idealize.SL.RA Idealize.SL.BI
open Idealize.ShloMosaic.Pipeline (Dat)
open Cert.Math

/-- The running errors after tile `n`. -/
def aSt (L : Vec Ideal S1024x32000 .f32) (s : Vec Ideal S1024x1 .f32) : ℕ → Vec Ideal S1024x128 .f32
  | 0 => aNew (tileAt L 0) s (fun _ => 0)
  | n + 1 => aNew (tileAt L (n + 1)) s (aSt L s n)

/-- The errors of row `r`. -/
def errRow (L : Vec Ideal S1024x32000 .f32) (s : Vec Ideal S1024x1 .f32) (r : Fin 1024) : Fin 32000 → EReal :=
  fun v => errOf (codeOf (rowOf L r v) (s (ix2 r 0)))

theorem errOf_nonneg (q : EReal) : 0 ≤ errOf q := by
  unfold errOf
  rcases le_total 0 (Ideal.exp q - Ideal.exp q) with h | h
  · exact h.trans (le_max_left _ _)
  · exact (EReal.neg_nonneg.mpr h).trans (le_max_right _ _)

theorem errLane_eq (L : Vec Ideal S1024x32000 .f32) (s : Vec Ideal S1024x1 .f32) (n : ℕ) (hn : n < 25) (r : Fin 1024) (l : Fin 128) :
    (fun c => errOf (codeOf (laneAt (tileAt L n) r l c) (s (ix2 r 0)))) = laneFam (errRow L s r) l n := by
  funext c
  rw [lane_eq L n hn]
  unfold laneFam
  rw [dif_pos hn, dif_pos hn]
  rfl

theorem aSt_apply (L : Vec Ideal S1024x32000 .f32) (s : Vec Ideal S1024x1 .f32) (n : ℕ) (hn : n < 25) (r : Fin 1024) (l : Fin 128) :
    aSt L s n (ix2 r l) = max 0 (runMax (laneFam (errRow L s r) l) n) := by
  induction n with
  | zero =>
    show max 0 (Finset.univ.sup fun c => errOf (codeOf (laneAt (tileAt L 0) r l c) (s (ix2 r 0)))) = _
    rw [errLane_eq L s 0 hn]
    unfold runMax
    rw [max_eq_right bot_le]
  | succ n ih =>
    show max (aSt L s n (ix2 r l)) (Finset.univ.sup fun c => errOf (codeOf (laneAt (tileAt L (n + 1)) r l c) (s (ix2 r 0)))) = _
    rw [errLane_eq L s _ hn, ih (by omega), max_assoc]
    rfl

/-- Every row's largest error. -/
def errV (L : Vec Ideal S1024x32000 .f32) (s : Vec Ideal S1024x1 .f32) : Vec Ideal S1024x1 .f32 :=
  fun j => Finset.univ.sup (errRow L s (j 0))

/-- The codes. -/
def codesAll (L : Vec Ideal S1024x32000 .f32) (s : Vec Ideal S1024x1 .f32) : Vec Ideal S1024x32000 .fp8e5m2 :=
  fun j => codeOf (L j) (s (ix2 (j 0) 0))

theorem rowMax_at (A : Vec Ideal S1024x128 .f32) (r : Fin 1024) (z : Fin 1) :
    k2_pay5 A (ix2 r z) = Finset.univ.sup fun l => A (ix2 r l) := by
  unfold k2_pay5
  pointwise
  rw [ofBits_neg_inf]
  rfl

theorem errV_eq (L : Vec Ideal S1024x32000 .f32) (s : Vec Ideal S1024x1 .f32) : k2_pay5 (aSt L s 24) = errV L s := by
  funext j
  idx_vars j
  rw [rowMax_at]
  unfold errV
  rw [show (ix2 j0 j1 : S1024x1.Idx) 0 = j0 from rfl, ← sup_lanes]
  refine congrArg _ (funext fun l => ?_)
  rw [aSt_apply L s 24 (by decide)]
  refine max_eq_right ((errOf_nonneg (codeOf (rowOf L j0 (col (0, 0, l))) (s (ix2 j0 0)))).trans ?_)
  have h := le_runMax (laneFam (errRow L s j0) l) 24 0 (by decide) 0
  unfold laneFam at h
  rw [dif_pos (by decide)] at h
  exact h

variable (V : (c : Dev nD) → (b : Ref sig .tc) → Buf (Elt Ideal) ((c : Thread nD τ).loc b))

/-- The block indices of the four windows of call 2: logits and codes move along the vocabulary, the others stand still. -/
theorem idx2 : ∀ t : Fin cfg2.N, (win2_0.index t (0 : Fin 2) = 0 ∧ win2_0.index t (1 : Fin 2) = t.val)
    ∧ (win2_1.index t (0 : Fin 2) = 0 ∧ win2_1.index t (1 : Fin 2) = 0)
    ∧ (win2_2.index t (0 : Fin 2) = 0 ∧ win2_2.index t (1 : Fin 2) = t.val)
    ∧ (win2_3.index t (0 : Fin 2) = 0 ∧ win2_3.index t (1 : Fin 2) = 0) :=
  (by decide +kernel : ∀ t : Fin grid2.N, _)

theorem lt25' (t : Fin cfg2.N) : t.val < 25 := Nat.lt_of_lt_of_eq t.isLt N_2

/-- The logits that call 2 finds. -/
def L2 (c : Dev nD) : Vec Ideal S1024x32000 .f32 := V c main_v3_0
/-- The log-sum-exps that call 2 finds. -/
def s2 (c : Dev nD) : Vec Ideal S1024x1 .f32 := V c main_v3_1

theorem blk2_0 (c : Dev nD) (t : Fin cfg2.N) : iblk2 V c 0 t = tileAt (L2 V c) t.val := by
  obtain ⟨⟨e0, e1⟩, -⟩ := idx2 t
  have ht := lt25' t
  funext j
  have hj : (j 1).val < 1280 := (j 1).isLt
  show V c main_v3_0 (((cfg2.win 0).blk t).view.emb j) = _
  unfold tileAt L2
  refine Eq.trans ?_ (dif_pos (show 1280 * t.val + (j 1).val < 32000 by omega)).symm
  refine congrArg _ (funext fun a => Fin.ext ?_)
  match a with
  | ⟨0, _⟩ => show win2_0.index t (0 : Fin 2) * 1024 + 1 * (j 0).val = (j 0).val; omega
  | ⟨1, _⟩ => show win2_0.index t (1 : Fin 2) * 1280 + 1 * (j 1).val = 1280 * t.val + (j 1).val; omega

theorem blk2_1 (c : Dev nD) (t : Fin cfg2.N) : iblk2 V c 1 t = s2 V c := by
  obtain ⟨-, ⟨e0, e1⟩, -⟩ := idx2 t
  funext j
  show V c main_v3_1 (((cfg2.win 1).blk t).view.emb j) = V c main_v3_1 j
  refine congrArg _ (funext fun a => Fin.ext ?_)
  match a with
  | ⟨0, _⟩ => show win2_1.index t (0 : Fin 2) * 1024 + 1 * (j 0).val = (j 0).val; omega
  | ⟨1, _⟩ => show win2_1.index t (1 : Fin 2) * 1 + 1 * (j 1).val = (j 1).val; omega

/-- The running error after point `n`. -/
theorem scratch2 (c : Dev nD) : ∀ (n : ℕ) (hn : n < cfg2.N), (outsAt2 V c n hn).2.2 = aSt (L2 V c) (s2 V c) n := by
  intro n
  induction n with
  | zero =>
    intro hn
    have h := outsAt2_A V c ⟨0, hn⟩ (Nat.zero_mod _) (by show ¬ 0 % 25 = 24; decide)
    refine (congrArg (fun q => q.2.2) h).trans ?_
    dsimp only
    rw [err_A, blk2_0, blk2_1]
    rfl
  | succ n ih =>
    intro hn
    have ia := ih (Nat.lt_of_succ_lt hn)
    have hN : n + 1 < 25 := Nat.lt_of_lt_of_eq hn N_2
    have h0 : ¬ (n + 1) % 25 = 0 := by omega
    by_cases h1 : (n + 1) % 25 = 24
    · refine (congrArg (fun q => q.2.2) (outsAt2_C V c ⟨n + 1, hn⟩ h0 h1)).trans ?_
      dsimp only
      rw [err_C, blk2_0, blk2_1]
      exact congrArg _ ia
    · refine (congrArg (fun q => q.2.2) (outsAt2_B V c ⟨n + 1, hn⟩ h0 h1)).trans ?_
      dsimp only
      rw [err_B, blk2_0, blk2_1]
      exact congrArg _ ia

/-- What point `t` leaves in the codes' buffer. -/
theorem out2_2_eq (c : Dev nD) (t : Fin cfg2.N) : (outsAt2 V c t.val t.isLt).1 = codesV (tileAt (L2 V c) t.val) (s2 V c) := by
  by_cases h0 : t.val % 25 = 0
  · have h1 : ¬ t.val % 25 = 24 := by omega
    refine (congrArg Prod.fst (outsAt2_A V c t h0 h1)).trans ?_
    dsimp only
    rw [codes_A, blk2_0, blk2_1]
  · by_cases h1 : t.val % 25 = 24
    · refine (congrArg Prod.fst (outsAt2_C V c t h0 h1)).trans ?_
      dsimp only
      rw [codes_C, blk2_0, blk2_1]
    · refine (congrArg Prod.fst (outsAt2_B V c t h0 h1)).trans ?_
      dsimp only
      rw [codes_B, blk2_0, blk2_1]

/-- What the last point leaves in the errors' buffer. -/
theorem out2_3_eq (c : Dev nD) (t : Fin cfg2.N) (h1 : t.val % 25 = 24) : (outsAt2 V c t.val t.isLt).2.1 = errV (L2 V c) (s2 V c) := by
  have ht := lt25' t
  have h0 : ¬ t.val % 25 = 0 := by omega
  have h24 : t.val = 23 + 1 := by omega
  have ia := scratch2 V c (t.val - 1) (by have := t.isLt; omega)
  refine (congrArg (fun q => q.2.1) (outsAt2_C V c t h0 h1)).trans ?_
  dsimp only
  rw [rowErr_C, blk2_0, blk2_1, ia, ← errV_eq]
  rw [show t.val - 1 = 23 by omega, h24]
  rfl

/-! ## The arrays -/

theorem flushed2_2_eq (c : Dev nD) (t : Fin cfg2.N) :
    (dat2 V c).flushed 2 t = ((cfg2.win 2).blk t).view.read (Elt Ideal) (codesAll (L2 V c) (s2 V c)) := by
  show (cfg2.win 2).cut (grid2.coords t) ((dat2 V c).after 2 t) = _
  rw [after2_2, out2_2_eq]
  obtain ⟨-, -, ⟨e0, e1⟩, -⟩ := idx2 t
  have ht := lt25' t
  funext y
  have hy1 : (y 1).val < 1280 := (y 1).isLt
  have e : ((cfg2.win 2).blk t).view.emb y = (ix2 (y 0 : Fin 1024) ⟨1280 * t.val + (y 1).val, by omega⟩ : S1024x32000.Idx) := by
    funext a; apply Fin.ext
    match a with
    | ⟨0, _⟩ => show win2_2.index t (0 : Fin 2) * 1024 + 1 * (y 0).val = (y 0).val; omega
    | ⟨1, _⟩ => show win2_2.index t (1 : Fin 2) * 1280 + 1 * (y 1).val = 1280 * t.val + (y 1).val; omega
  show codesV (tileAt (L2 V c) t.val) (s2 V c) y = codesAll (L2 V c) (s2 V c) (((cfg2.win 2).blk t).view.emb y)
  rw [e]
  exact congrArg (fun z => codeOf z (s2 V c (ix2 (y 0) 0))) (dif_pos (show 1280 * t.val + (y 1).val < 32000 by omega))

theorem mem_blk2_2 (t : Fin cfg2.N) (i : S1024x32000.Idx) :
    i ∈ ((cfg2.win 2).blk t).view.set ↔ ∀ a : Fin 2, win2_2.index t a * S1024x1280.size a ≤ (i a).val ∧ (i a).val < win2_2.index t a * S1024x1280.size a + S1024x1280.size a := by
  show i ∈ ((View.whole main_v4_0).slice (win2_2.rect t)).set ↔ _
  rw [View.set_slice_whole, Rect.mem_set_unit]
  exact Iff.rfl

theorem flushes2_2 : ∀ t : Fin cfg2.N, (cfg2.win 2).flush t = true :=
  (by decide +kernel : ∀ t : Fin grid2.N, win2_2.flush t = true)

theorem covered2_2 (i : S1024x32000.Idx) :
    ∃ t : Fin cfg2.N, (cfg2.win 2).flush t = true ∧ i ∈ ((cfg2.win 2).blk t).view.set := by
  have hi0 : (i 0).val < 1024 := (i 0).isLt
  have hi1 : (i 1).val < 32000 := (i 1).isLt
  have hN : (i 1).val / 1280 < cfg2.N := Nat.lt_of_lt_of_eq (by omega) N_2.symm
  obtain ⟨-, -, ⟨e0, e1⟩, -⟩ := idx2 ⟨(i 1).val / 1280, hN⟩
  refine ⟨⟨(i 1).val / 1280, hN⟩, flushes2_2 _, ?_⟩
  rw [mem_blk2_2]
  intro a
  match a with
  | ⟨0, _⟩ =>
    show win2_2.index ⟨(i 1).val / 1280, hN⟩ (0 : Fin 2) * 1024 ≤ (i 0).val ∧ (i 0).val < win2_2.index ⟨(i 1).val / 1280, hN⟩ (0 : Fin 2) * 1024 + 1024
    rw [e0]; omega
  | ⟨1, _⟩ =>
    show win2_2.index ⟨(i 1).val / 1280, hN⟩ (1 : Fin 2) * 1280 ≤ (i 1).val ∧ (i 1).val < win2_2.index ⟨(i 1).val / 1280, hN⟩ (1 : Fin 2) * 1280 + 1280
    rw [e1]; dsimp only; omega

/-- The array of codes that call 2 writes. -/
theorem final2_2 (c : Dev nD) : (dat2 V c).arrAt 2 cfg2.N = codesAll (L2 V c) (s2 V c) :=
  (dat2 V c).arrAt_eq_of_cover 2 (codesAll (L2 V c) (s2 V c)) (fun t _ => flushed2_2_eq V c t) covered2_2

theorem emb2_3 (t : Fin cfg2.N) (j : S1024x1.Idx) : ((cfg2.win 3).blk t).view.emb j = j := by
  obtain ⟨-, -, -, e0, e1⟩ := idx2 t
  funext a; apply Fin.ext
  match a with
  | ⟨0, _⟩ => show win2_3.index t (0 : Fin 2) * 1024 + 1 * (j 0).val = (j 0).val; omega
  | ⟨1, _⟩ => show win2_3.index t (1 : Fin 2) * 1 + 1 * (j 1).val = (j 1).val; omega

theorem cut2_3_eq (t : Fin cfg2.N) (X : Vec Ideal S1024x1 .f32) :
    (cfg2.win 3).cut (grid2.coords t) X = ((cfg2.win 3).blk t).view.read (Elt Ideal) X := by
  funext j
  show X j = X (((cfg2.win 3).blk t).view.emb j)
  rw [emb2_3]

theorem flushed2_3_eq (c : Dev nD) (t : Fin cfg2.N) (hf : (cfg2.win 3).flush t = true) :
    (dat2 V c).flushed 3 t = ((cfg2.win 3).blk t).view.read (Elt Ideal) (errV (L2 V c) (s2 V c)) := by
  show (cfg2.win 3).cut (grid2.coords t) ((dat2 V c).after 3 t) = _
  rw [after2_3, out2_3_eq V c t ((flush2_3 t).mp hf)]
  exact cut2_3_eq t _

theorem covered2_3 (i : S1024x1.Idx) :
    ∃ t : Fin cfg2.N, (cfg2.win 3).flush t = true ∧ i ∈ ((cfg2.win 3).blk t).view.set :=
  ⟨(⟨24, by decide⟩ : Fin cfg2.N), (flush2_3 _).mpr rfl, by have h := ((cfg2.win 3).blk (⟨24, by decide⟩ : Fin cfg2.N)).view.emb_mem_set i; rwa [emb2_3] at h⟩

/-- The array of errors that call 2 writes. -/
theorem final2_3 (c : Dev nD) : (dat2 V c).arrAt 3 cfg2.N = errV (L2 V c) (s2 V c) :=
  (dat2 V c).arrAt_eq_of_cover 3 (errV (L2 V c) (s2 V c)) (flushed2_3_eq V c) covered2_3
end Cert.KernelIdeal.Gen
-- ==== Proof.Val.Prep.lean ====
module
public import proofs.«01_k».proof.Proof.Val.Tile
public import proofs.«01_k».proof.Proof.Run.Region0
public import proofs.«01_k».proof.Proof.Math.Consts
public import Idealize.ShloMosaic.Lib.Pipeline.Value
@[expose] public section
set_option maxRecDepth 16384
noncomputable section
/-! What call 0 leaves: the activations times 64, each group of 256 columns gathered even columns first. -/
namespace Cert.KernelIdeal.Gen
open Idealize.ShloMosaic Idealize.ShloMosaic.TcCoe Idealize.ShloMosaic.Tactic
open Idealize.SL Idealize.SL.RA Idealize.SL.BI
open Idealize.ShloMosaic.Pipeline (Dat)
open Cert.Math

/-- Within a group of 256 columns: the column gathered to place `c`. -/
def srcIn (c : ℕ) : ℕ := if c < 128 then 2 * c else 2 * (c - 128) + 1

theorem srcIn_lt {c : ℕ} (h : c < 256) : srcIn c < 256 := by unfold srcIn; split <;> omega

/-- The column of the activations gathered to column `k`. -/
def src (k : Fin 2048) : Fin 2048 :=
  ⟨256 * (k.val / 256) + srcIn (k.val % 256), by
    have := srcIn_lt (Nat.mod_lt k.val (by decide : 0 < 256)); have := k.isLt; omega⟩

/-- The 32-bit arithmetic that builds the gathering matrix computes the gathered column. -/
theorem src_word : ∀ c : Fin 256, (Scalar.select (IntOp.cmpi CmpIPredicate.slt (BitVec.ofNat 32 c.val) 128#32)
            (IntOp.muli (2#32) (BitVec.ofNat 32 c.val))
            (IntOp.addi (IntOp.muli (2#32) (IntOp.subi (BitVec.ofNat 32 c.val) 128#32)) 1#32))
      = BitVec.ofNat 32 (srcIn c.val) := by
  decide +kernel

theorem word_eq_iff (r c : Fin 256) : BitVec.ofNat 32 r.val = BitVec.ofNat 32 (srcIn c.val) ↔ r.val = srcIn c.val := by
  have := r.isLt
  have := srcIn_lt c.isLt
  rw [← BitVec.toNat_inj, BitVec.toNat_ofNat, BitVec.toNat_ofNat, Nat.mod_eq_of_lt (by omega), Nat.mod_eq_of_lt (by omega)]

/-- An entry of the gathering matrix. -/
theorem perm_apply (r c : Fin 256) : (k0_pay3 (F := Ideal)) (ix2 r c) = if r.val = srcIn c.val then 1 else 0 := by
  unfold k0_pay3
  pointwise
  rw [src_word]
  have hc : IntOp.cmpi CmpIPredicate.eq (BitVec.ofNat 32 r.val) (BitVec.ofNat 32 (srcIn c.val))
      = BitVec.ofBool (decide (r.val = srcIn c.val)) := by
    show BitVec.ofBool (BitVec.ofNat 32 r.val == BitVec.ofNat 32 (srcIn c.val)) = _
    congr 1
    rw [Bool.eq_iff_iff, beq_iff_eq, decide_eq_true_iff]
    exact word_eq_iff r c
  rw [hc]
  by_cases h : r.val = srcIn c.val
  · rw [if_pos h, decide_eq_true h]
    show (((1 : ℤ) : ℝ) : EReal) = 1
    norm_num
  · rw [if_neg h, decide_eq_false h]
    show (((0 : ℤ) : ℝ) : EReal) = 0
    norm_num

/-- Each stored block: the loaded block times 64, gathered. -/
theorem pay4_at (v : Vec Ideal S1024x256 .fp8e4m3) (r : Fin 1024) (c : Fin 256) :
    k0_pay4 v (ix2 r c) = v (ix2 r ⟨srcIn c.val, srcIn_lt c.isLt⟩) * ((64 : ℝ) : EReal) := by
  unfold k0_pay4
  pointwise
  rw [ofBits_64]
  rw [Finset.sum_eq_single (⟨srcIn c.val, srcIn_lt c.isLt⟩ : Fin 256)]
  · rw [perm_apply, if_pos rfl, mul_one]
  · intro b _ hb
    rw [perm_apply, if_neg (fun h => hb (Fin.ext h)), mul_zero]
  · exact fun h => absurd (Finset.mem_univ _) h

/-- The gathered activations times 64. -/
def prepV (x : Vec Ideal S1024x2048 .fp8e4m3) : Vec Ideal S1024x2048 .bf16 :=
  fun j => x (ix2 (j 0) (src (j 1))) * ((64 : ℝ) : EReal)

/-- The stored block `g`, over the whole array's indices. -/
theorem prep_block (x : Vec Ideal S1024x2048 .fp8e4m3) (g o : ℕ) (ho : o = 256 * g) (hg : g < 8)
    (h) (y : S1024x256.Idx) :
    k0_pay4 (View.ld (Val := Elt Ideal) (e' := .fp8e4m3) x (Rect.unit (s := S1024x2048) ![0, o] S1024x256.size h)) y
      = prepV x ((Rect.unit (s := S1024x2048) ![0, o] S1024x256.size h).emb y) := by
  idx_vars y
  rw [pay4_at]
  unfold prepV
  refine congrArg (· * ((64 : ℝ) : EReal)) ?_
  have hs : srcIn y1.val < 256 := srcIn_lt y1.isLt
  have c1 : ((Rect.unit (s := S1024x2048) ![0, o] S1024x256.size h).emb (ix2 y0 y1) 1).val = o + y1.val := by
    rw [Rect.emb_apply]; simp
  have c0 : ((Rect.unit (s := S1024x2048) ![0, o] S1024x256.size h).emb (ix2 y0 y1) 0).val = y0.val := by
    rw [Rect.emb_apply]; simp
  refine View.ld_unit_apply_of (Val := Elt Ideal) x _ _ _ _ _ (fun a => ?_)
  match a with
  | ⟨0, _⟩ => exact c0.trans (Nat.zero_add y0.val).symm
  | ⟨1, _⟩ =>
    show 256 * (_ / 256) + srcIn (_ % 256) = o + srcIn y1.val
    rw [c1]
    have := y1.isLt
    rw [show (o + y1.val) / 256 = g from by omega, show (o + y1.val) % 256 = y1.val from by omega, ho]

/-- Call 0's result, from the array it reads. -/
theorem out0_1_eq (x : Vec Ideal S1024x2048 .fp8e4m3) : out0_1 x = prepV x := by
  funext y
  unfold out0_1
  refine View.canon_apply_of_pieces (prepV x) _ ?_ y (cover0_1 _ _ _ _ _ _ _ _ y)
  intro p hp
  simp only [List.mem_cons, List.not_mem_nil, or_false] at hp
  rcases hp with rfl | rfl | rfl | rfl | rfl | rfl | rfl | rfl
  · exact prep_block x 7 1792 rfl (by decide) inb_S1024x2048_S1024x256_0_1792
  · exact prep_block x 6 1536 rfl (by decide) inb_S1024x2048_S1024x256_0_1536
  · exact prep_block x 5 1280 rfl (by decide) inb_S1024x2048_S1024x256_0_1280
  · exact prep_block x 4 1024 rfl (by decide) inb_S1024x2048_S1024x256_0_1024
  · exact prep_block x 3 768 rfl (by decide) inb_S1024x2048_S1024x256_0_768
  · exact prep_block x 2 512 rfl (by decide) inb_S1024x2048_S1024x256_0_512
  · exact prep_block x 1 256 rfl (by decide) inb_S1024x2048_S1024x256_0_256
  · exact prep_block x 0 0 rfl (by decide) inb_S1024x2048_S1024x256_0_0

/-! ## The array -/

variable (V : (c : Dev nD) → (b : Ref sig .tc) → Buf (Elt Ideal) ((c : Thread nD τ).loc b))

theorem idx_zero0_0 : ∀ t : Fin cfg0.N, win0_0.index t (0 : Fin 2) = 0 ∧ win0_0.index t (1 : Fin 2) = 0 :=
  (by decide +kernel : ∀ t : Fin grid0.N, _)
theorem idx_zero0_1 : ∀ t : Fin cfg0.N, win0_1.index t (0 : Fin 2) = 0 ∧ win0_1.index t (1 : Fin 2) = 0 :=
  (by decide +kernel : ∀ t : Fin grid0.N, _)

theorem emb0_0 (t : Fin cfg0.N) (j : S1024x2048.Idx) : ((cfg0.win 0).blk t).view.emb j = j := by
  obtain ⟨e0, e1⟩ := idx_zero0_0 t
  funext a; apply Fin.ext
  match a with
  | ⟨0, _⟩ => show win0_0.index t (0 : Fin 2) * 1024 + 1 * (j 0).val = (j 0).val; omega
  | ⟨1, _⟩ => show win0_0.index t (1 : Fin 2) * 2048 + 1 * (j 1).val = (j 1).val; omega

theorem emb0_1 (t : Fin cfg0.N) (j : S1024x2048.Idx) : ((cfg0.win 1).blk t).view.emb j = j := by
  obtain ⟨e0, e1⟩ := idx_zero0_1 t
  funext a; apply Fin.ext
  match a with
  | ⟨0, _⟩ => show win0_1.index t (0 : Fin 2) * 1024 + 1 * (j 0).val = (j 0).val; omega
  | ⟨1, _⟩ => show win0_1.index t (1 : Fin 2) * 2048 + 1 * (j 1).val = (j 1).val; omega

theorem iblk0_eq (c : Dev nD) (t : Fin cfg0.N) : iblk0 V c 0 t = V c (Pipeline.arrRef spec0 0) := by
  funext j; show V c (Pipeline.arrRef spec0 0) (((cfg0.win 0).blk t).view.emb j) = V c (Pipeline.arrRef spec0 0) j; rw [emb0_0]

theorem cut0_1_eq (t : Fin cfg0.N) (X : Vec Ideal S1024x2048 .bf16) :
    (cfg0.win 1).cut (grid0.coords t) X = ((cfg0.win 1).blk t).view.read (Elt Ideal) X := by
  funext j
  show X j = X (((cfg0.win 1).blk t).view.emb j)
  rw [emb0_1]

theorem flushed0_1_eq (c : Dev nD) (t : Fin cfg0.N) :
    (dat0 V c).flushed 1 t = ((cfg0.win 1).blk t).view.read (Elt Ideal) (prepV (V c (Pipeline.arrRef spec0 0))) := by
  show (cfg0.win 1).cut (grid0.coords t) ((dat0 V c).after 1 t) = _
  rw [after0_1, out0_1_eq, iblk0_eq]
  exact cut0_1_eq t _

theorem flushes0_1 : ∀ t : Fin cfg0.N, (cfg0.win 1).flush t = true :=
  (by decide +kernel : ∀ t : Fin grid0.N, win0_1.flush t = true)

theorem covered0_1 (i : S1024x2048.Idx) :
    ∃ t : Fin cfg0.N, (cfg0.win 1).flush t = true ∧ i ∈ ((cfg0.win 1).blk t).view.set :=
  ⟨(⟨0, by decide⟩ : Fin cfg0.N), flushes0_1 _, by have h := ((cfg0.win 1).blk (⟨0, by decide⟩ : Fin cfg0.N)).view.emb_mem_set i; rwa [emb0_1] at h⟩

/-- The array that call 0 writes: the gathered activations times 64. -/
theorem final0_1 (c : Dev nD) : (dat0 V c).arrAt 1 cfg0.N = prepV (V c (Pipeline.arrRef spec0 0)) :=
  (dat0 V c).arrAt_eq_of_cover 1 (prepV (V c (Pipeline.arrRef spec0 0))) (fun t _ => flushed0_1_eq V c t) covered0_1
end Cert.KernelIdeal.Gen
-- ==== Proof.Val.Result.lean ====
module
public import proofs.«01_k».proof.Proof.Val.Array1
public import proofs.«01_k».proof.Proof.Val.Array2
public import proofs.«01_k».proof.Proof.Val.Prep
public import proofs.«01_k».proof.Proof.Run.Fold0
public import Idealize.ShloMosaic.Lib.StableHlo.ReadAt
@[expose] public section
set_option maxRecDepth 16384
noncomputable section
/-! The three results of the kernel, as functions of its arguments: the calls' arrays composed along @main. -/
namespace Cert.KernelIdeal.Gen
open Idealize.ShloMosaic Idealize.ShloMosaic.TcCoe Idealize.ShloMosaic.Tactic
open Idealize.SL Idealize.SL.RA Idealize.SL.BI
open Cert.Math

variable (a0 : Vec Ideal S2x512x2048 .fp8e4m3) (a1 : Vec Ideal S2x512 .f32) (a2 : Vec Ideal S32000x1024 .i8) (a3 : Vec Ideal S32000x64 .i8)

/-- The kernel's logits. -/
def LK : Vec Ideal S1024x32000 .f32 :=
  logitsOf (prepV (shapeCast S1024x2048 a0 shapeCasts_S2x512x2048_S1024x2048)) (shapeCast S1024x1 a1 shapeCasts_S2x512_S1024x1) a2 a3

/-- The kernel's first result: the codes. -/
def K5 : Vec Ideal S2x512x32000 .fp8e5m2 :=
  shapeCast S2x512x32000 (codesAll (LK a0 a1 a2 a3) (lseV (LK a0 a1 a2 a3))) shapeCasts_S1024x32000_S2x512x32000
/-- The kernel's second result: the log-sum-exps. -/
def K6 : Vec Ideal S2x512 .f32 := shapeCast S2x512 (lseV (LK a0 a1 a2 a3)) shapeCasts_S1024x1_S2x512
/-- The kernel's third result: the largest errors. -/
def K7 : Vec Ideal S2x512 .f32 := shapeCast S2x512 (errV (LK a0 a1 a2 a3) (lseV (LK a0 a1 a2 a3))) shapeCasts_S1024x1_S2x512

variable (m : (ℓ : Loc nD τ sig) → Buf (Elt Ideal) ℓ) (ρ : Dev nD → PrngReg) (c : Dev nD)

theorem V1_v0 : V1 m ρ c main_v0 = shapeCast S1024x2048 (m ((c : Thread nD τ).loc main_arg0) : Vec Ideal S2x512x2048 .fp8e4m3) shapeCasts_S2x512x2048_S1024x2048 := by
  show StableHlo.after hostOps0 (W0 m ρ c) (Proc.devRef .tc main_v0) = _
  after_reads_simp
  rfl

theorem V1_v1 : V1 m ρ c main_v1 = shapeCast S1024x1 (m ((c : Thread nD τ).loc main_arg1) : Vec Ideal S2x512 .f32) shapeCasts_S2x512_S1024x1 := by
  show StableHlo.after hostOps0 (W0 m ρ c) (Proc.devRef .tc main_v1) = _
  after_reads_simp
  rfl

theorem V2_v2 : V2 m ρ c main_v2 = prepV (shapeCast S1024x2048 (m ((c : Thread nD τ).loc main_arg0) : Vec Ideal S2x512x2048 .fp8e4m3) shapeCasts_S2x512x2048_S1024x2048) :=
  (W2_arr m ρ c 1).trans ((final0_1 (V1 m ρ) c).trans (congrArg prepV (V1_v0 m ρ c)))

theorem V2_v1 : V2 m ρ c main_v1 = shapeCast S1024x1 (m ((c : Thread nD τ).loc main_arg1) : Vec Ideal S2x512 .f32) shapeCasts_S2x512_S1024x1 :=
  (W2_of m ρ c main_v1 (by decide +kernel)).trans (V1_v1 m ρ c)

/-- The kernel's logits from the launch memory. -/
abbrev Lm : Vec Ideal S1024x32000 .f32 :=
  LK (m ((c : Thread nD τ).loc main_arg0)) (m ((c : Thread nD τ).loc main_arg1)) (m ((c : Thread nD τ).loc main_arg2)) (m ((c : Thread nD τ).loc main_arg3))

theorem L1_eq : L1 (V2 m ρ) c = Lm m c := by
  have e2 : V2 m ρ c main_arg2 = m ((c : Thread nD τ).loc main_arg2) := W2_args m ρ c main_arg2 (by decide)
  have e3 : V2 m ρ c main_arg3 = m ((c : Thread nD τ).loc main_arg3) := W2_args m ρ c main_arg3 (by decide)
  unfold L1
  rw [V2_v2, V2_v1, e2, e3]
  rfl

theorem L2_eq : L2 (V3 m ρ) c = Lm m c :=
  (W3_arr m ρ c 4).trans ((final1_4 (V2 m ρ) c).trans (L1_eq m ρ c))

theorem s2_eq : s2 (V3 m ρ) c = lseV (Lm m c) :=
  (W3_arr m ρ c 5).trans ((final1_5 (V2 m ρ) c).trans (congrArg lseV (L1_eq m ρ c)))

theorem W4_v4_0 : W4 m ρ c (Proc.devRef .tc main_v4_0) = codesAll (Lm m c) (lseV (Lm m c)) :=
  (W4_arr m ρ c 2).trans ((final2_2 (V3 m ρ) c).trans (by rw [L2_eq, s2_eq]))

theorem W4_v4_1 : W4 m ρ c (Proc.devRef .tc main_v4_1) = errV (Lm m c) (lseV (Lm m c)) :=
  (W4_arr m ρ c 3).trans ((final2_3 (V3 m ρ) c).trans (by rw [L2_eq, s2_eq]))

theorem W4_v3_1 : W4 m ρ c (Proc.devRef .tc main_v3_1) = lseV (Lm m c) :=
  (W4_of m ρ c main_v3_1 (by decide +kernel)).trans (s2_eq m ρ c)

theorem W5_v5 : W5 m ρ c (Proc.devRef .tc main_v5) = K5 (m ((c : Thread nD τ).loc main_arg0)) (m ((c : Thread nD τ).loc main_arg1)) (m ((c : Thread nD τ).loc main_arg2)) (m ((c : Thread nD τ).loc main_arg3)) := by
  unfold K5
  rw [← W4_v4_0 m ρ c]
  show StableHlo.after hostOps3 (W4 m ρ c) (Proc.devRef .tc main_v5) = _
  after_reads_simp
  rfl

theorem W5_v6 : W5 m ρ c (Proc.devRef .tc main_v6) = K6 (m ((c : Thread nD τ).loc main_arg0)) (m ((c : Thread nD τ).loc main_arg1)) (m ((c : Thread nD τ).loc main_arg2)) (m ((c : Thread nD τ).loc main_arg3)) := by
  unfold K6
  rw [← W4_v3_1 m ρ c]
  show StableHlo.after hostOps3 (W4 m ρ c) (Proc.devRef .tc main_v6) = _
  after_reads_simp
  rfl

theorem W5_v7 : W5 m ρ c (Proc.devRef .tc main_v7) = K7 (m ((c : Thread nD τ).loc main_arg0)) (m ((c : Thread nD τ).loc main_arg1)) (m ((c : Thread nD τ).loc main_arg2)) (m ((c : Thread nD τ).loc main_arg3)) := by
  unfold K7
  rw [← W4_v4_1 m ρ c]
  show StableHlo.after hostOps3 (W4 m ρ c) (Proc.devRef .tc main_v7) = _
  after_reads_simp
  rfl
end Cert.KernelIdeal.Gen
-- ==== Proof.Val.Gather.lean ====
module
public import proofs.«01_k».proof.Proof.Val.Prep
public import proofs.«01_k».proof.Proof.Val.Lanes
@[expose] public section
set_option maxRecDepth 16384
noncomputable section
/-! The gathered sum: over the 2048 gathered columns the products with the tile's weights add up to the even columns with the
    low codes plus the odd columns with the high codes. -/
namespace Cert.KernelIdeal.Gen
open Idealize.ShloMosaic Idealize.ShloMosaic.TcCoe
open Cert.Math

/-- The gathered place of byte column `b`'s low code. -/
def evenCol (b : Fin 1024) : Fin 2048 := ⟨256 * (b.val / 128) + b.val % 128, by have := b.isLt; omega⟩
/-- The gathered place of byte column `b`'s high code. -/
def oddCol (b : Fin 1024) : Fin 2048 := ⟨256 * (b.val / 128) + 128 + b.val % 128, by have := b.isLt; omega⟩

/-- Every gathered column is one of the two places of one byte column. -/
def colsEquiv : Fin 1024 ⊕ Fin 1024 ≃ Fin 2048 where
  toFun := Sum.elim evenCol oddCol
  invFun k := if k.val % 256 < 128 then .inl ⟨128 * (k.val / 256) + k.val % 128, by have := k.isLt; omega⟩
    else .inr ⟨128 * (k.val / 256) + k.val % 128, by have := k.isLt; omega⟩
  left_inv s := by
    rcases s with b | b
    · have hb := b.isLt
      refine (if_pos (show (256 * (b.val / 128) + b.val % 128) % 256 < 128 by omega)).trans ?_
      exact congrArg Sum.inl (Fin.ext (show 128 * ((256 * (b.val / 128) + b.val % 128) / 256) + (256 * (b.val / 128) + b.val % 128) % 128 = b.val by omega))
    · have hb := b.isLt
      refine (if_neg (show ¬ (256 * (b.val / 128) + 128 + b.val % 128) % 256 < 128 by omega)).trans ?_
      exact congrArg Sum.inr (Fin.ext (show 128 * ((256 * (b.val / 128) + 128 + b.val % 128) / 256) + (256 * (b.val / 128) + 128 + b.val % 128) % 128 = b.val by omega))
  right_inv k := by
    have hk := k.isLt
    by_cases h : k.val % 256 < 128
    · dsimp only
      rw [if_pos h]
      exact Fin.ext (show 256 * ((128 * (k.val / 256) + k.val % 128) / 128) + (128 * (k.val / 256) + k.val % 128) % 128 = k.val by omega)
    · dsimp only
      rw [if_neg h]
      exact Fin.ext (show 256 * ((128 * (k.val / 256) + k.val % 128) / 128) + 128 + (128 * (k.val / 256) + k.val % 128) % 128 = k.val by omega)

theorem sum_cols (f : Fin 2048 → EReal) : ∑ k, f k = (∑ b, f (evenCol b)) + ∑ b, f (oddCol b) := by
  rw [← Equiv.sum_comp colsEquiv f, Fintype.sum_sum_type]
  rfl

theorem src_even (b : Fin 1024) : src (evenCol b) = ⟨b.val * 2, by have := b.isLt; omega⟩ := by
  have hb := b.isLt
  apply Fin.ext
  show 256 * ((256 * (b.val / 128) + b.val % 128) / 256) + srcIn ((256 * (b.val / 128) + b.val % 128) % 256) = b.val * 2
  unfold srcIn
  split <;> omega

theorem src_odd (b : Fin 1024) : src (oddCol b) = ⟨b.val * 2 + 1, by have := b.isLt; omega⟩ := by
  have hb := b.isLt
  apply Fin.ext
  show 256 * ((256 * (b.val / 128) + 128 + b.val % 128) / 256) + srcIn ((256 * (b.val / 128) + 128 + b.val % 128) % 256) = b.val * 2 + 1
  unfold srcIn
  split <;> omega

theorem wAll_even (e : Vec Ideal S32000x64 .i8) (w : Vec Ideal S32000x1024 .i8) (v : Fin 32000) (b : Fin 1024) :
    wAll e w v (evenCol b) = ((e2m1 (lo (w (ix2 v b))) / 64 : ℝ) : EReal) * scale (e (ix2 v ⟨b.val / 16, by have := b.isLt; omega⟩)) := by
  have hb := b.isLt
  have hk : (evenCol b).val = 256 * (b.val / 128) + b.val % 128 := rfl
  unfold wAll
  have e1 : ∀ h, (⟨128 * ((evenCol b).val / 256) + (evenCol b).val % 128, h⟩ : Fin 1024) = b := fun h => Fin.ext (by dsimp only; omega)
  have e2 : ∀ h h', (⟨8 * ((evenCol b).val / 256) + (evenCol b).val % 128 / 16, h⟩ : Fin 64) = ⟨b.val / 16, h'⟩ := fun h h' => Fin.ext (by dsimp only; omega)
  rw [e1, e2 _ (by omega)]
  unfold codeAt
  rw [if_pos (by omega)]

theorem wAll_odd (e : Vec Ideal S32000x64 .i8) (w : Vec Ideal S32000x1024 .i8) (v : Fin 32000) (b : Fin 1024) :
    wAll e w v (oddCol b) = ((e2m1 (hi (w (ix2 v b))) / 64 : ℝ) : EReal) * scale (e (ix2 v ⟨b.val / 16, by have := b.isLt; omega⟩)) := by
  have hb := b.isLt
  have hk : (oddCol b).val = 256 * (b.val / 128) + 128 + b.val % 128 := rfl
  unfold wAll
  have e1 : ∀ h, (⟨128 * ((oddCol b).val / 256) + (oddCol b).val % 128, h⟩ : Fin 1024) = b := fun h => Fin.ext (by dsimp only; omega)
  have e2 : ∀ h h', (⟨8 * ((oddCol b).val / 256) + (oddCol b).val % 128 / 16, h⟩ : Fin 64) = ⟨b.val / 16, h'⟩ := fun h h' => Fin.ext (by dsimp only; omega)
  rw [e1, e2 _ (by omega)]
  unfold codeAt
  rw [if_neg (by omega)]

/-- The 64 the activations are multiplied with cancels the 64 the codes are divided by. -/
theorem cancel64 (x s : EReal) (d : ℝ) : (x * ((64 : ℝ) : EReal)) * (((d / 64 : ℝ) : EReal) * s) = x * ((d : EReal) * s) := by
  rw [mul_assoc, ← mul_assoc ((64 : ℝ) : EReal), ← EReal.coe_mul, show (64 : ℝ) * (d / 64) = d by ring]

/-- The logits call 1 leaves, over the ungathered activations. -/
theorem logits_at (x : Vec Ideal S1024x2048 .fp8e4m3) (xs : Vec Ideal S1024x1 .f32) (w : Vec Ideal S32000x1024 .i8)
    (e : Vec Ideal S32000x64 .i8) (r : Fin 1024) (v : Fin 32000) :
    logitsOf (prepV x) xs w e (ix2 r v)
      = ((∑ b : Fin 1024, x (ix2 r ⟨b.val * 2, by have := b.isLt; omega⟩)
            * (((e2m1 (lo (w (ix2 v b))) : ℝ) : EReal) * scale (e (ix2 v ⟨b.val / 16, by have := b.isLt; omega⟩))))
          + ∑ b : Fin 1024, x (ix2 r ⟨b.val * 2 + 1, by have := b.isLt; omega⟩)
            * (((e2m1 (hi (w (ix2 v b))) : ℝ) : EReal) * scale (e (ix2 v ⟨b.val / 16, by have := b.isLt; omega⟩)))) * xs (ix2 r 0) := by
  show (∑ k : Fin 2048, (x (ix2 r (src k)) * ((64 : ℝ) : EReal)) * wAll e w v k) * xs (ix2 r 0) = _
  rw [sum_cols]
  have e1 : ∀ b : Fin 1024, (x (ix2 r (src (evenCol b))) * ((64 : ℝ) : EReal)) * wAll e w v (evenCol b)
      = x (ix2 r ⟨b.val * 2, by have := b.isLt; omega⟩)
            * (((e2m1 (lo (w (ix2 v b))) : ℝ) : EReal) * scale (e (ix2 v ⟨b.val / 16, by have := b.isLt; omega⟩))) := fun b => by
    rw [wAll_even, cancel64, src_even]
  have e2 : ∀ b : Fin 1024, (x (ix2 r (src (oddCol b))) * ((64 : ℝ) : EReal)) * wAll e w v (oddCol b)
      = x (ix2 r ⟨b.val * 2 + 1, by have := b.isLt; omega⟩)
            * (((e2m1 (hi (w (ix2 v b))) : ℝ) : EReal) * scale (e (ix2 v ⟨b.val / 16, by have := b.isLt; omega⟩))) := fun b => by
    rw [wAll_odd, cancel64, src_odd]
  rw [Finset.sum_congr rfl fun b _ => e1 b, Finset.sum_congr rfl fun b _ => e2 b]
end Cert.KernelIdeal.Gen
-- ==== Proof.Val.Ref.lean ====
module
public import proofs.«01_k».proof.Proof.Gen.ReferenceIdeal.Value
public import proofs.«01_k».proof.Proof.Math.Codes
public import proofs.«01_k».proof.Proof.Math.Consts
public import proofs.«01_k».proof.Proof.Math.Online
public import Idealize.ShloMosaic.Lib.Pointwise
@[expose] public section
set_option maxRecDepth 16384
noncomputable section
/-! The reference's pieces at an index: scales, decoded weights, logits, log-sum-exp, codes and errors. -/
namespace Cert.ReferenceIdeal.Gen
open Idealize.ShloMosaic Idealize.ShloMosaic.TcCoe
open Cert.Math
open Cert.ReferenceIdeal.Value

/-- The scales. -/
theorem scale_apply (e : Vec Ideal S32000x64 .i8) (v : Fin 32000) (k : Fin 64) :
    k0_pay4 e (ix2 v k) = scale (e (ix2 v k)) := by
  rw [← select_scale, ← ofBits_pos_inf]
  unfold k0_pay4
  pointwise
  rfl

/-- One magnitude or sign bit of a code. -/
def bitV (x : IVec S32000x1024 32) (k : BitVec 32) : IVec S32000x1024 1 :=
  cmpi .ne (andi x (broadcast S32000x1024 k)) (broadcast S32000x1024 0#32)

/-- The weights decoded from a field of codes, scaled. -/
def deq (s : FVec Ideal S32000x64 .bf16) (x : IVec S32000x1024 32) : FVec Ideal S32000x1024 .bf16 :=
  k0_pay12 s (bitV x 1#32) (bitV x 2#32) (bitV x 4#32) (bitV x 8#32)
    (select (bitV x 1#32) (broadcast S32000x1024 (Scalar.ofBits .f32 0x40C00000#32)) (broadcast S32000x1024 (Scalar.ofBits .f32 0x40800000#32)))
    (Scalar.ofBits .f32 0x40400000#32) (Scalar.ofBits .f32 0x40000000#32)

theorem deq_apply (s : FVec Ideal S32000x64 .bf16) (x : IVec S32000x1024 32) (v : Fin 32000) (b : Fin 1024) (n : BitVec 4)
    (hx : x (ix2 v b) = n.setWidth 32) :
    deq s x (ix2 v b) = ((e2m1 n : ℝ) : EReal) * s (ix2 v ⟨b.val / 16, by have := b.isLt; omega⟩) := by
  rw [← select_e2m1 n _ hx]
  unfold deq k0_pay12 bitV
  pointwise

/-- The logits, from the activations and the two decoded halves. -/
def logitsV (x : Vec Ideal S2x512x2048 .fp8e4m3) (xs : Vec Ideal S2x512 .f32) (we wo : FVec Ideal S32000x1024 .bf16) :
    FVec Ideal S2x512x32000 .f32 :=
  have v103 : FVec Ideal S2x512x1024x2 .bf16 := shapeCast S2x512x1024x2 (extf .bf16 x bitsLt_fp8e4m3_bf16) shapeCasts_S2x512x2048_S2x512x1024x2
  have v105 : FVec Ideal S2x512x1024 .bf16 := shapeCast S2x512x1024 (extractStridedSlice S2x512x1024x1 ![0, 0, 0, 0] v103 slices_S2x512x1024x2_o0_0_0_0_S2x512x1024x1) shapeCasts_S2x512x1024x1_S2x512x1024
  have v108 : FVec Ideal S2x512x1024 .bf16 := shapeCast S2x512x1024 (extractStridedSlice S2x512x1024x1 ![0, 0, 0, 1] v103 slices_S2x512x1024x2_o0_0_0_1_S2x512x1024x1) shapeCasts_S2x512x1024x1_S2x512x1024
  mulf (addf
    (matmul dot_S2x512x1024_S32000x1024_S2x512x32000_2_1_01_0_n_n none v105 we (constant S2x512x32000 .f32 0x00000000#32))
    (matmul dot_S2x512x1024_S32000x1024_S2x512x32000_2_1_01_0_n_n none v108 wo (constant S2x512x32000 .f32 0x00000000#32)))
    (broadcastTo S2x512x32000 (shapeCast S2x512x1 xs shapeCasts_S2x512_S2x512x1) broadcasts_S2x512x1_S2x512x32000)

theorem logitsV_apply (x : Vec Ideal S2x512x2048 .fp8e4m3) (xs : Vec Ideal S2x512 .f32) (we wo : FVec Ideal S32000x1024 .bf16)
    (a : Fin 2) (r : Fin 512) (v : Fin 32000) :
    logitsV x xs we wo (ix3 a r v)
      = ((∑ b : Fin 1024, x (ix3 a r ⟨b.val * 2, by have := b.isLt; omega⟩) * we (ix2 v b))
          + ∑ b : Fin 1024, x (ix3 a r ⟨b.val * 2 + 1, by have := b.isLt; omega⟩) * wo (ix2 v b)) * xs (ix2 a r) := by
  unfold logitsV
  pointwise

/-- A row's maximum. -/
def maxR (L : FVec Ideal S2x512x32000 .f32) : FVec Ideal S2x512 .f32 :=
  multiReduction .maximumf [2] S2x512 L 0xFF800000#32 reduces_S2x512x32000_S2x512 (.inl rfl) rfl

/-- A row's sum. -/
def sumR (X : FVec Ideal S2x512x32000 .f32) : FVec Ideal S2x512 .f32 :=
  multiReduction .add [2] S2x512 X 0x00000000#32 reduces_S2x512x32000_S2x512 (.inl rfl) rfl

/-- The logits less one number per row. -/
def diffR (L : FVec Ideal S2x512x32000 .f32) (s : FVec Ideal S2x512 .f32) : FVec Ideal S2x512x32000 .f32 :=
  subf L (broadcastTo S2x512x32000 (shapeCast S2x512x1 s shapeCasts_S2x512_S2x512x1) broadcasts_S2x512x1_S2x512x32000)

theorem maxR_apply (L : FVec Ideal S2x512x32000 .f32) (a : Fin 2) (r : Fin 512) :
    maxR L (ix2 a r) = Finset.univ.sup fun v => L (ix3 a r v) := by
  unfold maxR
  pointwise
  rw [ofBits_neg_inf]
  rfl

theorem sumR_apply (X : FVec Ideal S2x512x32000 .f32) (a : Fin 2) (r : Fin 512) :
    sumR X (ix2 a r) = ∑ v, X (ix3 a r v) := by
  unfold sumR
  pointwise

theorem diffR_apply (L : FVec Ideal S2x512x32000 .f32) (s : FVec Ideal S2x512 .f32) (a : Fin 2) (r : Fin 512) (v : Fin 32000) :
    diffR L s (ix3 a r v) = L (ix3 a r v) - s (ix2 a r) := by
  unfold diffR
  pointwise

/-- Every row's log-sum-exp. -/
def lseR (L : FVec Ideal S2x512x32000 .f32) : FVec Ideal S2x512 .f32 :=
  addf (maxR L) (log (sumR (exp (diffR L (maxR L)))))

theorem addLog_apply (m s : FVec Ideal S2x512 .f32) (j : S2x512.Idx) : addf m (log s) j = m j + Ideal.log (s j) := rfl

theorem exp_apply (X : FVec Ideal S2x512x32000 .f32) (j : S2x512x32000.Idx) : exp X j = Ideal.exp (X j) := rfl

theorem lseR_apply (L : FVec Ideal S2x512x32000 .f32) (a : Fin 2) (r : Fin 512) :
    lseR L (ix2 a r) = lseOf fun v => L (ix3 a r v) := by
  unfold lseR
  rw [addLog_apply, sumR_apply, maxR_apply]
  have e : ∀ v, exp (diffR L (maxR L)) (ix3 a r v) = Ideal.exp (L (ix3 a r v) - Finset.univ.sup fun v => L (ix3 a r v)) := fun v => by
    rw [exp_apply, diffR_apply, maxR_apply]
  rw [Finset.sum_congr rfl fun v _ => e v]
  unfold lseOf
  with_reducible rfl

theorem codes_apply (L : FVec Ideal S2x512x32000 .f32) (s : FVec Ideal S2x512 .f32) (a : Fin 2) (r : Fin 512) (v : Fin 32000) :
    k0_pay2 (diffR L s) (ix3 a r v) = max (L (ix3 a r v) - s (ix2 a r)) (Ideal.ofBits .f32 0xC2700000#32) := by
  unfold k0_pay2 k0_pay1 diffR
  pointwise

theorem err_apply (L : FVec Ideal S2x512x32000 .f32) (s : FVec Ideal S2x512 .f32) (a : Fin 2) (r : Fin 512) :
    k0_pay3 (diffR L s) (ix2 a r) = Finset.univ.sup fun v =>
      (fun q => max (Ideal.exp q - Ideal.exp q) (-(Ideal.exp q - Ideal.exp q)))
        (max (L (ix3 a r v) - s (ix2 a r)) (Ideal.ofBits .f32 0xC2700000#32)) := by
  unfold k0_pay3 k0_pay2 k0_pay1 diffR
  pointwise
  rw [ofBits_neg_inf]
  rfl

/-- The reference's logits, from its arguments. -/
def LR (a0 : Vec Ideal S2x512x2048 .fp8e4m3) (a1 : Vec Ideal S2x512 .f32) (a2 : Vec Ideal S32000x1024 .i8) (a3 : Vec Ideal S32000x64 .i8) :
    FVec Ideal S2x512x32000 .f32 :=
  logitsV a0 a1 (deq (k0_pay4 a3) (k0_pay6 (F := Ideal) a2)) (deq (k0_pay4 a3) (k0_pay13 (k0_pay5 (F := Ideal) a2)))

theorem LR_apply (a0 : Vec Ideal S2x512x2048 .fp8e4m3) (a1 : Vec Ideal S2x512 .f32) (a2 : Vec Ideal S32000x1024 .i8) (a3 : Vec Ideal S32000x64 .i8)
    (a : Fin 2) (r : Fin 512) (v : Fin 32000) :
    LR a0 a1 a2 a3 (ix3 a r v)
      = ((∑ b : Fin 1024, a0 (ix3 a r ⟨b.val * 2, by have := b.isLt; omega⟩)
            * (((e2m1 (lo (a2 (ix2 v b))) : ℝ) : EReal) * scale (a3 (ix2 v ⟨b.val / 16, by have := b.isLt; omega⟩))))
          + ∑ b : Fin 1024, a0 (ix3 a r ⟨b.val * 2 + 1, by have := b.isLt; omega⟩)
            * (((e2m1 (hi (a2 (ix2 v b))) : ℝ) : EReal) * scale (a3 (ix2 v ⟨b.val / 16, by have := b.isLt; omega⟩)))) * a1 (ix2 a r) := by
  have hlo : ∀ b : BitVec 8, IntOp.andi (b.setWidth 32) 15#32 = (lo b).setWidth 32 := by decide +kernel
  have hhi : ∀ b : BitVec 8, IntOp.shrsi .vector (b.setWidth 32) 4#32 = (hi b).setWidth 32 := by decide +kernel
  unfold LR
  rw [logitsV_apply]
  have e1 : ∀ b : Fin 1024, deq (k0_pay4 a3) (k0_pay6 (F := Ideal) a2) (ix2 v b)
      = ((e2m1 (lo (a2 (ix2 v b))) : ℝ) : EReal) * scale (a3 (ix2 v ⟨b.val / 16, by have := b.isLt; omega⟩)) := fun b => by
    rw [deq_apply _ _ v b (lo (a2 (ix2 v b))) (hlo _), scale_apply]
  have e2 : ∀ b : Fin 1024, deq (k0_pay4 a3) (k0_pay13 (k0_pay5 (F := Ideal) a2)) (ix2 v b)
      = ((e2m1 (hi (a2 (ix2 v b))) : ℝ) : EReal) * scale (a3 (ix2 v ⟨b.val / 16, by have := b.isLt; omega⟩)) := fun b => by
    rw [deq_apply _ _ v b (hi (a2 (ix2 v b))) (hhi _), scale_apply]
  rw [Finset.sum_congr rfl fun b _ => congrArg (_ * ·) (e1 b), Finset.sum_congr rfl fun b _ => congrArg (_ * ·) (e2 b)]

section
variable (a0 : Vec Ideal S2x512x2048 .fp8e4m3) (a1 : Vec Ideal S2x512 .f32) (a2 : Vec Ideal S32000x1024 .i8) (a3 : Vec Ideal S32000x64 .i8)

theorem pay30_eq : k0_pay30 a0 a1 a2 a3 = diffR (LR a0 a1 a2 a3) (lseR (LR a0 a1 a2 a3)) := by
  unfold k0_pay30 k0_pay22 k0_pay24 k0_pay25 k0_pay26 k0_pay27 k0_pay28 k0_pay29 k0_pay23 k0_pay22
  rw [View.ld_unit_zero (S := S32000x64) hz3 _ a3, View.ld_unit_zero (S := S32000x1024) hz2 _ a2, View.ld_unit_zero (S := S2x512x2048) hz0 _ a0, View.ld_unit_zero (S := S2x512) hz1 _ a1]
  rfl

theorem G4_eq : G4 a0 a1 a2 a3 = k0_pay2 (diffR (LR a0 a1 a2 a3) (lseR (LR a0 a1 a2 a3))) := by
  unfold G4; rw [pay30_eq]
theorem G6_eq : G6 a0 a1 a2 a3 = k0_pay3 (diffR (LR a0 a1 a2 a3) (lseR (LR a0 a1 a2 a3))) := by
  unfold G6; rw [pay30_eq]
theorem G5_eq : G5 a0 a1 a2 a3 = lseR (LR a0 a1 a2 a3) := by
  unfold G5 k0_pay24 k0_pay25 k0_pay26 k0_pay27 k0_pay28 k0_pay29 k0_pay23 k0_pay22
  rw [View.ld_unit_zero (S := S32000x64) hz3 _ a3, View.ld_unit_zero (S := S32000x1024) hz2 _ a2]
  rfl
end
end Cert.ReferenceIdeal.Gen
-- ==== Proof.Val.Match.lean ====
module
public import proofs.«01_k».proof.Proof.Val.Result
public import proofs.«01_k».proof.Proof.Val.Gather
public import proofs.«01_k».proof.Proof.Val.Ref
@[expose] public section
set_option maxRecDepth 16384
noncomputable section
/-! The kernel's three results are the reference's. -/
namespace Cert.Match
open Idealize.ShloMosaic Idealize.ShloMosaic.TcCoe
open Cert.Math
open Cert.KernelIdeal Cert.KernelIdeal.Gen

/-- Row `r` of batch `a` among the 1024 rows. -/
def flat (a : Fin 2) (r : Fin 512) : Fin 1024 := ⟨a.val * 512 + r.val, by have := a.isLt; have := r.isLt; omega⟩

section
variable {α : Type}
theorem cast_x (x : S2x512x2048.Idx → α) (a : Fin 2) (r : Fin 512) (k : Fin 2048) :
    shapeCast S1024x2048 x shapeCasts_S2x512x2048_S1024x2048 (ix2 (flat a r) k) = x (ix3 a r k) := by
  unfold flat
  pointwise
theorem cast_s (x : S2x512.Idx → α) (a : Fin 2) (r : Fin 512) (z : Fin 1) :
    shapeCast S1024x1 x shapeCasts_S2x512_S1024x1 (ix2 (flat a r) z) = x (ix2 a r) := by
  unfold flat
  pointwise
theorem cast_codes (x : S1024x32000.Idx → α) (a : Fin 2) (r : Fin 512) (v : Fin 32000) :
    shapeCast S2x512x32000 x shapeCasts_S1024x32000_S2x512x32000 (ix3 a r v) = x (ix2 (flat a r) v) := by
  unfold flat
  pointwise
theorem cast_rows (x : S1024x1.Idx → α) (a : Fin 2) (r : Fin 512) :
    shapeCast S2x512 x shapeCasts_S1024x1_S2x512 (ix2 a r) = x (ix2 (flat a r) 0) := by
  unfold flat
  pointwise
end

variable (a0 : Vec Ideal S2x512x2048 .fp8e4m3) (a1 : Vec Ideal S2x512 .f32) (a2 : Vec Ideal S32000x1024 .i8) (a3 : Vec Ideal S32000x64 .i8)

/-- The kernel's logits are the reference's. -/
theorem logits_eq (a : Fin 2) (r : Fin 512) (v : Fin 32000) :
    LK a0 a1 a2 a3 (ix2 (flat a r) v) = Cert.ReferenceIdeal.Gen.LR a0 a1 a2 a3 (ix3 a r v) := by
  rw [Cert.ReferenceIdeal.Gen.LR_apply]
  unfold LK
  rw [logits_at, cast_s]
  rw [Finset.sum_congr rfl fun b _ => congrArg (· * _) (cast_x a0 a r _), Finset.sum_congr rfl fun b _ => congrArg (· * _) (cast_x a0 a r _)]

theorem row_eq (a : Fin 2) (r : Fin 512) :
    rowOf (LK a0 a1 a2 a3) (flat a r) = fun v => Cert.ReferenceIdeal.Gen.LR a0 a1 a2 a3 (ix3 a r v) :=
  funext fun v => logits_eq a0 a1 a2 a3 a r v

/-- The log-sum-exps agree row by row. -/
theorem lse_row (a : Fin 2) (r : Fin 512) :
    lseV (LK a0 a1 a2 a3) (ix2 (flat a r) 0) = Cert.ReferenceIdeal.Gen.lseR (Cert.ReferenceIdeal.Gen.LR a0 a1 a2 a3) (ix2 a r) := by
  rw [Cert.ReferenceIdeal.Gen.lseR_apply, ← row_eq]
  rfl

/-- The codes agree. -/
theorem codes_eq : K5 a0 a1 a2 a3 = Cert.ReferenceIdeal.Value.G4 a0 a1 a2 a3 := by
  rw [Cert.ReferenceIdeal.Gen.G4_eq]
  funext j
  idx_vars j
  rw [Cert.ReferenceIdeal.Gen.codes_apply, ← lse_row, ← logits_eq]
  unfold K5
  rw [cast_codes]
  rfl

/-- The log-sum-exps agree. -/
theorem lse_eq : K6 a0 a1 a2 a3 = Cert.ReferenceIdeal.Value.G5 a0 a1 a2 a3 := by
  rw [Cert.ReferenceIdeal.Gen.G5_eq]
  funext j
  idx_vars j
  rw [← lse_row]
  unfold K6
  rw [cast_rows]

/-- The largest errors agree. -/
theorem err_eq : K7 a0 a1 a2 a3 = Cert.ReferenceIdeal.Value.G6 a0 a1 a2 a3 := by
  rw [Cert.ReferenceIdeal.Gen.G6_eq]
  funext j
  idx_vars j
  rw [Cert.ReferenceIdeal.Gen.err_apply, ← lse_row]
  unfold K7
  rw [cast_rows]
  show Finset.univ.sup (errRow (LK a0 a1 a2 a3) (lseV (LK a0 a1 a2 a3)) (flat j0 j1)) = _
  unfold errRow
  rw [row_eq]
  rfl
end Cert.Match
-- ==== Proof.lean ====
/-
  The proof of `Cert.Claim`: the frames, the (empty) rewriting, and the value claim.
-/
module

public import proofs.«01_k».proof.Defs
public import proofs.«01_k».proof.Proof.Gen.Kernel
public import proofs.«01_k».proof.Proof.Gen.KernelIdeal
public import proofs.«01_k».proof.Proof.Gen.ReferenceIdeal.Frame
public import proofs.«01_k».proof.Proof.Gen.ReferenceIdeal.Value
public import proofs.«01_k».proof.Proof.Run.Frame
public import proofs.«01_k».proof.Proof.Run.KernelFrame
public import proofs.«01_k».proof.Proof.Val.Match

@[expose] public section

noncomputable section

namespace Cert.Proof

open Idealize.ShloMosaic Idealize.ShloMosaic.TcCoe Idealize.SL.Sem

/-- Every run of the kernel ends with its three results at `K5`, `K6`, `K7` of the arguments, and the arguments unchanged. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v5) = Cert.KernelIdeal.Gen.K5 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_v6) = Cert.KernelIdeal.Gen.K6 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_v7) = Cert.KernelIdeal.Gen.K7 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono (fun s h c =>
    ⟨(h.1 c _ (Cert.KernelIdeal.Gen.mem_uc Cert.KernelIdeal.main_v5 (by decide))).trans (Cert.KernelIdeal.Gen.W5_v5 m g c),
     (h.1 c _ (Cert.KernelIdeal.Gen.mem_uc Cert.KernelIdeal.main_v6 (by decide))).trans (Cert.KernelIdeal.Gen.W5_v6 m g c),
     (h.1 c _ (Cert.KernelIdeal.Gen.mem_uc Cert.KernelIdeal.main_v7 (by decide))).trans (Cert.KernelIdeal.Gen.W5_v7 m g c),
     (h.1 c _ (Cert.KernelIdeal.Gen.mem_uc Cert.KernelIdeal.main_arg0 (by decide))).trans (Cert.KernelIdeal.Gen.W5_main_arg0 m g c),
     (h.1 c _ (Cert.KernelIdeal.Gen.mem_uc Cert.KernelIdeal.main_arg1 (by decide))).trans (Cert.KernelIdeal.Gen.W5_main_arg1 m g c),
     (h.1 c _ (Cert.KernelIdeal.Gen.mem_uc Cert.KernelIdeal.main_arg2 (by decide))).trans (Cert.KernelIdeal.Gen.W5_main_arg2 m g c),
     (h.1 c _ (Cert.KernelIdeal.Gen.mem_uc Cert.KernelIdeal.main_arg3 (by decide))).trans (Cert.KernelIdeal.Gen.W5_main_arg3 m g c)⟩)
    (Cert.KernelIdeal.Gen.run_all m g)

/-- Kernel and reference end with equal results, from any memories that agree on the arguments. -/
theorem algebraic : Cert.algebraic_KernelIdeal_ReferenceIdeal (hKernelIdeal := Cert.KernelIdeal.Gen.facts) (hReferenceIdeal := Cert.ReferenceIdeal.Gen.facts) := by
  intro m g m' g' _ hargs
  refine ⟨_, _, _, kernel_run m g, (θ_run Cert.ReferenceIdeal.defs _ _).mono (fun s h c => ?_) (Cert.ReferenceIdeal.Value.run m' g')⟩
  obtain ⟨e0, e1, e2, e3⟩ := hargs c
  obtain ⟨h4, h5, h6, ha⟩ := h c
  rw [e0, e1, e2, e3] at h4 h5 h6
  exact ⟨h4.trans (Cert.Match.codes_eq _ _ _ _).symm, h5.trans (Cert.Match.lse_eq _ _ _ _).symm, h6.trans (Cert.Match.err_eq _ _ _ _).symm, ha⟩

/-- Everything claimed. -/
theorem claim : Cert.Claim := ⟨Cert.Kernel.Gen.facts, Cert.KernelIdeal.Gen.facts, Cert.ReferenceIdeal.Gen.facts,
  fun m g _ => Cert.KernelFrame.frame m g, fun m g _ => Cert.KernelIdeal.Gen.frame m g, fun m g _ => Cert.ReferenceIdeal.Gen.frame m g,
  trivial, algebraic⟩

end Cert.Proof

end
